-- ==== Defs.lean ====
def Pre_Moba (m : (ℓ : Loc Cert.Moba.nD Cert.Moba.τ Cert.Moba.sig) → Buf (Elt Bits) ℓ) : Prop :=
  True

def Pre_MobaIdeal (m : (ℓ : Loc Cert.MobaIdeal.nD Cert.MobaIdeal.τ Cert.MobaIdeal.sig) → Buf (Elt Ideal) ℓ) : Prop :=
  True

def Pre_MobaIdeal_queries_keys_and_bias_finite [hPre_queries_keys_and_bias_finite : Cert.Pre_queries_keys_and_bias_finite.Facts] (m : (ℓ : Loc Cert.MobaIdeal.nD Cert.MobaIdeal.τ Cert.MobaIdeal.sig) → Buf (Elt Ideal) ℓ) : Prop :=
  ∀ c : Dev Cert.MobaIdeal.nD,
    (Cert.Pre_queries_keys_and_bias_finite.fn (F := Ideal) (m ((c.tc : Thread Cert.MobaIdeal.nD Cert.MobaIdeal.τ).loc Cert.MobaIdeal.main_arg0)) (m ((c.tc : Thread Cert.MobaIdeal.nD Cert.MobaIdeal.τ).loc Cert.MobaIdeal.main_arg1))) = (fun _ => 1#1)

def Pre_MobaRefIdeal (m : (ℓ : Loc Cert.MobaRefIdeal.nD Cert.MobaRefIdeal.τ Cert.MobaRefIdeal.sig) → Buf (Elt Ideal) ℓ) : Prop :=
  True

def Pre_MobaRefIdeal_queries_keys_and_bias_finite [hPre_queries_keys_and_bias_finite : Cert.Pre_queries_keys_and_bias_finite.Facts] (m : (ℓ : Loc Cert.MobaRefIdeal.nD Cert.MobaRefIdeal.τ Cert.MobaRefIdeal.sig) → Buf (Elt Ideal) ℓ) : Prop :=
  ∀ c : Dev Cert.MobaRefIdeal.nD,
    (Cert.Pre_queries_keys_and_bias_finite.fn (F := Ideal) (m ((c.tc : Thread Cert.MobaRefIdeal.nD Cert.MobaRefIdeal.τ).loc Cert.MobaRefIdeal.main_arg0)) (m ((c.tc : Thread Cert.MobaRefIdeal.nD Cert.MobaRefIdeal.τ).loc Cert.MobaRefIdeal.main_arg1))) = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def quiescent_Moba [hMoba : Cert.Moba.Facts] : Prop :=
  ∀ (m : (ℓ : Loc Cert.Moba.nD Cert.Moba.τ Cert.Moba.sig) → Buf (Elt Bits) ℓ) (g : Dev Cert.Moba.nD → PrngReg), Pre_Moba m →
    θ_run (Cert.Moba.defs (F := Bits)) (onTc (τ := Cert.Moba.τ) (Cert.Moba.main (F := Bits))) ⟨m, fun _ => 0, g⟩ (fun r => (∀ c : Dev Cert.Moba.nD,
      r.2.mem ((c.tc : Thread Cert.Moba.nD Cert.Moba.τ).loc Cert.Moba.main_arg0) = m ((c.tc : Thread Cert.Moba.nD Cert.Moba.τ).loc Cert.Moba.main_arg0)
      ∧ r.2.mem ((c.tc : Thread Cert.Moba.nD Cert.Moba.τ).loc Cert.Moba.main_arg1) = m ((c.tc : Thread Cert.Moba.nD Cert.Moba.τ).loc Cert.Moba.main_arg1))
      ∧ r.2.sem = fun _ => 0)

def quiescent_MobaIdeal [hMobaIdeal : Cert.MobaIdeal.Facts] : Prop :=
  ∀ (m : (ℓ : Loc Cert.MobaIdeal.nD Cert.MobaIdeal.τ Cert.MobaIdeal.sig) → Buf (Elt Ideal) ℓ) (g : Dev Cert.MobaIdeal.nD → PrngReg), Pre_MobaIdeal m →
    θ_run (Cert.MobaIdeal.defs (F := Ideal)) (onTc (τ := Cert.MobaIdeal.τ) (Cert.MobaIdeal.main (F := Ideal))) ⟨m, fun _ => 0, g⟩ (fun r => (∀ c : Dev Cert.MobaIdeal.nD,
      r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0)
      ∧ r.2.mem ((c.tc : Thread Cert.MobaIdeal.nD Cert.MobaIdeal.τ).loc Cert.MobaIdeal.main_arg1) = m ((c.tc : Thread Cert.MobaIdeal.nD Cert.MobaIdeal.τ).loc Cert.MobaIdeal.main_arg1))
      ∧ r.2.sem = fun _ => 0)

def quiescent_MobaIdeal_pre_queries_keys_and_bias_finite [hMobaIdeal : Cert.MobaIdeal.Facts] [hPre_queries_keys_and_bias_finite : Cert.Pre_queries_keys_and_bias_finite.Facts] : Prop :=
  ∀ (m : (ℓ : Loc Cert.MobaIdeal.nD Cert.MobaIdeal.τ Cert.MobaIdeal.sig) → Buf (Elt Ideal) ℓ) (g : Dev Cert.MobaIdeal.nD → PrngReg), Pre_MobaIdeal_queries_keys_and_bias_finite m →
    θ_run (Cert.MobaIdeal.defs (F := Ideal)) (onTc (τ := Cert.MobaIdeal.τ) (Cert.MobaIdeal.main (F := Ideal))) ⟨m, fun _ => 0, g⟩ (fun r => (∀ c : Dev Cert.MobaIdeal.nD,
      r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0)
      ∧ r.2.mem ((c.tc : Thread Cert.MobaIdeal.nD Cert.MobaIdeal.τ).loc Cert.MobaIdeal.main_arg1) = m ((c.tc : Thread Cert.MobaIdeal.nD Cert.MobaIdeal.τ).loc Cert.MobaIdeal.main_arg1))
      ∧ r.2.sem = fun _ => 0)

def quiescent_MobaRefIdeal [hMobaRefIdeal : Cert.MobaRefIdeal.Facts] : Prop :=
  ∀ (m : (ℓ : Loc Cert.MobaRefIdeal.nD Cert.MobaRefIdeal.τ Cert.MobaRefIdeal.sig) → Buf (Elt Ideal) ℓ) (g : Dev Cert.MobaRefIdeal.nD → PrngReg), Pre_MobaRefIdeal m →
    θ_run (Cert.MobaRefIdeal.defs (F := Ideal)) (onTc (τ := Cert.MobaRefIdeal.τ) (Cert.MobaRefIdeal.main (F := Ideal))) ⟨m, fun _ => 0, g⟩ (fun r => (∀ c : Dev Cert.MobaRefIdeal.nD,
      r.2.mem ((c.tc : Thread Cert.MobaRefIdeal.nD Cert.MobaRefIdeal.τ).loc Cert.MobaRefIdeal.main_arg0) = m ((c.tc : Thread Cert.MobaRefIdeal.nD Cert.MobaRefIdeal.τ).loc Cert.MobaRefIdeal.main_arg0)
      ∧ r.2.mem ((c.tc : Thread Cert.MobaRefIdeal.nD Cert.MobaRefIdeal.τ).loc Cert.MobaRefIdeal.main_arg1) = m ((c.tc : Thread Cert.MobaRefIdeal.nD Cert.MobaRefIdeal.τ).loc Cert.MobaRefIdeal.main_arg1))
      ∧ r.2.sem = fun _ => 0)

def quiescent_MobaRefIdeal_pre_queries_keys_and_bias_finite [hMobaRefIdeal : Cert.MobaRefIdeal.Facts] [hPre_queries_keys_and_bias_finite : Cert.Pre_queries_keys_and_bias_finite.Facts] : Prop :=
  ∀ (m : (ℓ : Loc Cert.MobaRefIdeal.nD Cert.MobaRefIdeal.τ Cert.MobaRefIdeal.sig) → Buf (Elt Ideal) ℓ) (g : Dev Cert.MobaRefIdeal.nD → PrngReg), Pre_MobaRefIdeal_queries_keys_and_bias_finite m →
    θ_run (Cert.MobaRefIdeal.defs (F := Ideal)) (onTc (τ := Cert.MobaRefIdeal.τ) (Cert.MobaRefIdeal.main (F := Ideal))) ⟨m, fun _ => 0, g⟩ (fun r => (∀ c : Dev Cert.MobaRefIdeal.nD,
      r.2.mem ((c.tc : Thread Cert.MobaRefIdeal.nD Cert.MobaRefIdeal.τ).loc Cert.MobaRefIdeal.main_arg0) = m ((c.tc : Thread Cert.MobaRefIdeal.nD Cert.MobaRefIdeal.τ).loc Cert.MobaRefIdeal.main_arg0)
      ∧ r.2.mem ((c.tc : Thread Cert.MobaRefIdeal.nD Cert.MobaRefIdeal.τ).loc Cert.MobaRefIdeal.main_arg1) = m ((c.tc : Thread Cert.MobaRefIdeal.nD Cert.MobaRefIdeal.τ).loc Cert.MobaRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def preserves_Moba_MobaIdeal : Prop :=
  IdealRules.named_const.Statement Cert.MobaIdeal.κ "log2e" .f32 0x3FB8AA3B#32 (((Real.log 2)⁻¹ : ℝ) : EReal)
  ∧ IdealRules.named_const.Statement Cert.MobaIdeal.κ "masked" .f32 0xF149F2CA#32 ⊥
  ∧ IdealRules.named_const.Statement Cert.MobaIdeal.κ "scale" .f32 0x3E0293EE#32 (((11863283 / 134217728) * (Real.log 2)⁻¹ : ℝ) : EReal)

def algebraic_MobaIdeal_MobaRefIdeal_pre_queries_keys_and_bias_finite [hMobaIdeal : Cert.MobaIdeal.Facts] [hMobaRefIdeal : Cert.MobaRefIdeal.Facts] [hPre_queries_keys_and_bias_finite : Cert.Pre_queries_keys_and_bias_finite.Facts] : Prop :=
  ∀ (m : (ℓ : Loc Cert.MobaIdeal.nD Cert.MobaIdeal.τ Cert.MobaIdeal.sig) → Buf (Elt Ideal) ℓ) (g : Dev Cert.MobaIdeal.nD → PrngReg)
    (m' : (ℓ : Loc Cert.MobaRefIdeal.nD Cert.MobaRefIdeal.τ Cert.MobaRefIdeal.sig) → Buf (Elt Ideal) ℓ) (g' : Dev Cert.MobaRefIdeal.nD → PrngReg), Pre_MobaIdeal_queries_keys_and_bias_finite m →
    (∀ c : Dev Cert.MobaIdeal.nD,
      m' ((c.tc : Thread Cert.MobaRefIdeal.nD Cert.MobaRefIdeal.τ).loc Cert.MobaRefIdeal.main_arg0) = m ((c.tc : Thread Cert.MobaIdeal.nD Cert.MobaIdeal.τ).loc Cert.MobaIdeal.main_arg0)
      ∧ m' ((c.tc : Thread Cert.MobaRefIdeal.nD Cert.MobaRefIdeal.τ).loc Cert.MobaRefIdeal.main_arg1) = m ((c.tc : Thread Cert.MobaIdeal.nD Cert.MobaIdeal.τ).loc Cert.MobaIdeal.main_arg1)) →
    ∃ (v0 : (c : Dev Cert.MobaIdeal.nD) → Buf (Elt Ideal) ((c.tc : Thread Cert.MobaIdeal.nD Cert.MobaIdeal.τ).loc Cert.MobaIdeal.main_v1)),
      θ_run (Cert.MobaIdeal.defs (F := Ideal)) (onTc (τ := Cert.MobaIdeal.τ) (Cert.MobaIdeal.main (F := Ideal))) ⟨m, fun _ => 0, g⟩ (fun r => ∀ c : Dev Cert.MobaIdeal.nD,
          r.2.mem ((c.tc : Thread Cert.MobaIdeal.nD Cert.MobaIdeal.τ).loc Cert.MobaIdeal.main_v1) = v0 c
          ∧ r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0)
          ∧ r.2.mem ((c.tc : Thread Cert.MobaIdeal.nD Cert.MobaIdeal.τ).loc Cert.MobaIdeal.main_arg1) = m ((c.tc : Thread Cert.MobaIdeal.nD Cert.MobaIdeal.τ).loc Cert.MobaIdeal.main_arg1))
      ∧ θ_run (Cert.MobaRefIdeal.defs (F := Ideal)) (onTc (τ := Cert.MobaRefIdeal.τ) (Cert.MobaRefIdeal.main (F := Ideal))) ⟨m', fun _ => 0, g'⟩ (fun r => ∀ c : Dev Cert.MobaRefIdeal.nD,
          r.2.mem ((c.tc : Thread Cert.MobaRefIdeal.nD Cert.MobaRefIdeal.τ).loc Cert.MobaRefIdeal.main_v107) = v0 c
          ∧ r.2.mem ((c.tc : Thread Cert.MobaRefIdeal.nD Cert.MobaRefIdeal.τ).loc Cert.MobaRefIdeal.main_arg0) = m' ((c.tc : Thread Cert.MobaRefIdeal.nD Cert.MobaRefIdeal.τ).loc Cert.MobaRefIdeal.main_arg0)
          ∧ r.2.mem ((c.tc : Thread Cert.MobaRefIdeal.nD Cert.MobaRefIdeal.τ).loc Cert.MobaRefIdeal.main_arg1) = m' ((c.tc : Thread Cert.MobaRefIdeal.nD Cert.MobaRefIdeal.τ).loc Cert.MobaRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v0_0)) (v1 : (c : Dev Cert.FfnIdeal.nD) → Buf (Elt Ideal) ((c.tc : Thread Cert.FfnIdeal.nD Cert.FfnIdeal.τ).loc Cert.FfnIdeal.main_v0_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0_0) = v0 c
          ∧ r.2.mem ((c.tc : Thread Cert.FfnIdeal.nD Cert.FfnIdeal.τ).loc Cert.FfnIdeal.main_v0_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v9) = v0 c
          ∧ r.2.mem ((c.tc : Thread Cert.FfnRefIdeal.nD Cert.FfnRefIdeal.τ).loc Cert.FfnRefIdeal.main_v12) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def Claim : Prop :=
  ∃ (hMoba : Cert.Moba.Facts) (hMobaIdeal : Cert.MobaIdeal.Facts) (hMobaRefIdeal : Cert.MobaRefIdeal.Facts) (hDown : Cert.Down.Facts) (hDownIdeal : Cert.DownIdeal.Facts) (hDownRefIdeal : Cert.DownRefIdeal.Facts) (hFfn : Cert.Ffn.Facts) (hFfnIdeal : Cert.FfnIdeal.Facts) (hFfnRefIdeal : Cert.FfnRefIdeal.Facts) (hPre_queries_keys_and_bias_finite : Cert.Pre_queries_keys_and_bias_finite.Facts),
    quiescent_Moba (hMoba := hMoba)
    ∧ quiescent_MobaIdeal (hMobaIdeal := hMobaIdeal)
    ∧ quiescent_MobaIdeal_pre_queries_keys_and_bias_finite (hMobaIdeal := hMobaIdeal) (hPre_queries_keys_and_bias_finite := hPre_queries_keys_and_bias_finite)
    ∧ quiescent_MobaRefIdeal (hMobaRefIdeal := hMobaRefIdeal)
    ∧ quiescent_MobaRefIdeal_pre_queries_keys_and_bias_finite (hMobaRefIdeal := hMobaRefIdeal) (hPre_queries_keys_and_bias_finite := hPre_queries_keys_and_bias_finite)
    ∧ quiescent_Down (hDown := hDown)
    ∧ quiescent_DownIdeal (hDownIdeal := hDownIdeal)
    ∧ quiescent_DownRefIdeal (hDownRefIdeal := hDownRefIdeal)
    ∧ quiescent_Ffn (hFfn := hFfn)
    ∧ quiescent_FfnIdeal (hFfnIdeal := hFfnIdeal)
    ∧ quiescent_FfnRefIdeal (hFfnRefIdeal := hFfnRefIdeal)
    ∧ preserves_Moba_MobaIdeal
    ∧ algebraic_MobaIdeal_MobaRefIdeal_pre_queries_keys_and_bias_finite (hMobaIdeal := hMobaIdeal) (hMobaRefIdeal := hMobaRefIdeal) (hPre_queries_keys_and_bias_finite := hPre_queries_keys_and_bias_finite)
    ∧ preserves_Down_DownIdeal
    ∧ algebraic_DownIdeal_DownRefIdeal (hDownIdeal := hDownIdeal) (hDownRefIdeal := hDownRefIdeal)
    ∧ preserves_Ffn_FfnIdeal
    ∧ algebraic_FfnIdeal_FfnRefIdeal (hFfnIdeal := hFfnIdeal) (hFfnRefIdeal := hFfnRefIdeal)
-- ==== Pre_queries_keys_and_bias_finite.lean ====
abbrev S4x2048x10240 : Shape := ⟨3, ![4, 2048, 10240]⟩
abbrev S32x16 : Shape := ⟨2, ![32, 16]⟩
abbrev S4x2048x4096 : Shape := ⟨3, ![4, 2048, 4096]⟩
abbrev S_ : Shape := ⟨0, ![]⟩

class Facts : Prop where
  slices_S4x2048x10240_S4x2048x4096_0_0_0 : S4x2048x10240.Slices ![0, 0, 0] S4x2048x4096
  bitsLt_bf16_f32 : FTy.bits .bf16 < FTy.bits .f32
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S32x16 : S_.BroadcastsInDim S32x16 (![] : Fin 0 → Fin S32x16.rank)
  reducesTo_S32x16_S_d0_1 : S32x16.ReducesTo [0, 1] S_

variable [Facts]

def fn {F : FTy → Type} [FloatOps F] (main_arg0 : FVec F S4x2048x10240 .bf16) (main_arg1 : FVec F S32x16 .f32) : IVec S_ 1 :=
  let main_v0 : FVec F S4x2048x4096 .bf16 := (extractStridedSlice S4x2048x4096 ![0, 0, 0] · slices_S4x2048x10240_S4x2048x4096_0_0_0) main_arg0
  let main_v1 : FVec F S4x2048x4096 .f32 := (extf .f32 · bitsLt_bf16_f32) main_v0
  let main_v2 : FVec F S4x2048x4096 .f32 := Host.absf main_v1
  let main_cst : FVec F S_ .f32 := constant S_ .f32 0x7F800000#32
  let main_v3 : FVec F S4x2048x4096 .f32 := broadcastInDim S4x2048x4096 ![] bcast_S_S4x2048x4096 main_cst
  let main_v4 : IVec S4x2048x4096 1 := cmpf .olt main_v2 main_v3
  let main_c : IVec S_ 1 := constantI S_ 1 1#1
  let main_v5 : IVec S_ 1 := (fun x v => Host.reduce IntOp.andi x v reducesTo_S4x2048x4096_S_d0_1_2 h_S_) main_v4 main_c
  let main_v6 : FVec F S32x16 .f32 := Host.absf main_arg1
  let main_cst_0 : FVec F S_ .f32 := constant S_ .f32 0x7F800000#32
  let main_v7 : FVec F S32x16 .f32 := broadcastInDim S32x16 ![] bcast_S_S32x16 main_cst_0
  let main_v8 : IVec S32x16 1 := cmpf .olt main_v6 main_v7
  let main_c_1 : IVec S_ 1 := constantI S_ 1 1#1
  let main_v9 : IVec S_ 1 := (fun x v => Host.reduce IntOp.andi x v reducesTo_S32x16_S_d0_1 h_S_) main_v8 main_c_1
  let main_v10 : IVec S_ 1 := andi main_v5 main_v9
  main_v10
-- ==== Moba.lean ====
abbrev S4x2048x10240 : Shape := ⟨3, ![4, 2048, 10240]⟩
abbrev S32x16 : Shape := ⟨2, ![32, 16]⟩
abbrev S16x256x256 : Shape := ⟨3, ![16, 256, 256]⟩
abbrev S1x256x256 : Shape := ⟨3, ![1, 256, 256]⟩
abbrev S256x256 : Shape := ⟨2, ![256, 256]⟩
abbrev S1x1 : Shape := ⟨2, ![1, 1]⟩
abbrev S4x2048x2048 : Shape := ⟨3, ![4, 2048, 2048]⟩
abbrev S1x2048x128 : Shape := ⟨3, ![1, 2048, 128]⟩
abbrev S2048x256 : Shape := ⟨2, ![2048, 256]⟩
abbrev S2048x2048 : Shape := ⟨2, ![2048, 2048]⟩
abbrev S2048x128 : Shape := ⟨2, ![2048, 128]⟩
abbrev S8x2048 : Shape := ⟨2, ![8, 2048]⟩
abbrev S8x128 : Shape := ⟨2, ![8, 128]⟩
abbrev S16x128 : Shape := ⟨2, ![16, 128]⟩
abbrev S16x2048 : Shape := ⟨2, ![16, 2048]⟩
abbrev S1x2048 : Shape := ⟨2, ![1, 2048]⟩
abbrev S120x2048 : Shape := ⟨2, ![120, 2048]⟩
abbrev S128x2048 : Shape := ⟨2, ![128, 2048]⟩
abbrev S1792x256 : Shape := ⟨2, ![1792, 256]⟩
abbrev S256 : Shape := ⟨1, ![256]⟩
abbrev S256x1 : Shape := ⟨2, ![256, 1]⟩
abbrev S1x256x128 : Shape := ⟨3, ![1, 256, 128]⟩
abbrev S256x128 : Shape := ⟨2, ![256, 128]⟩
abbrev S1536x256 : Shape := ⟨2, ![1536, 256]⟩
abbrev S256x512 : Shape := ⟨2, ![256, 512]⟩
abbrev S1x512x128 : Shape := ⟨3, ![1, 512, 128]⟩
abbrev S512x128 : Shape := ⟨2, ![512, 128]⟩
abbrev S1280x256 : Shape := ⟨2, ![1280, 256]⟩
abbrev S256x768 : Shape := ⟨2, ![256, 768]⟩
abbrev S1x768x128 : Shape := ⟨3, ![1, 768, 128]⟩
abbrev S768x128 : Shape := ⟨2, ![768, 128]⟩
abbrev S1024x256 : Shape := ⟨2, ![1024, 256]⟩
abbrev S256x1024 : Shape := ⟨2, ![256, 1024]⟩
abbrev S1x1024x128 : Shape := ⟨3, ![1, 1024, 128]⟩
abbrev S1024x128 : Shape := ⟨2, ![1024, 128]⟩
abbrev S768x256 : Shape := ⟨2, ![768, 256]⟩
abbrev S256x1280 : Shape := ⟨2, ![256, 1280]⟩
abbrev S1x1280x128 : Shape := ⟨3, ![1, 1280, 128]⟩
abbrev S1280x128 : Shape := ⟨2, ![1280, 128]⟩
abbrev S512x256 : Shape := ⟨2, ![512, 256]⟩
abbrev S256x1536 : Shape := ⟨2, ![256, 1536]⟩
abbrev S1x1536x128 : Shape := ⟨3, ![1, 1536, 128]⟩
abbrev S1536x128 : Shape := ⟨2, ![1536, 128]⟩
abbrev S256x1792 : Shape := ⟨2, ![256, 1792]⟩
abbrev S1x1792x128 : Shape := ⟨3, ![1, 1792, 128]⟩
abbrev S1792x128 : Shape := ⟨2, ![1792, 128]⟩
abbrev S256x2048 : Shape := ⟨2, ![256, 2048]⟩

abbrev nBuf : Space → Nat
  | .hbm => 5
  | .vmem => 19
  | .smem => 2
  | _ => 0

abbrev bufTy : (tb : Table) → Fin (tcTables nBuf tb) → BufTy
  | .hbm, ⟨0, _⟩ => ⟨S4x2048x10240, .bf16⟩
  | .hbm, ⟨1, _⟩ => ⟨S32x16, .f32⟩
  | .hbm, ⟨2, _⟩ => ⟨S16x256x256, .f32⟩
  | .hbm, ⟨3, _⟩ => ⟨S16x256x256, .f32⟩
  | .hbm, ⟨4, _⟩ => ⟨S4x2048x2048, .bf16⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x2048x128, .bf16⟩
  | .local _ .vmem, ⟨15, _⟩ => ⟨S1x2048x128, .bf16⟩
  | .local _ .vmem, ⟨16, _⟩ => ⟨S2048x256, .bf16⟩
  | .local _ .vmem, ⟨17, _⟩ => ⟨S2048x256, .bf16⟩
  | .local _ .vmem, ⟨18, _⟩ => ⟨S2048x2048, .f32⟩
  | .local _ .smem, ⟨0, _⟩ => ⟨S32x16, .f32⟩
  | .local _ .smem, ⟨1, _⟩ => ⟨S32x16, .f32⟩
  | _, _ => ⟨S4x2048x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc1_scratch0 : Ref sig .tc := ⟨.vmem, 16, rfl⟩
abbrev cc1_scratch1 : Ref sig .tc := ⟨.vmem, 17, rfl⟩
abbrev cc1_scratch2 : Ref sig .tc := ⟨.vmem, 18, rfl⟩
abbrev cc0_stg0_0 : Ref sig .tc := ⟨.smem, 0, rfl⟩
abbrev cc1_stg0_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let c0 : Index := 0#32
  let arg0 : BitVec 32 := BitVec.ofNat 32 (i 0).val
  let v5 : Index := Scalar.indexCast arg0
  ![0, v5.toNat]
def k0_off2 (i : grid0.Coords) : Fin 2 → Nat :=
  let c1 : Index := 1#32
  let arg0 : BitVec 32 := BitVec.ofNat 32 (i 0).val
  let v10 : Index := Scalar.indexCast arg0
  ![1, v10.toNat]
def k0_off3 (i : grid0.Coords) : Fin 2 → Nat :=
  let c2 : Index := 2#32
  let arg0 : BitVec 32 := BitVec.ofNat 32 (i 0).val
  let v16 : Index := Scalar.indexCast arg0
  ![2, v16.toNat]
def k0_off4 (i : grid0.Coords) : Fin 2 → Nat :=
  let c3 : Index := 3#32
  let arg0 : BitVec 32 := BitVec.ofNat 32 (i 0).val
  let v22 : Index := Scalar.indexCast arg0
  ![3, v22.toNat]
def k0_off5 (i : grid0.Coords) : Fin 2 → Nat :=
  let c4 : Index := 4#32
  let arg0 : BitVec 32 := BitVec.ofNat 32 (i 0).val
  let v28 : Index := Scalar.indexCast arg0
  ![4, v28.toNat]
def k0_off6 (i : grid0.Coords) : Fin 2 → Nat :=
  let c5 : Index := 5#32
  let arg0 : BitVec 32 := BitVec.ofNat 32 (i 0).val
  let v34 : Index := Scalar.indexCast arg0
  ![5, v34.toNat]
def k0_off7 (i : grid0.Coords) : Fin 2 → Nat :=
  let c6 : Index := 6#32
  let arg0 : BitVec 32 := BitVec.ofNat 32 (i 0).val
  let v40 : Index := Scalar.indexCast arg0
  ![6, v40.toNat]
def k0_off8 (i : grid0.Coords) : Fin 2 → Nat :=
  let c7 : Index := 7#32
  let arg0 : BitVec 32 := BitVec.ofNat 32 (i 0).val
  let v46 : Index := Scalar.indexCast arg0
  ![7, v46.toNat]
def k0_off9 (i : grid0.Coords) : Fin 2 → Nat :=
  let c8 : Index := 8#32
  let arg0 : BitVec 32 := BitVec.ofNat 32 (i 0).val
  let v52 : Index := Scalar.indexCast arg0
  ![8, v52.toNat]
def k0_off10 (i : grid0.Coords) : Fin 2 → Nat :=
  let c9 : Index := 9#32
  let arg0 : BitVec 32 := BitVec.ofNat 32 (i 0).val
  let v58 : Index := Scalar.indexCast arg0
  ![9, v58.toNat]
def k0_off11 (i : grid0.Coords) : Fin 2 → Nat :=
  let c10 : Index := 10#32
  let arg0 : BitVec 32 := BitVec.ofNat 32 (i 0).val
  let v64 : Index := Scalar.indexCast arg0
  ![10, v64.toNat]
def k0_off12 (i : grid0.Coords) : Fin 2 → Nat :=
  let c11 : Index := 11#32
  let arg0 : BitVec 32 := BitVec.ofNat 32 (i 0).val
  let v70 : Index := Scalar.indexCast arg0
  ![11, v70.toNat]
def k0_off13 (i : grid0.Coords) : Fin 2 → Nat :=
  let c12 : Index := 12#32
  let arg0 : BitVec 32 := BitVec.ofNat 32 (i 0).val
  let v76 : Index := Scalar.indexCast arg0
  ![12, v76.toNat]
def k0_off14 (i : grid0.Coords) : Fin 2 → Nat :=
  let c13 : Index := 13#32
  let arg0 : BitVec 32 := BitVec.ofNat 32 (i 0).val
  let v82 : Index := Scalar.indexCast arg0
  ![13, v82.toNat]
def k0_off15 (i : grid0.Coords) : Fin 2 → Nat :=
  let c14 : Index := 14#32
  let arg0 : BitVec 32 := BitVec.ofNat 32 (i 0).val
  let v88 : Index := Scalar.indexCast arg0
  ![14, v88.toNat]
def k0_off16 (i : grid0.Coords) : Fin 2 → Nat :=
  let c15 : Index := 15#32
  let arg0 : BitVec 32 := BitVec.ofNat 32 (i 0).val
  let v94 : Index := Scalar.indexCast arg0
  ![15, v94.toNat]
def k0_off17 (i : grid0.Coords) : Fin 2 → Nat :=
  let c16 : Index := 16#32
  let arg0 : BitVec 32 := BitVec.ofNat 32 (i 0).val
  let v100 : Index := Scalar.indexCast arg0
  ![16, v100.toNat]
def k0_off18 (i : grid0.Coords) : Fin 2 → Nat :=
  let c17 : Index := 17#32
  let arg0 : BitVec 32 := BitVec.ofNat 32 (i 0).val
  let v106 : Index := Scalar.indexCast arg0
  ![17, v106.toNat]
def k0_off19 (i : grid0.Coords) : Fin 2 → Nat :=
  let c18 : Index := 18#32
  let arg0 : BitVec 32 := BitVec.ofNat 32 (i 0).val
  let v112 : Index := Scalar.indexCast arg0
  ![18, v112.toNat]
def k0_off20 (i : grid0.Coords) : Fin 2 → Nat :=
  let c19 : Index := 19#32
  let arg0 : BitVec 32 := BitVec.ofNat 32 (i 0).val
  let v118 : Index := Scalar.indexCast arg0
  ![19, v118.toNat]
def k0_off21 (i : grid0.Coords) : Fin 2 → Nat :=
  let c20 : Index := 20#32
  let arg0 : BitVec 32 := BitVec.ofNat 32 (i 0).val
  let v124 : Index := Scalar.indexCast arg0
  ![20, v124.toNat]
def k0_off22 (i : grid0.Coords) : Fin 2 → Nat :=
  let c21 : Index := 21#32
  let arg0 : BitVec 32 := BitVec.ofNat 32 (i 0).val
  let v130 : Index := Scalar.indexCast arg0
  ![21, v130.toNat]
def k0_off23 (i : grid0.Coords) : Fin 2 → Nat :=
  let c22 : Index := 22#32
  let arg0 : BitVec 32 := BitVec.ofNat 32 (i 0).val
  let v136 : Index := Scalar.indexCast arg0
  ![22, v136.toNat]
def k0_off24 (i : grid0.Coords) : Fin 2 → Nat :=
  let c23 : Index := 23#32
  let arg0 : BitVec 32 := BitVec.ofNat 32 (i 0).val
  let v142 : Index := Scalar.indexCast arg0
  ![23, v142.toNat]
def k0_off25 (i : grid0.Coords) : Fin 2 → Nat :=
  let c24 : Index := 24#32
  let arg0 : BitVec 32 := BitVec.ofNat 32 (i 0).val
  let v148 : Index := Scalar.indexCast arg0
  ![24, v148.toNat]
def k0_off26 (i : grid0.Coords) : Fin 2 → Nat :=
  let c25 : Index := 25#32
  let arg0 : BitVec 32 := BitVec.ofNat 32 (i 0).val
  let v154 : Index := Scalar.indexCast arg0
  ![25, v154.toNat]
def k0_off27 (i : grid0.Coords) : Fin 2 → Nat :=
  let c26 : Index := 26#32
  let arg0 : BitVec 32 := BitVec.ofNat 32 (i 0).val
  let v160 : Index := Scalar.indexCast arg0
  ![26, v160.toNat]
def k0_off28 (i : grid0.Coords) : Fin 2 → Nat :=
  let c27 : Index := 27#32
  let arg0 : BitVec 32 := BitVec.ofNat 32 (i 0).val
  let v166 : Index := Scalar.indexCast arg0
  ![27, v166.toNat]
def k0_off29 (i : grid0.Coords) : Fin 2 → Nat :=
  let c28 : Index := 28#32
  let arg0 : BitVec 32 := BitVec.ofNat 32 (i 0).val
  let v172 : Index := Scalar.indexCast arg0
  ![28, v172.toNat]
def k0_off30 (i : grid0.Coords) : Fin 2 → Nat :=
  let c29 : Index := 29#32
  let arg0 : BitVec 32 := BitVec.ofNat 32 (i 0).val
  let v178 : Index := Scalar.indexCast arg0
  ![29, v178.toNat]
def k0_off31 (i : grid0.Coords) : Fin 2 → Nat :=
  let c30 : Index := 30#32
  let arg0 : BitVec 32 := BitVec.ofNat 32 (i 0).val
  let v184 : Index := Scalar.indexCast arg0
  ![30, v184.toNat]
def k0_off32 (i : grid0.Coords) : Fin 2 → Nat :=
  let c31 : Index := 31#32
  let arg0 : BitVec 32 := BitVec.ofNat 32 (i 0).val
  let v190 : Index := Scalar.indexCast arg0
  ![31, v190.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S32x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 16], ![false, false]⟩

def k1_off1 (i : grid1.Coords) : Fin 2 → Nat :=
  let c31 : Index := 31#32
  let arg1 : BitVec 32 := BitVec.ofNat 32 (i 1).val
  let v0 : Index := Scalar.indexCast arg1
  ![31, v0.toNat]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc1_transform_2 (i : grid1.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc1_transform_3 (i : grid1.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 1 → Memref sig .tc .smem S32x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x2048x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x256x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1x256x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1x2048x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== MobaIdeal.lean ====
variable {F : FTy → Type} [FloatOps F] [Named F]
def κ : String → Option EReal := fun
  | "log2e" => some (((Real.log 2)⁻¹ : ℝ) : EReal)
  | "masked" => some ⊥
  | "scale" => some (((11863283 / 134217728) * (Real.log 2)⁻¹ : ℝ) : EReal)
  | _ => none
-- ==== MobaRefIdeal.lean ====
abbrev S4x2048x10240 : Shape := ⟨3, ![4, 2048, 10240]⟩
abbrev S32x16 : Shape := ⟨2, ![32, 16]⟩
abbrev S4x2048x2048 : Shape := ⟨3, ![4, 2048, 2048]⟩
abbrev S4x2048x16x128 : Shape := ⟨4, ![4, 2048, 16, 128]⟩
abbrev S4x16x2048x128 : Shape := ⟨4, ![4, 16, 2048, 128]⟩
abbrev S4x16x8x256x128 : Shape := ⟨5, ![4, 16, 8, 256, 128]⟩
abbrev S_ : Shape := ⟨0, ![]⟩
abbrev S4x16x8x128 : Shape := ⟨4, ![4, 16, 8, 128]⟩
abbrev S4x16x2048x8 : Shape := ⟨4, ![4, 16, 2048, 8]⟩
abbrev S2048 : Shape := ⟨1, ![2048]⟩
abbrev S8 : Shape := ⟨1, ![8]⟩
abbrev S1x8 : Shape := ⟨2, ![1, 8]⟩
abbrev S2048x1 : Shape := ⟨2, ![2048, 1]⟩
abbrev S2048x8 : Shape := ⟨2, ![2048, 8]⟩
abbrev S1x1x2048x8 : Shape := ⟨4, ![1, 1, 2048, 8]⟩
abbrev S4x16x2048x3 : Shape := ⟨4, ![4, 16, 2048, 3]⟩
abbrev S4x16x2048x3x1 : Shape := ⟨5, ![4, 16, 2048, 3, 1]⟩
abbrev S1x1x1x1x8 : Shape := ⟨5, ![1, 1, 1, 1, 8]⟩
abbrev S4x16x2048x3x8 : Shape := ⟨5, ![4, 16, 2048, 3, 8]⟩
abbrev S1x2048 : Shape := ⟨2, ![1, 2048]⟩
abbrev S2048x2048 : Shape := ⟨2, ![2048, 2048]⟩
abbrev S4x16x2048x8x256 : Shape := ⟨5, ![4, 16, 2048, 8, 256]⟩
abbrev S4x16x2048x2048 : Shape := ⟨4, ![4, 16, 2048, 2048]⟩
abbrev S1x1x2048x2048 : Shape := ⟨4, ![1, 1, 2048, 2048]⟩
abbrev S2048x2048x1 : Shape := ⟨3, ![2048, 2048, 1]⟩
abbrev S2048x2048x16 : Shape := ⟨3, ![2048, 2048, 16]⟩
abbrev S16x2048x2048 : Shape := ⟨3, ![16, 2048, 2048]⟩
abbrev S1x16x2048x2048 : Shape := ⟨4, ![1, 16, 2048, 2048]⟩
abbrev S4x16x2048 : Shape := ⟨3, ![4, 16, 2048]⟩
abbrev S4x16x2048x1 : Shape := ⟨4, ![4, 16, 2048, 1]⟩

abbrev nBuf : Space → Nat
  | .hbm => 155
  | .vmem => 0
  | .smem => 0
  | _ => 0

abbrev hbmTy0_0 (i : Nat) : BufTy := match i % 128 with
  | 0 => ⟨S4x2048x10240, .bf16⟩
  | 1 => ⟨S32x16, .f32⟩
  | 2 => ⟨S4x2048x2048, .bf16⟩
  | 3 => ⟨S4x2048x16x128, .bf16⟩
  | 4 => ⟨S4x16x2048x128, .bf16⟩
  | 5 => ⟨S4x16x2048x128, .f32⟩
  | 6 => ⟨S4x2048x2048, .bf16⟩
  | 7 => ⟨S4x2048x16x128, .bf16⟩
  | 8 => ⟨S4x16x2048x128, .bf16⟩
  | 9 => ⟨S4x16x2048x128, .f32⟩
  | 10 => ⟨S4x2048x2048, .bf16⟩
  | 11 => ⟨S4x2048x16x128, .bf16⟩
  | 12 => ⟨S4x16x2048x128, .bf16⟩
  | 13 => ⟨S4x16x2048x128, .f32⟩
  | 14 => ⟨S4x16x8x256x128, .f32⟩
  | 15 => ⟨S_, .f32⟩
  | 16 => ⟨S4x16x8x128, .f32⟩
  | 17 => ⟨S_, .f32⟩
  | 18 => ⟨S4x16x8x128, .f32⟩
  | 19 => ⟨S4x16x8x128, .f32⟩
  | 20 => ⟨S4x16x2048x8, .f32⟩
  | 21 => ⟨S2048, .i32⟩
  | 22 => ⟨S_, .i32⟩
  | 23 => ⟨S_, .i32⟩
  | 24 => ⟨S2048, .i32⟩
  | 25 => ⟨S2048, .i32⟩
  | 26 => ⟨S2048, .i32⟩
  | 27 => ⟨S_, .i32⟩
  | 28 => ⟨S2048, .i32⟩
  | 29 => ⟨S2048, .i1⟩
  | 30 => ⟨S2048, .i32⟩
  | 31 => ⟨S2048, .i32⟩
  | 32 => ⟨S_, .i32⟩
  | 33 => ⟨S2048, .i32⟩
  | 34 => ⟨S2048, .i1⟩
  | 35 => ⟨S2048, .i1⟩
  | 36 => ⟨S_, .i32⟩
  | 37 => ⟨S2048, .i32⟩
  | 38 => ⟨S2048, .i32⟩
  | 39 => ⟨S2048, .i32⟩
  | 40 => ⟨S8, .i32⟩
  | 41 => ⟨S1x8, .i32⟩
  | 42 => ⟨S2048x1, .i32⟩
  | 43 => ⟨S2048x8, .i32⟩
  | 44 => ⟨S2048x8, .i32⟩
  | 45 => ⟨S2048x8, .i1⟩
  | 46 => ⟨S1x1x2048x8, .i1⟩
  | 47 => ⟨S_, .f32⟩
  | 48 => ⟨S_, .f32⟩
  | 49 => ⟨S4x16x2048x8, .i1⟩
  | 50 => ⟨S4x16x2048x8, .f32⟩
  | 51 => ⟨S4x16x2048x8, .f32⟩
  | 52 => ⟨S4x16x2048x3, .f32⟩
  | 53 => ⟨S4x16x2048x3, .i32⟩
  | 54 => ⟨S4x16x2048x3, .f32⟩
  | 55 => ⟨S_, .f32⟩
  | 56 => ⟨S4x16x2048x3, .f32⟩
  | 57 => ⟨S4x16x2048x3, .i1⟩
  | 58 => ⟨S4x16x2048x3x1, .i1⟩
  | 59 => ⟨S4x16x2048x3x1, .i32⟩
  | 60 => ⟨S8, .i32⟩
  | 61 => ⟨S1x1x1x1x8, .i32⟩
  | 62 => ⟨S4x16x2048x3x8, .i32⟩
  | 63 => ⟨S4x16x2048x3x8, .i32⟩
  | 64 => ⟨S4x16x2048x3x8, .i1⟩
  | 65 => ⟨S4x16x2048x3x8, .i1⟩
  | 66 => ⟨S4x16x2048x3x8, .i1⟩
  | 67 => ⟨S_, .i1⟩
  | 68 => ⟨S4x16x2048x8, .i1⟩
  | 69 => ⟨S2048x1, .i32⟩
  | 70 => ⟨S1x2048, .i32⟩
  | 71 => ⟨S2048x2048, .i32⟩
  | 72 => ⟨S2048x2048, .i32⟩
  | 73 => ⟨S2048x2048, .i32⟩
  | 74 => ⟨S2048x1, .i32⟩
  | 75 => ⟨S1x2048, .i32⟩
  | 76 => ⟨S2048x2048, .i32⟩
  | 77 => ⟨S2048x2048, .i32⟩
  | 78 => ⟨S2048x2048, .i1⟩
  | 79 => ⟨S_, .i32⟩
  | 80 => ⟨S2048x2048, .i32⟩
  | 81 => ⟨S2048x2048, .i1⟩
  | 82 => ⟨S2048x2048, .i1⟩
  | 83 => ⟨S4x16x2048x8x256, .i1⟩
  | 84 => ⟨S4x16x2048x2048, .i1⟩
  | 85 => ⟨S1x1x2048x2048, .i1⟩
  | 86 => ⟨S4x16x2048x2048, .i1⟩
  | 87 => ⟨S4x16x2048x2048, .i1⟩
  | 88 => ⟨S4x16x2048x2048, .f32⟩
  | 89 => ⟨S_, .f32⟩
  | 90 => ⟨S4x16x2048x2048, .f32⟩
  | 91 => ⟨S4x16x2048x2048, .f32⟩
  | 92 => ⟨S_, .i32⟩
  | 93 => ⟨S2048x2048, .i32⟩
  | 94 => ⟨S2048x2048, .i32⟩
  | 95 => ⟨S_, .i32⟩
  | 96 => ⟨S2048x2048, .i32⟩
  | 97 => ⟨S2048x2048, .i32⟩
  | 98 => ⟨S2048x2048, .f32⟩
  | 99 => ⟨S_, .f32⟩
  | 100 => ⟨S2048x2048, .f32⟩
  | 101 => ⟨S2048x2048, .f32⟩
  | 102 => ⟨S2048x2048, .f32⟩
  | 103 => ⟨S_, .f32⟩
  | 104 => ⟨S2048x2048, .f32⟩
  | 105 => ⟨S2048x2048, .f32⟩
  | 106 => ⟨S_, .f32⟩
  | 107 => ⟨S2048x2048, .f32⟩
  | 108 => ⟨S2048x2048, .f32⟩
  | 109 => ⟨S2048x2048, .i32⟩
  | 110 => ⟨S_, .i32⟩
  | 111 => ⟨S2048x2048, .i32⟩
  | 112 => ⟨S2048x2048, .i32⟩
  | 113 => ⟨S_, .i32⟩
  | 114 => ⟨S2048x2048, .i32⟩
  | 115 => ⟨S2048x2048, .i32⟩
  | 116 => ⟨S_, .i32⟩
  | 117 => ⟨S2048x2048, .i32⟩
  | 118 => ⟨S2048x2048, .i1⟩
  | 119 => ⟨S2048x2048, .i32⟩
  | 120 => ⟨S_, .i32⟩
  | 121 => ⟨S2048x2048, .i32⟩
  | 122 => ⟨S2048x2048, .i1⟩
  | 123 => ⟨S_, .i32⟩
  | 124 => ⟨S2048x2048, .i32⟩
  | 125 => ⟨S2048x2048, .i32⟩
  | 126 => ⟨S2048x2048, .i32⟩
  | 127 => ⟨S2048x2048x1, .i32⟩
  | _ => ⟨S4x2048x10240, .bf16⟩

abbrev hbmTy0_1 (i : Nat) : BufTy := match i % 128 with
  | 0 => ⟨S2048x2048x16, .f32⟩
  | 1 => ⟨S16x2048x2048, .f32⟩
  | 2 => ⟨S1x16x2048x2048, .f32⟩
  | 3 => ⟨S4x16x2048x2048, .f32⟩
  | 4 => ⟨S4x16x2048x2048, .f32⟩
  | 5 => ⟨S_, .f32⟩
  | 6 => ⟨S_, .f32⟩
  | 7 => ⟨S4x16x2048x2048, .f32⟩
  | 8 => ⟨S4x16x2048x2048, .f32⟩
  | 9 => ⟨S_, .f32⟩
  | 10 => ⟨S4x16x2048, .f32⟩
  | 11 => ⟨S_, .f32⟩
  | 12 => ⟨S4x16x2048, .f32⟩
  | 13 => ⟨S4x16x2048, .f32⟩
  | 14 => ⟨S4x16x2048x1, .f32⟩
  | 15 => ⟨S4x16x2048x2048, .f32⟩
  | 16 => ⟨S4x16x2048x2048, .f32⟩
  | 17 => ⟨S4x16x2048x2048, .f32⟩
  | 18 => ⟨S_, .f32⟩
  | 19 => ⟨S4x16x2048, .f32⟩
  | 20 => ⟨S4x16x2048x1, .f32⟩
  | 21 => ⟨S4x16x2048x2048, .f32⟩
  | 22 => ⟨S4x16x2048x2048, .f32⟩
  | 23 => ⟨S4x16x2048x128, .f32⟩
  | 24 => ⟨S4x2048x16x128, .f32⟩
  | 25 => ⟨S4x2048x2048, .f32⟩
  | 26 => ⟨S4x2048x2048, .bf16⟩
  | _ => ⟨S4x2048x10240, .bf16⟩

abbrev hbmTy (i : Nat) : BufTy := match i / 128 with
  | 0 => hbmTy0_0 i
  | 1 => hbmTy0_1 i
  | _ => ⟨S4x2048x10240, .bf16⟩

abbrev bufTy : (tb : Table) → Fin (tcTables nBuf tb) → BufTy
  | .hbm, ⟨i, _⟩ => hbmTy i
  | _, _ => ⟨S4x2048x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_c : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_c : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_0 : Ref sig .tc := ⟨.hbm, 36, rfl⟩
abbrev main_call0_v12 : Ref sig .tc := ⟨.hbm, 37, rfl⟩
abbrev main_call0_v13 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_1 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v26 : Ref sig .tc := ⟨.hbm, 51, rfl⟩
abbrev main_values : Ref sig .tc := ⟨.hbm, 52, rfl⟩
abbrev main_indices : Ref sig .tc := ⟨.hbm, 53, rfl⟩
abbrev main_v27 : Ref sig .tc := ⟨.hbm, 54, rfl⟩
abbrev main_cst_2 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_c_3 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c_4 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_5 : Ref sig .tc := ⟨.hbm, 89, rfl⟩
abbrev main_v59 : Ref sig .tc := ⟨.hbm, 90, rfl⟩
abbrev main_v60 : Ref sig .tc := ⟨.hbm, 91, rfl⟩
abbrev main_c_6 : Ref sig .tc := ⟨.hbm, 92, rfl⟩
abbrev main_v61 : Ref sig .tc := ⟨.hbm, 93, rfl⟩
abbrev main_v62 : Ref sig .tc := ⟨.hbm, 94, rfl⟩
abbrev main_c_7 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_8 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_9 : Ref sig .tc := ⟨.hbm, 103, rfl⟩
abbrev main_v69 : Ref sig .tc := ⟨.hbm, 104, rfl⟩
abbrev main_v70 : Ref sig .tc := ⟨.hbm, 105, rfl⟩
abbrev main_cst_10 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_c_11 : Ref sig .tc := ⟨.hbm, 110, rfl⟩
abbrev main_v74 : Ref sig .tc := ⟨.hbm, 111, rfl⟩
abbrev main_v75 : Ref sig .tc := ⟨.hbm, 112, rfl⟩
abbrev main_c_12 : Ref sig .tc := ⟨.hbm, 113, rfl⟩
abbrev main_v76 : Ref sig .tc := ⟨.hbm, 114, rfl⟩
abbrev main_v77 : Ref sig .tc := ⟨.hbm, 115, rfl⟩
abbrev main_c_13 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_c_14 : Ref sig .tc := ⟨.hbm, 120, rfl⟩
abbrev main_v81 : Ref sig .tc := ⟨.hbm, 121, rfl⟩
abbrev main_v82 : Ref sig .tc := ⟨.hbm, 122, rfl⟩
abbrev main_c_15 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_cst_16 : Ref sig .tc := ⟨.hbm, 133, rfl⟩
abbrev main_call3_v0 : Ref sig .tc := ⟨.hbm, 134, rfl⟩
abbrev main_call3_v1 : Ref sig .tc := ⟨.hbm, 135, rfl⟩
abbrev main_v92 : Ref sig .tc := ⟨.hbm, 136, rfl⟩
abbrev main_cst_17 : Ref sig .tc := ⟨.hbm, 137, rfl⟩
abbrev main_v93 : Ref sig .tc := ⟨.hbm, 138, rfl⟩
abbrev main_cst_18 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_cst_19 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩

abbrev nD : Nat := 1
abbrev τ : Topo := Topo.v7x

variable {F : FTy → Type} [FloatOps F]
-- ==== Down.lean ====
abbrev S8192x11008 : Shape := ⟨2, ![8192, 11008]⟩
abbrev S11008x4096 : Shape := ⟨2, ![11008, 4096]⟩
abbrev S8192x4096 : Shape := ⟨2, ![8192, 4096]⟩
abbrev S512x11008 : Shape := ⟨2, ![512, 11008]⟩
abbrev S11008x512 : Shape := ⟨2, ![11008, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x11008, .bf16⟩
  | .hbm, ⟨1, _⟩ => ⟨S11008x4096, .bf16⟩
  | .hbm, ⟨2, _⟩ => ⟨S8192x4096, .bf16⟩
  | .local _ .vmem, ⟨0, _⟩ => ⟨S512x11008, .bf16⟩
  | .local _ .vmem, ⟨1, _⟩ => ⟨S512x11008, .bf16⟩
  | .local _ .vmem, ⟨2, _⟩ => ⟨S11008x512, .bf16⟩
  | .local _ .vmem, ⟨3, _⟩ => ⟨S11008x512, .bf16⟩
  | .local _ .vmem, ⟨4, _⟩ => ⟨S512x512, .bf16⟩
  | .local _ .vmem, ⟨5, _⟩ => ⟨S512x512, .bf16⟩
  | _, _ => ⟨S8192x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownRefIdeal.lean ====
abbrev S8192x11008 : Shape := ⟨2, ![8192, 11008]⟩
abbrev S11008x4096 : Shape := ⟨2, ![11008, 4096]⟩
abbrev S8192x4096 : Shape := ⟨2, ![8192, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x11008, .bf16⟩
  | .hbm, ⟨1, _⟩ => ⟨S11008x4096, .bf16⟩
  | .hbm, ⟨2, _⟩ => ⟨S8192x11008, .f32⟩
  | .hbm, ⟨3, _⟩ => ⟨S11008x4096, .f32⟩
  | .hbm, ⟨4, _⟩ => ⟨S8192x4096, .f32⟩
  | .hbm, ⟨5, _⟩ => ⟨S8192x4096, .bf16⟩
  | _, _ => ⟨S8192x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Ffn.lean ====
abbrev S8192x4096 : Shape := ⟨2, ![8192, 4096]⟩
abbrev S4x4096x11008 : Shape := ⟨3, ![4, 4096, 11008]⟩
abbrev S4x11008x4096 : Shape := ⟨3, ![4, 11008, 4096]⟩
abbrev S8192x11008 : Shape := ⟨2, ![8192, 11008]⟩
abbrev S11008x4096 : Shape := ⟨2, ![11008, 4096]⟩
abbrev S2048x4096 : Shape := ⟨2, ![2048, 4096]⟩
abbrev S1x1024x256 : Shape := ⟨3, ![1, 1024, 256]⟩
abbrev S1x64x4096 : Shape := ⟨3, ![1, 64, 4096]⟩
abbrev S2048x256 : Shape := ⟨2, ![2048, 256]⟩
abbrev S64x4096 : Shape := ⟨2, ![64, 4096]⟩
abbrev S2x4096x256 : Shape := ⟨3, ![2, 4096, 256]⟩
abbrev S1024x256 : Shape := ⟨2, ![1024, 256]⟩
abbrev S1x4096x256 : Shape := ⟨3, ![1, 4096, 256]⟩
abbrev S4096x256 : Shape := ⟨2, ![4096, 256]⟩

abbrev nBuf : Space → Nat
  | .hbm => 6
  | .vmem => 14
  | .smem => 0
  | _ => 0

abbrev bufTy : (tb : Table) → Fin (tcTables nBuf tb) → BufTy
  | .hbm, ⟨0, _⟩ => ⟨S8192x4096, .bf16⟩
  | .hbm, ⟨1, _⟩ => ⟨S4x4096x11008, .f32⟩
  | .hbm, ⟨2, _⟩ => ⟨S4x4096x11008, .f32⟩
  | .hbm, ⟨3, _⟩ => ⟨S4x11008x4096, .f32⟩
  | .hbm, ⟨4, _⟩ => ⟨S8192x11008, .bf16⟩
  | .hbm, ⟨5, _⟩ => ⟨S11008x4096, .bf16⟩
  | .local _ .vmem, ⟨0, _⟩ => ⟨S2048x4096, .bf16⟩
  | .local _ .vmem, ⟨1, _⟩ => ⟨S2048x4096, .bf16⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x64x4096, .f32⟩
  | .local _ .vmem, ⟨7, _⟩ => ⟨S1x64x4096, .f32⟩
  | .local _ .vmem, ⟨8, _⟩ => ⟨S2048x256, .bf16⟩
  | .local _ .vmem, ⟨9, _⟩ => ⟨S2048x256, .bf16⟩
  | .local _ .vmem, ⟨10, _⟩ => ⟨S64x4096, .bf16⟩
  | .local _ .vmem, ⟨11, _⟩ => ⟨S64x4096, .bf16⟩
  | .local _ .vmem, ⟨12, _⟩ => ⟨S2x4096x256, .bf16⟩
  | .local _ .vmem, ⟨13, _⟩ => ⟨S2x4096x256, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![44, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg1 : BitVec 32 := BitVec.ofNat 32 (i 1).val
  let c1024_i32 : BitVec 32 := 1024#32
  let v36 : BitVec 32 := Scalar.muli arg1 c1024_i32
  v36
def k0_off1 (i : grid0.Coords) : Fin 3 → Nat :=
  let c0_19 : Index := 0#32
  let arg1 : BitVec 32 := BitVec.ofNat 32 (i 1).val
  let c1024_i32 : BitVec 32 := 1024#32
  let v36 : BitVec 32 := Scalar.muli arg1 c1024_i32
  let v37 : BitVec 32 := v36
  let v38 : Index := Scalar.indexCast v37
  let c0_20 : Index := 0#32
  ![0, v38.toNat, 0]
def k0_mult2 (i : grid0.Coords) : BitVec 32 :=
  let arg1 : BitVec 32 := BitVec.ofNat 32 (i 1).val
  let c1024_i32_24 : BitVec 32 := 1024#32
  let v45 : BitVec 32 := Scalar.muli arg1 c1024_i32_24
  v45
def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c2_i32 : BitVec 32 := 2#32
  let c0_i32_2 : BitVec 32 := 0#32
  let v4 : BitVec 1 := Scalar.cmpi .eq c2_i32 c0_i32_2
  let c1_i32 : BitVec 32 := 1#32
  let v5 : BitVec 32 := Scalar.select v4 c1_i32 c2_i32
  let v6 : BitVec 32 := Scalar.remsi arg0 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c0_i32_6 : BitVec 32 := 0#32
  let v14 : BitVec 1 := Scalar.cmpi .eq v13 c0_i32_6
  let v15 : BitVec 1 := Scalar.andi v3 v14
  let v16 : BitVec 32 := Scalar.extui v15
  let c0_i32_7 : BitVec 32 := 0#32
  let v17 : BitVec 1 := Scalar.cmpi .ne v16 c0_i32_7
  v17

def k0_mult3 (i : grid0.Coords) : BitVec 32 :=
  let arg1 : BitVec 32 := BitVec.ofNat 32 (i 1).val
  let c1024_i32 : BitVec 32 := 1024#32
  let v36 : BitVec 32 := Scalar.muli arg1 c1024_i32
  v36
def k0_off2 (i : grid0.Coords) : Fin 3 → Nat :=
  let c0_19 : Index := 0#32
  let arg1 : BitVec 32 := BitVec.ofNat 32 (i 1).val
  let c1024_i32 : BitVec 32 := 1024#32
  let v36 : BitVec 32 := Scalar.muli arg1 c1024_i32
  let v37 : BitVec 32 := v36
  let v38 : Index := Scalar.indexCast v37
  let c0_20 : Index := 0#32
  ![0, v38.toNat, 0]
def k0_mult4 (i : grid0.Coords) : BitVec 32 :=
  let arg1 : BitVec 32 := BitVec.ofNat 32 (i 1).val
  let c1024_i32_24 : BitVec 32 := 1024#32
  let v45 : BitVec 32 := Scalar.muli arg1 c1024_i32_24
  v45
def k0_cond3 (i : grid0.Coords) : BitVec 1 :=
  let arg0 : BitVec 32 := BitVec.ofNat 32 (i 0).val
  let c0_i32_8 : BitVec 32 := 0#32
  let v18 : BitVec 1 := Scalar.cmpi .sgt arg0 c0_i32_8
  let c2_i32_9 : BitVec 32 := 2#32
  let c0_i32_10 : BitVec 32 := 0#32
  let v19 : BitVec 1 := Scalar.cmpi .eq c2_i32_9 c0_i32_10
  let c1_i32_11 : BitVec 32 := 1#32
  let v20 : BitVec 32 := Scalar.select v19 c1_i32_11 c2_i32_9
  let v21 : BitVec 32 := Scalar.remsi arg0 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let c1_i32_15 : BitVec 32 := 1#32
  let v29 : BitVec 1 := Scalar.cmpi .eq v28 c1_i32_15
  let v30 : BitVec 1 := Scalar.andi v18 v29
  let v31 : BitVec 32 := Scalar.extui v30
  let c0_i32_16 : BitVec 32 := 0#32
  let v32 : BitVec 1 := Scalar.cmpi .ne v31 c0_i32_16
  v32

def k0_mult5 (i : grid0.Coords) : BitVec 32 :=
  let arg1 : BitVec 32 := BitVec.ofNat 32 (i 1).val
  let c1024_i32 : BitVec 32 := 1024#32
  let v36 : BitVec 32 := Scalar.muli arg1 c1024_i32
  v36
def k0_off3 (i : grid0.Coords) : Fin 3 → Nat :=
  let c1 : Index := 1#32
  let arg1 : BitVec 32 := BitVec.ofNat 32 (i 1).val
  let c1024_i32 : BitVec 32 := 1024#32
  let v36 : BitVec 32 := Scalar.muli arg1 c1024_i32
  let v37 : BitVec 32 := v36
  let v38 : Index := Scalar.indexCast v37
  let c0_19 : Index := 0#32
  ![1, v38.toNat, 0]
def k0_mult6 (i : grid0.Coords) : BitVec 32 :=
  let arg1 : BitVec 32 := BitVec.ofNat 32 (i 1).val
  let c1024_i32_23 : BitVec 32 := 1024#32
  let v45 : BitVec 32 := Scalar.muli arg1 c1024_i32_23
  v45
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c42_i32 : BitVec 32 := 42#32
  let v0 : BitVec 32 := Scalar.minsi arg0 c42_i32
  let c0_i32 : BitVec 32 := 0#32
  let c0_i32_0 : BitVec 32 := 0#32
  ![c0_i32.toNat, arg1.toNat, v0.toNat]

def cc0_transform_2 (i : grid0.Coords) : Fin 3 → Nat :=
  let arg0 : BitVec 32 := BitVec.ofNat 32 (i 0).val
  let arg1 : BitVec 32 := BitVec.ofNat 32 (i 1).val
  let c42_i32 : BitVec 32 := 42#32
  let v0 : BitVec 32 := Scalar.minsi arg0 c42_i32
  let c0_i32 : BitVec 32 := 0#32
  let c0_i32_0 : BitVec 32 := 0#32
  ![c0_i32.toNat, arg1.toNat, v0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c4_i32 : BitVec 32 := 4#32
  let v1 : BitVec 32 := Scalar.muli v0 c4_i32
  let v2 : BitVec 32 := Scalar.addi v1 arg1
  let c0_i32 : BitVec 32 := 0#32
  let v3 : BitVec 32 := Scalar.maxsi v2 c0_i32
  let c0_i32_0 : BitVec 32 := 0#32
  let c0_i32_1 : BitVec 32 := 0#32
  let c0_i32_2 : BitVec 32 := 0#32
  ![c0_i32_0.toNat, v3.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c4_i32 : BitVec 32 := 4#32
  let v1 : BitVec 32 := Scalar.muli v0 c4_i32
  let v2 : BitVec 32 := Scalar.addi v1 arg1
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnRefIdeal.lean ====
abbrev S8192x4096 : Shape := ⟨2, ![8192, 4096]⟩
abbrev S4x4096x11008 : Shape := ⟨3, ![4, 4096, 11008]⟩
abbrev S4x11008x4096 : Shape := ⟨3, ![4, 11008, 4096]⟩
abbrev S1x4096x11008 : Shape := ⟨3, ![1, 4096, 11008]⟩
abbrev S4096x11008 : Shape := ⟨2, ![4096, 11008]⟩
abbrev S8192x11008 : Shape := ⟨2, ![8192, 11008]⟩
abbrev S_ : Shape := ⟨0, ![]⟩
abbrev S1x11008x4096 : Shape := ⟨3, ![1, 11008, 4096]⟩
abbrev S11008x4096 : Shape := ⟨2, ![11008, 4096]⟩

abbrev nBuf : Space → Nat
  | .hbm => 25
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x4096x11008, .f32⟩
  | .hbm, ⟨2, _⟩ => ⟨S4x4096x11008, .f32⟩
  | .hbm, ⟨3, _⟩ => ⟨S4x11008x4096, .f32⟩
  | .hbm, ⟨4, _⟩ => ⟨S8192x4096, .f32⟩
  | .hbm, ⟨5, _⟩ => ⟨S1x4096x11008, .f32⟩
  | .hbm, ⟨6, _⟩ => ⟨S4096x11008, .f32⟩
  | .hbm, ⟨7, _⟩ => ⟨S8192x11008, .f32⟩
  | .hbm, ⟨8, _⟩ => ⟨S8192x11008, .f32⟩
  | .hbm, ⟨9, _⟩ => ⟨S8192x11008, .f32⟩
  | .hbm, ⟨10, _⟩ => ⟨S_, .f32⟩
  | .hbm, ⟨11, _⟩ => ⟨S8192x11008, .f32⟩
  | .hbm, ⟨12, _⟩ => ⟨S8192x11008, .f32⟩
  | .hbm, ⟨13, _⟩ => ⟨S_, .f32⟩
  | .hbm, ⟨14, _⟩ => ⟨S8192x11008, .f32⟩
  | .hbm, ⟨15, _⟩ => ⟨S8192x11008, .f32⟩
  | .hbm, ⟨16, _⟩ => ⟨S8192x11008, .f32⟩
  | .hbm, ⟨17, _⟩ => ⟨S1x4096x11008, .f32⟩
  | .hbm, ⟨18, _⟩ => ⟨S4096x11008, .f32⟩
  | .hbm, ⟨19, _⟩ => ⟨S8192x11008, .f32⟩
  | .hbm, ⟨20, _⟩ => ⟨S8192x11008, .f32⟩
  | .hbm, ⟨21, _⟩ => ⟨S8192x11008, .bf16⟩
  | .hbm, ⟨22, _⟩ => ⟨S1x11008x4096, .f32⟩
  | .hbm, ⟨23, _⟩ => ⟨S11008x4096, .f32⟩
  | .hbm, ⟨24, _⟩ => ⟨S11008x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩

abbrev nD : Nat := 1
abbrev τ : Topo := Topo.v7x

variable {F : FTy → Type} [FloatOps F]
-- ==== Proof.DownValue.lean ====
/- The product of the feed-forward part, read at an index: the kernel writes it block by block over a 16 by 8 grid, and
   block `t` is block `t` of the reference's product. -/
module

public import proofs.«01_k».proof.Proof.Gen.DownIdeal.Value
public import proofs.«01_k».proof.Proof.Gen.DownRefIdeal.Read
public import Idealize.ShloMosaic.Lib.Pointwise

@[expose] public section

set_option maxRecDepth 16384

noncomputable section

namespace Cert.DownIdeal.Product

open Cert.DownIdeal Cert.DownIdeal.Gen Cert.DownIdeal.Value
open Idealize.ShloMosaic Idealize.ShloMosaic.TcCoe Idealize.SL.Sem
open Idealize.ShloMosaic.Pipeline (Dat)

/-- The result as a function of the two arguments. -/
def G (a : FVec Ideal S8192x11008 .bf16) (w : FVec Ideal S11008x4096 .bf16) : FVec Ideal S8192x4096 .bf16 :=
  fun i => ∑ k : Fin 11008, a (ValueIdx.ix2 (i 0) k) * w (ValueIdx.ix2 k (i 1))

theorem pay_apply (x : FVec Ideal S512x11008 .bf16) (w : FVec Ideal S11008x512 .bf16) (j : S512x512.Idx) :
    k0_pay1 (F := Ideal) x w j = ∑ k : Fin 11008, x (ValueIdx.ix2 (j 0) k) * w (ValueIdx.ix2 k (j 1)) := by
  pointwise [k0_pay1]
  rfl

theorem ref_apply (h : FTy.bits .bf16 < FTy.bits .f32) (a : FVec Ideal S8192x11008 .bf16) (w : FVec Ideal S11008x4096 .bf16) :
    truncf (F := Ideal) .bf16 (Host.dotGeneral DownRefIdeal.dot_S8192x11008_S11008x4096_S8192x4096_1_0_0_1_n_n none
      (extf .f32 a h) (extf .f32 w h)) h
      = G a w := by
  funext j
  pointwise [G]
  rfl

/-- Where the windows lie at each grid point. -/
theorem idx0 : ∀ t : Fin grid0.N, win0_0.index t 0 = t.val / 8 ∧ win0_0.index t 1 = 0 := by decide +kernel
theorem idx1 : ∀ t : Fin grid0.N, win0_1.index t 0 = 0 ∧ win0_1.index t 1 = t.val % 8 := by decide +kernel
theorem idx2 : ∀ t : Fin grid0.N, win0_2.index t 0 = t.val / 8 ∧ win0_2.index t 1 = t.val % 8 := by decide +kernel

variable (m : (ℓ : Loc nD τ sig) → Buf (Elt Ideal) ℓ)

abbrev actOf (c : Dev nD) : FVec Ideal S8192x11008 .bf16 := m ((c : Thread nD τ).loc main_arg0)
abbrev wOf (c : Dev nD) : FVec Ideal S11008x4096 .bf16 := m ((c : Thread nD τ).loc main_arg1)

theorem iblk0_apply (c : Dev nD) (t : Fin grid0.N) (r : Fin 512) (k : Fin 11008) (R : Fin 8192)
    (hR : R.val = t.val / 8 * 512 + r.val) :
    iblk m c 0 t (ValueIdx.ix2 r k) = actOf m c (ValueIdx.ix2 R k) := by
  show actOf m c ((win0_0.rect t).emb (ValueIdx.ix2 r k)) = _
  refine congrArg _ (Shape.idx_ext₂ ?_ ?_)
  · rw [win0_0.rect_emb_val, (idx0 t).1]; exact hR.symm
  · rw [win0_0.rect_emb_val, (idx0 t).2]; show 0 * _ + k.val = k.val; omega

theorem iblk1_apply (c : Dev nD) (t : Fin grid0.N) (k : Fin 11008) (l : Fin 512) (L : Fin 4096)
    (hL : L.val = t.val % 8 * 512 + l.val) :
    iblk m c 1 t (ValueIdx.ix2 k l) = wOf m c (ValueIdx.ix2 k L) := by
  show wOf m c ((win0_1.rect t).emb (ValueIdx.ix2 k l)) = _
  refine congrArg _ (Shape.idx_ext₂ ?_ ?_)
  · rw [win0_1.rect_emb_val, (idx1 t).1]; show 0 * _ + k.val = k.val; omega
  · rw [win0_1.rect_emb_val, (idx1 t).2]; exact hL.symm

theorem flushed_eq (c : Dev nD) (t : Fin cfg0.N) :
    (dats m 0 c).flushed 2 t = ((cfg0.win 2).blk t).view.read (Elt Ideal) (G (actOf m c) (wOf m c)) := by
  rw [flushed2]
  funext j
  have e0 : View.canon [(⟨r0_2, k0_pay1 (View.ld (iblk m c 0 t) r0_0) (View.ld (iblk m c 1 t) r0_1)⟩ : View.Piece (Elt Ideal) S512x512 .bf16)]
      = k0_pay1 (F := Ideal) (iblk m c 0 t) (iblk m c 1 t) := by
    rw [View.canon_unit_zero (by decide)]
    rw [View.ld_unit_zero (S := S512x11008) (by decide), View.ld_unit_zero (S := S11008x512) (by decide)]
  show out0_2 (iblk m c 0 t) (iblk m c 1 t) j = G (actOf m c) (wOf m c) ((win0_2.rect t).emb j)
  refine (congrFun e0 j).trans ((pay_apply _ _ j).trans ?_)
  have h0 : (((win0_2.rect t).emb j 0 : Fin _) : Nat) = t.val / 8 * 512 + (j 0).val := by
    rw [win0_2.rect_emb_val, (idx2 t).1]; rfl
  have h1 : (((win0_2.rect t).emb j 1 : Fin _) : Nat) = t.val % 8 * 512 + (j 1).val := by
    rw [win0_2.rect_emb_val, (idx2 t).2]; rfl
  refine Finset.sum_congr rfl fun k _ => ?_
  exact congrArg₂ (· * ·) (iblk0_apply m c t (j 0) k ((win0_2.rect t).emb j 0) h0) (iblk1_apply m c t k (j 1) ((win0_2.rect t).emb j 1) h1)

theorem mem_blk (t : Fin grid0.N) (i : S8192x4096.Idx) :
    i ∈ ((cfg0.win 2).blk t).view.set ↔ ∀ a : Fin 2, win0_2.index t a * S512x512.size a ≤ (i a).val
      ∧ (i a).val < win0_2.index t a * S512x512.size a + S512x512.size a := by
  show i ∈ ((View.whole main_v0).slice (win0_2.rect t)).set ↔ _
  rw [View.set_slice_whole, Rect.mem_set_unit]
  rfl

theorem covered (i : S8192x4096.Idx) : ∃ t : Fin cfg0.N, (cfg0.win 2).flush t = true ∧ i ∈ ((cfg0.win 2).blk t).view.set := by
  have h0 : (i 0).val < 8192 := (i 0).isLt
  have h1 : (i 1).val < 4096 := (i 1).isLt
  have hN : grid0.N = 128 := by decide
  refine ⟨⟨(i 0).val / 512 * 8 + (i 1).val / 512, by show _ < grid0.N; omega⟩, flush0_2 _, ?_⟩
  rw [mem_blk]
  intro a
  match a with
  | ⟨0, _⟩ =>
    show win0_2.index _ 0 * 512 ≤ (i 0).val ∧ (i 0).val < win0_2.index _ 0 * 512 + 512
    rw [(idx2 _).1]; dsimp only; omega
  | ⟨1, _⟩ =>
    show win0_2.index _ 1 * 512 ≤ (i 1).val ∧ (i 1).val < win0_2.index _ 1 * 512 + 512
    rw [(idx2 _).2]; dsimp only; omega

theorem final (c : Dev nD) : (dats m 0 c).arrAt 2 cfg0.N = G (actOf m c) (wOf m c) :=
  (dats m 0 c).arrAt_eq_of_cover 2 (G (actOf m c) (wOf m c)) (fun t _ => flushed_eq m c t) covered

end Cert.DownIdeal.Product

end
-- ==== Proof.FfnIRun.lean ====
/-
  The gate and up products' body: what it does at a point of the first weight tile (it only stores a piece of each
  weight tile's cast), and at the points of the later tiles of even and odd number (it stores a piece into one slot,
  multiplies by the other slot whole, and casts a slab of the down weights).
-/
module

public import proofs.«01_k».proof.Proof.Gen.FfnIdeal.Frame
public import proofs.«01_k».proof.Proof.Gen.FfnIdeal.Skeleton
public import Idealize.ShloMosaic.Lib.Tactic
public import Idealize.ShloMosaic.Lib.VecWindow
public import Idealize.ShloMosaic.Lib.WritesUnit

@[expose] public section

set_option maxRecDepth 16384

noncomputable section

namespace Cert.FfnIdeal.Hand

open Cert.FfnIdeal Cert.FfnIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

abbrev 𝒱₀ : Variants := Variants.none

section Run

variable (c : Dev nD) (i : grid0.Coords)
  (M0 : Memref sig .tc .vmem S2048x4096 .bf16) (h0 : M0.IsWhole)
  (M1 : Memref sig .tc .vmem S1x1024x256 .f32) (h1 : M1.IsWhole)
  (M2 : Memref sig .tc .vmem S1x1024x256 .f32) (h2 : M2.IsWhole)
  (M3 : Memref sig .tc .vmem S1x64x4096 .f32) (h3 : M3.IsWhole)
  (M4 : Memref sig .tc .vmem S2048x256 .bf16) (h4 : M4.IsWhole)
  (M5 : Memref sig .tc .vmem S64x4096 .bf16) (h5 : M5.IsWhole)
  (x0 : Vec F S2048x4096 .bf16) (x1 x2 : Vec F S1x1024x256 .f32) (x3 : Vec F S1x64x4096 .f32)
  (M6 : Memref sig .tc .vmem S2x4096x256 .bf16) (h6 : M6.IsWhole)
  (M7 : Memref sig .tc .vmem S2x4096x256 .bf16) (h7 : M7.IsWhole)
  (x6 x7 : Vec F S2x4096x256 .bf16)

/-- A scratch's contents after the store of a piece at an offset. -/
abbrev put (x : Vec F S2x4096x256 .bf16) (o : Fin 3 → ℕ) (w : Vec F S1x1024x256 .bf16) : Vec F S2x4096x256 .bf16 :=
  VecWindow.put x o S1x1024x256.size w

/-- The slot of a scratch at an offset. -/
abbrev slot (x : Vec F S2x4096x256 .bf16) (o : Fin 3 → ℕ) (ho : ∀ a, o a + S1x4096x256.size a ≤ S2x4096x256.size a) :
    Vec F S1x4096x256 .bf16 :=
  VecWindow.window x o S1x4096x256.size ho

theorem pay_congr {α β γ δ : Type} (p : α → β → γ → δ) {a a' : α} {b b' : β} {d d' : γ} (ha : a = a') (hb : b = b') (hd : d = d') :
    p a b d = p a' b' d' := by subst ha hb hd; rfl

/-- A slot loaded from a scratch that holds `x` is the slot of `x`. -/
theorem read_slot (M : Memref sig .tc .vmem S2x4096x256 .bf16) (h : M.IsWhole) (x : Vec F S2x4096x256 .bf16) (o : Fin 3 → ℕ)
    (ho : ∀ a, o a + S1x4096x256.size a ≤ S2x4096x256.size a) :
    M.view.readAt (Elt F) (Rect.unit (s := S2x4096x256) o S1x4096x256.size ho).toLoadRect (h.unread x) = slot x o ho :=
  (View.readAt_unit _ _ ho rfl ho).trans (congrArg (fun y => slot y o ho) (h.read_unread x))

set_option maxHeartbeats 1600000 in
/-- At a point of the first tile: a piece of each weight tile is stored. -/
theorem run_first (hc1 : k0_cond1 i = 1#1) (hc2 : ¬ k0_cond2 i = 1#1) (hc3 : ¬ k0_cond3 i = 1#1)
    (E : Set ℕ) (K : PUnit → sProp 𝕄) :
    iprop(owns (c : Thread nD τ) M1 fullShare x1
        ∗ owns (c : Thread nD τ) M2 fullShare x2
        ∗ owns (c : Thread nD τ) M6 fullShare x6
        ∗ owns (c : Thread nD τ) M7 fullShare x7
        ∗ (iprop(owns (c : Thread nD τ) M1 fullShare x1
        ∗ owns (c : Thread nD τ) M2 fullShare x2
        ∗ owns (c : Thread nD τ) M6 fullShare (put x6 (k0_off1 i) (k0_pay1 x1))
        ∗ owns (c : Thread nD τ) M7 fullShare (put x7 (k0_off1 i) (k0_pay2 x2))) -∗ K ⟨⟩))
      ⊢ wp frame (wpE (defs₀ (F := F)) 𝒱₀ c none) E
          (cc0_ffn_gate_up i M0 h0 M1 h1 M2 h2 M3 h3 M4 h4 M5 h5 M6 h6 M7 h7) K := by
  unfold owns
  iintro ⟨⟨%f1, %hf1, H1⟩, ⟨%f2, %hf2, H2⟩, ⟨%f6, %hf6, H6⟩, ⟨%f7, %hf7, H7⟩, Hk⟩
  obtain rfl := h1.eq_unread hf1; obtain rfl := h2.eq_unread hf2; obtain rfl := h6.eq_unread hf6; obtain rfl := h7.eq_unread hf7
  sl_unfold [cc0_ffn_gate_up]
  sl_exec!
  sl_step
  rw [show M1.view.readAt (Elt F) (Rect.unit (s := S1x1024x256) ![0, 0, 0] S1x1024x256.size inb_S1x1024x256_S1x1024x256_0_0_0).toLoadRect (h1.unread x1) = x1
      from (View.readAt_full _ _ _).trans hf1,
    show M2.view.readAt (Elt F) (Rect.unit (s := S1x1024x256) ![0, 0, 0] S1x1024x256.size inb_S1x1024x256_S1x1024x256_0_0_0).toLoadRect (h2.unread x2) = x2
      from (View.readAt_full _ _ _).trans hf2]
  iapply Hk
  isplitl [H1]
  · iexists _; isplitr; swap; · iexact H1
    ipureintro; exact h1.read_unread _
  isplitl [H2]
  · iexists _; isplitr; swap; · iexact H2
    ipureintro; exact h2.read_unread _
  isplitl [H6]
  · iexists _; isplitr; swap; · iexact H6
    ipureintro; exact (View.read_writes_cons_put _ _ _ _ _ rfl).trans (congrArg (fun y => VecWindow.put y _ _ _) (h6.read_unread _))
  iexists _; isplitr; swap; · iexact H7
  ipureintro; exact (View.read_writes_cons_put _ _ _ _ _ rfl).trans (congrArg (fun y => VecWindow.put y _ _ _) (h7.read_unread _))

set_option maxHeartbeats 1600000 in
/-- At a point of a later tile of even number. -/
theorem run_even (hc1 : ¬ k0_cond1 i = 1#1) (hc2 : k0_cond2 i = 1#1) (hc3 : ¬ k0_cond3 i = 1#1)
    (E : Set ℕ) (K : PUnit → sProp 𝕄) :
    iprop(owns (c : Thread nD τ) M0 fullShare x0
        ∗ owns (c : Thread nD τ) M1 fullShare x1
        ∗ owns (c : Thread nD τ) M2 fullShare x2
        ∗ owns (c : Thread nD τ) M3 fullShare x3
        ∗ (∃ d, owns (c : Thread nD τ) M4 fullShare d)
        ∗ (∃ d, owns (c : Thread nD τ) M5 fullShare d)
        ∗ owns (c : Thread nD τ) M6 fullShare x6
        ∗ owns (c : Thread nD τ) M7 fullShare x7
        ∗ (iprop(owns (c : Thread nD τ) M0 fullShare x0
        ∗ owns (c : Thread nD τ) M1 fullShare x1
        ∗ owns (c : Thread nD τ) M2 fullShare x2
        ∗ owns (c : Thread nD τ) M3 fullShare x3
        ∗ owns (c : Thread nD τ) M4 fullShare (k0_pay7 (slot x6 ![1, 0, 0] inb_S2x4096x256_S1x4096x256_1_0_0) (slot x7 ![1, 0, 0] inb_S2x4096x256_S1x4096x256_1_0_0) x0)
        ∗ owns (c : Thread nD τ) M5 fullShare (k0_pay3 x3)
        ∗ owns (c : Thread nD τ) M6 fullShare (put x6 (k0_off2 i) (k0_pay5 x1))
        ∗ owns (c : Thread nD τ) M7 fullShare (put x7 (k0_off2 i) (k0_pay6 x2))) -∗ K ⟨⟩))
      ⊢ wp frame (wpE (defs₀ (F := F)) 𝒱₀ c none) E
          (cc0_ffn_gate_up i M0 h0 M1 h1 M2 h2 M3 h3 M4 h4 M5 h5 M6 h6 M7 h7) K := by
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, Hk⟩
  obtain rfl := h0.eq_unread hf0; obtain rfl := h1.eq_unread hf1; obtain rfl := h2.eq_unread hf2; obtain rfl := h3.eq_unread hf3; obtain rfl := h6.eq_unread hf6; obtain rfl := h7.eq_unread hf7
  sl_unfold [cc0_ffn_gate_up, k0_part1]
  sl_exec!
  sl_step
  rw [show M1.view.readAt (Elt F) (Rect.unit (s := S1x1024x256) ![0, 0, 0] S1x1024x256.size inb_S1x1024x256_S1x1024x256_0_0_0).toLoadRect (h1.unread x1) = x1
      from (View.readAt_full _ _ _).trans hf1,
    show M2.view.readAt (Elt F) (Rect.unit (s := S1x1024x256) ![0, 0, 0] S1x1024x256.size inb_S1x1024x256_S1x1024x256_0_0_0).toLoadRect (h2.unread x2) = x2
      from (View.readAt_full _ _ _).trans hf2]
  iapply Hk
  isplitl [H0]
  · iexists _; isplitr; swap; · iexact H0
    ipureintro; exact h0.read_unread _
  isplitl [H1]
  · iexists _; isplitr; swap; · iexact H1
    ipureintro; exact h1.read_unread _
  isplitl [H2]
  · iexists _; isplitr; swap; · iexact H2
    ipureintro; exact h2.read_unread _
  isplitl [H3]
  · iexists _; isplitr; swap; · iexact H3
    ipureintro; exact h3.read_unread _
  isplitl [H4]
  · iexists _; isplitr; swap; · iexact H4
    ipureintro; refine (View.read_writes_full M4.view _ _ _ []).trans ?_
    exact pay_congr k0_pay7 (read_slot M6 h6 x6 _ _) (read_slot M7 h7 x7 _ _) ((View.readAt_full _ _ _).trans hf0)
  isplitl [H5]
  · iexists _; isplitr; swap; · iexact H5
    ipureintro; exact (View.read_writes_full M5.view _ _ _ []).trans (congrArg k0_pay3 ((View.readAt_full _ _ _).trans hf3))
  isplitl [H6]
  · iexists _; isplitr; swap; · iexact H6
    ipureintro; exact (View.read_writes_cons_put _ _ _ _ _ rfl).trans (congrArg (fun y => VecWindow.put y _ _ _) (h6.read_unread _))
  iexists _; isplitr; swap; · iexact H7
  ipureintro; exact (View.read_writes_cons_put _ _ _ _ _ rfl).trans (congrArg (fun y => VecWindow.put y _ _ _) (h7.read_unread _))

set_option maxHeartbeats 1600000 in
/-- At a point of a later tile of odd number. -/
theorem run_odd (hc1 : ¬ k0_cond1 i = 1#1) (hc2 : ¬ k0_cond2 i = 1#1) (hc3 : k0_cond3 i = 1#1)
    (E : Set ℕ) (K : PUnit → sProp 𝕄) :
    iprop(owns (c : Thread nD τ) M0 fullShare x0
        ∗ owns (c : Thread nD τ) M1 fullShare x1
        ∗ owns (c : Thread nD τ) M2 fullShare x2
        ∗ owns (c : Thread nD τ) M3 fullShare x3
        ∗ (∃ d, owns (c : Thread nD τ) M4 fullShare d)
        ∗ (∃ d, owns (c : Thread nD τ) M5 fullShare d)
        ∗ owns (c : Thread nD τ) M6 fullShare x6
        ∗ owns (c : Thread nD τ) M7 fullShare x7
        ∗ (iprop(owns (c : Thread nD τ) M0 fullShare x0
        ∗ owns (c : Thread nD τ) M1 fullShare x1
        ∗ owns (c : Thread nD τ) M2 fullShare x2
        ∗ owns (c : Thread nD τ) M3 fullShare x3
        ∗ owns (c : Thread nD τ) M4 fullShare (k0_pay10 (slot x6 ![0, 0, 0] inb_S2x4096x256_S1x4096x256_0_0_0) (slot x7 ![0, 0, 0] inb_S2x4096x256_S1x4096x256_0_0_0) x0)
        ∗ owns (c : Thread nD τ) M5 fullShare (k0_pay4 x3)
        ∗ owns (c : Thread nD τ) M6 fullShare (put x6 (k0_off3 i) (k0_pay8 x1))
        ∗ owns (c : Thread nD τ) M7 fullShare (put x7 (k0_off3 i) (k0_pay9 x2))) -∗ K ⟨⟩))
      ⊢ wp frame (wpE (defs₀ (F := F)) 𝒱₀ c none) E
          (cc0_ffn_gate_up i M0 h0 M1 h1 M2 h2 M3 h3 M4 h4 M5 h5 M6 h6 M7 h7) K := by
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, Hk⟩
  obtain rfl := h0.eq_unread hf0; obtain rfl := h1.eq_unread hf1; obtain rfl := h2.eq_unread hf2; obtain rfl := h3.eq_unread hf3; obtain rfl := h6.eq_unread hf6; obtain rfl := h7.eq_unread hf7
  sl_unfold [cc0_ffn_gate_up, k0_part2]
  sl_exec!
  sl_step
  rw [show M1.view.readAt (Elt F) (Rect.unit (s := S1x1024x256) ![0, 0, 0] S1x1024x256.size inb_S1x1024x256_S1x1024x256_0_0_0).toLoadRect (h1.unread x1) = x1
      from (View.readAt_full _ _ _).trans hf1,
    show M2.view.readAt (Elt F) (Rect.unit (s := S1x1024x256) ![0, 0, 0] S1x1024x256.size inb_S1x1024x256_S1x1024x256_0_0_0).toLoadRect (h2.unread x2) = x2
      from (View.readAt_full _ _ _).trans hf2]
  iapply Hk
  isplitl [H0]
  · iexists _; isplitr; swap; · iexact H0
    ipureintro; exact h0.read_unread _
  isplitl [H1]
  · iexists _; isplitr; swap; · iexact H1
    ipureintro; exact h1.read_unread _
  isplitl [H2]
  · iexists _; isplitr; swap; · iexact H2
    ipureintro; exact h2.read_unread _
  isplitl [H3]
  · iexists _; isplitr; swap; · iexact H3
    ipureintro; exact h3.read_unread _
  isplitl [H4]
  · iexists _; isplitr; swap; · iexact H4
    ipureintro; refine (View.read_writes_full M4.view _ _ _ []).trans ?_
    exact pay_congr k0_pay10 (read_slot M6 h6 x6 _ _) (read_slot M7 h7 x7 _ _) ((View.readAt_full _ _ _).trans hf0)
  isplitl [H5]
  · iexists _; isplitr; swap; · iexact H5
    ipureintro; exact (View.read_writes_full M5.view _ _ _ []).trans (congrArg k0_pay4 ((View.readAt_full _ _ _).trans hf3))
  isplitl [H6]
  · iexists _; isplitr; swap; · iexact H6
    ipureintro; exact (View.read_writes_cons_put _ _ _ _ _ rfl).trans (congrArg (fun y => VecWindow.put y _ _ _) (h6.read_unread _))
  iexists _; isplitr; swap; · iexact H7
  ipureintro; exact (View.read_writes_cons_put _ _ _ _ _ rfl).trans (congrArg (fun y => VecWindow.put y _ _ _) (h7.read_unread _))

end Run

end Cert.FfnIdeal.Hand

end
-- ==== Proof.FfnIFrame.lean ====
/-
  The gate and up products' frame. Each weight tile is cast piece by piece, one piece a point, into one of two slots,
  while the other slot, filled over the four points before, is multiplied. The invariant: at every point, every piece
  stored over the last eight points still stands where it was put.
-/
module

public import proofs.«01_k».proof.Proof.FfnIRun
public import Idealize.ShloMosaic.Lib.Claim
public import Idealize.ShloMosaic.PureOps.BitExact

@[expose] public section

set_option maxRecDepth 16384

noncomputable section

namespace Cert.FfnIdeal.Hand

open Cert.FfnIdeal Cert.FfnIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

theorem first_iff : ∀ t : Fin grid0.N, t.val < 4 → k0_cond1 (grid0.coords t) = 1#1 ∧ ¬ k0_cond2 (grid0.coords t) = 1#1 ∧ ¬ k0_cond3 (grid0.coords t) = 1#1 := by decide +kernel
theorem even_iff : ∀ t : Fin grid0.N, 4 ≤ t.val → t.val / 4 % 2 = 0 → ¬ k0_cond1 (grid0.coords t) = 1#1 ∧ k0_cond2 (grid0.coords t) = 1#1 ∧ ¬ k0_cond3 (grid0.coords t) = 1#1 := by decide +kernel
theorem odd_iff : ∀ t : Fin grid0.N, 4 ≤ t.val → t.val / 4 % 2 = 1 → ¬ k0_cond1 (grid0.coords t) = 1#1 ∧ ¬ k0_cond2 (grid0.coords t) = 1#1 ∧ k0_cond3 (grid0.coords t) = 1#1 := by decide +kernel

/-- Where point `n` puts its piece. -/
def off (n : ℕ) : Fin 3 → ℕ := ![n / 4 % 2, n % 4 * 1024, 0]

theorem off1 : ∀ t : Fin grid0.N, t.val < 4 → ∀ a, k0_off1 (grid0.coords t) a = off t.val a := by decide +kernel
theorem off2 : ∀ t : Fin grid0.N, 4 ≤ t.val → t.val / 4 % 2 = 0 → ∀ a, k0_off2 (grid0.coords t) a = off t.val a := by decide +kernel
theorem off3 : ∀ t : Fin grid0.N, 4 ≤ t.val → t.val / 4 % 2 = 1 → ∀ a, k0_off3 (grid0.coords t) a = off t.val a := by decide +kernel

theorem flush4 : ∀ t : Fin grid0.N, t.val < 4 → win0_4.flush t = false := by decide +kernel
theorem flush5 : ∀ t : Fin grid0.N, t.val < 4 → win0_5.flush t = false := by decide +kernel

/-! ## The scratches -/

/-- Every piece stored over the last eight points before `n` stands in `x`. -/
def Inv (n : ℕ) (x : Vec F S2x4096x256 .bf16) (pc : Fin cfg0.N → Vec F S1x1024x256 .bf16) : Prop :=
  ∀ p : Fin cfg0.N, p.val < n → n ≤ p.val + 8 → ∀ (y : S2x4096x256.Idx) (z : S1x1024x256.Idx),
    (∀ a, (y a).val = off p.val a + (z a).val) → x y = pc p z

theorem inv_zero (x : Vec F S2x4096x256 .bf16) (pc : Fin cfg0.N → Vec F S1x1024x256 .bf16) : Inv 0 x pc :=
  fun p h => absurd h (Nat.not_lt_zero _)

theorem inv_succ (t : Fin cfg0.N) {x : Vec F S2x4096x256 .bf16} {pc : Fin cfg0.N → Vec F S1x1024x256 .bf16} (h : Inv t.val x pc)
    {o : Fin 3 → ℕ} (ho : ∀ a, o a = off t.val a) {w : Vec F S1x1024x256 .bf16} (hw : w = pc t) : Inv (t.val + 1) (put x o w) pc := by
  obtain rfl : o = off t.val := funext ho
  subst hw
  intro p hp hp8 y z hy
  have z0 : (z 0).val < 1 := (z 0).isLt
  have z1 : (z 1).val < 1024 := (z 1).isLt
  have z2 : (z 2).val < 256 := (z 2).isLt
  have y0 : (y 0).val = p.val / 4 % 2 + (z 0).val := hy 0
  have y1 : (y 1).val = p.val % 4 * 1024 + (z 1).val := hy 1
  have y2 : (y 2).val = 0 + (z 2).val := hy 2
  by_cases e : p = t
  · subst e
    have hin : ∀ a, off p.val a ≤ (y a).val ∧ (y a).val < off p.val a + S1x1024x256.size a := fun a => by
      have := hy a; have := (z a).isLt; omega
    show (if h : ∀ a, off p.val a ≤ (y a).val ∧ (y a).val < off p.val a + S1x1024x256.size a then _ else _) = _
    rw [dif_pos hin]
    refine congrArg (pc p) (funext fun a => Fin.ext ?_)
    show (y a).val - off p.val a = (z a).val
    have := hy a; omega
  · have hlt : p.val < t.val := lt_of_le_of_ne (Nat.lt_succ_iff.mp hp) fun h => e (Fin.ext h)
    have hout : ¬ ∀ a, off t.val a ≤ (y a).val ∧ (y a).val < off t.val a + S1x1024x256.size a := fun hin => by
      have a0 : t.val / 4 % 2 ≤ (y 0).val ∧ (y 0).val < t.val / 4 % 2 + 1 := hin 0
      have a1 : t.val % 4 * 1024 ≤ (y 1).val ∧ (y 1).val < t.val % 4 * 1024 + 1024 := hin 1
      omega
    show (if h : ∀ a, off t.val a ≤ (y a).val ∧ (y a).val < off t.val a + S1x1024x256.size a then _ else _) = _
    rw [dif_neg hout]
    exact h p hlt (by omega) y z hy

/-- The point that casts piece `k` of the tile multiplied at point `n`. -/
theorem src_lt {n k : ℕ} (hn : n < 176) (hk : k < 4) : 4 * (n / 4 - 1) + k < 176 := by omega

/-- The weight tile multiplied at point `t`, its rows from the four pieces. -/
def tile (pc : Fin cfg0.N → Vec F S1x1024x256 .bf16) (t : Fin cfg0.N) : Vec F S1x4096x256 .bf16 := fun z =>
  pc ⟨4 * (t.val / 4 - 1) + (z 1).val / 1024, src_lt t.isLt (by have : (z 1).val < 4096 := (z 1).isLt; omega)⟩
    (fun | 0 => (⟨0, by decide⟩ : Fin 1) | 1 => (⟨(z 1).val % 1024, Nat.mod_lt _ (by decide)⟩ : Fin 1024) | 2 => (⟨(z 2).val, (z 2).isLt⟩ : Fin 256))

theorem slot_eq (t : Fin cfg0.N) (ht : 4 ≤ t.val) {x : Vec F S2x4096x256 .bf16} {pc : Fin cfg0.N → Vec F S1x1024x256 .bf16} (h : Inv t.val x pc)
    {o : Fin 3 → ℕ} (ho : ∀ a, o a + S1x4096x256.size a ≤ S2x4096x256.size a) (o0 : o 0 = (t.val / 4 + 1) % 2) (o1 : o 1 = 0) (o2 : o 2 = 0) :
    slot x o ho = tile pc t := by
  funext z
  have z0 : (z 0).val < 1 := (z 0).isLt
  have z1 : (z 1).val < 4096 := (z 1).isLt
  have hlt := t.isLt
  refine h ⟨4 * (t.val / 4 - 1) + (z 1).val / 1024, src_lt t.isLt (by omega)⟩ ?_ ?_ _ _ ?_
  · show 4 * (t.val / 4 - 1) + (z 1).val / 1024 < t.val; omega
  · show t.val ≤ 4 * (t.val / 4 - 1) + (z 1).val / 1024 + 8; omega
  · intro a
    match a with
    | 0 => show o 0 + 1 * (z 0).val = (4 * (t.val / 4 - 1) + (z 1).val / 1024) / 4 % 2 + 0; omega
    | 1 => show o 1 + 1 * (z 1).val = (4 * (t.val / 4 - 1) + (z 1).val / 1024) % 4 * 1024 + (z 1).val % 1024; omega
    | 2 => show o 2 + 1 * (z 2).val = 0 + (z 2).val; omega

/-! ## The pipeline's proof data -/

/-- The cast piece of the gate weights at a point, and of the up weights. -/
def pG (c : Dev nD) (t : Fin cfg0.N) : Vec F S1x1024x256 .bf16 := k0_pay1 (iblk m c 1 t)
def pU (c : Dev nD) (t : Fin cfg0.N) : Vec F S1x1024x256 .bf16 := k0_pay2 (iblk m c 2 t)

/-- What the body leaves in the activation's buffer, and in the down weights'. -/
def actAt (c : Dev nD) (t : Fin cfg0.N) : Vec F S2048x256 .bf16 := k0_pay7 (tile (pG m c) t) (tile (pU m c) t) (iblk m c 0 t)
def downAt (c : Dev nD) (t : Fin cfg0.N) : Vec F S64x4096 .bf16 := k0_pay3 (iblk m c 3 t)

/-- Between points: each scratch with its last eight pieces, and the generator's register. -/
def mid (c : Dev nD) (n : ℕ) : sProp 𝕄 :=
  iprop((∃ x, ⌜Inv n x (pG m c)⌝ ∗ owns (c : Thread nD τ) (Memref.whole cc0_scratch0) fullShare x)
    ∗ (∃ x, ⌜Inv n x (pU m c)⌝ ∗ owns (c : Thread nD τ) (Memref.whole cc0_scratch1) fullShare x)
    ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => actAt m c t
    | ⟨5, _⟩ => downAt m c t
  Φ t := mid m c t.val
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = actAt m c t := by dsimp only [dats]
theorem after0_5 (c : Dev nD) (t : Fin cfg0.N) : (dats m 0 c).after 5 t = downAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

theorem idle4 (t : Fin cfg0.N) (h : t.val < 4) : cfg0.idle 4 (cfg0.grid.coords t) = true := by
  show (!(k0_cond2 (grid0.coords t) == 1#1) && !(k0_cond3 (grid0.coords t) == 1#1)) = true
  simp [(first_iff t h).2.1, (first_iff t h).2.2]
theorem idle5 (t : Fin cfg0.N) (h : t.val < 4) : cfg0.idle 5 (cfg0.grid.coords t) = true := idle4 t h
theorem live4 (t : Fin cfg0.N) (h : 4 ≤ t.val) : cfg0.idle 4 (cfg0.grid.coords t) = false := by
  show (!(k0_cond2 (grid0.coords t) == 1#1) && !(k0_cond3 (grid0.coords t) == 1#1)) = false
  rcases Nat.mod_two_eq_zero_or_one (t.val / 4) with e | e
  · simp [(even_iff t h e).2.1]
  · simp [(odd_iff t h e).2.2]
theorem live5 (t : Fin cfg0.N) (h : 4 ≤ t.val) : cfg0.idle 5 (cfg0.grid.coords t) = false := live4 t h

set_option maxHeartbeats 1600000 in
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3]
  rw [show (dats m 0 c).Φ t.succ = mid m c (t.val + 1) from rfl, show (dats m 0 c).Φ t.castSucc = mid m c t.val from rfl,
    show (dats m 0 c).owesAt () t.succ = (dats m 0 c).owesAt () t.castSucc from rfl, after0_0, after0_1, after0_2, after0_3, after0_4, after0_5]
  unfold mid
  by_cases h4 : t.val < 4
  · simp only [show idle0 4 (grid0.coords t) = true from idle4 t h4, show idle0 5 (grid0.coords t) = true from idle5 t h4,
      show (win0 4).flush t = false from flush4 t h4, show (win0 5).flush t = false from flush5 t h4]
    iintro ⟨⟨⟨%x6, %i6, H6⟩, ⟨%x7, %i7, H7⟩, Hr⟩, Ho, ⟨%d0, H0⟩, ⟨%d1, H1⟩, ⟨%d2, H2⟩, ⟨%d3, H3⟩, ⟨%d4, H4⟩, ⟨%d5, H5⟩⟩
    iapply (run_first c (grid0.coords t) _ _ _ _ _ _ _ _ _ _ _ _ (iblk m c 1 t) (iblk m c 2 t)
      (Memref.whole cc0_scratch0) (Memref.isWhole_whole _) (Memref.whole cc0_scratch1) (Memref.isWhole_whole _) x6 x7
      (first_iff t h4).1 (first_iff t h4).2.1 (first_iff t h4).2.2 Set.univ _)
    isplitl [H1]; · iexact H1
    isplitl [H2]; · iexact H2
    isplitl [H6]; · iexact H6
    isplitl [H7]; · iexact H7
    iintro ⟨H1, H2, H6, H7⟩
    isplitl [H6 H7 Hr]
    · isplitl [H6]
      · iexists _; isplitr; swap; · iexact H6
        ipureintro; exact inv_succ t i6 (off1 t h4) rfl
      isplitl [H7]
      · iexists _; isplitr; swap; · iexact H7
        ipureintro; exact inv_succ t i7 (off1 t h4) rfl
      iexact Hr
    isplitl [Ho]; · iexact Ho
    isplitl [H0]; · iexact H0
    isplitl [H1]; · iexact H1
    isplitl [H2]; · iexact H2
    isplitl [H3]; · iexact H3
    isplitl [H4]; · iexists _; iexact H4
    iexists _; iexact H5
  replace h4 : 4 ≤ t.val := Nat.not_lt.mp h4
  rcases Nat.mod_two_eq_zero_or_one (t.val / 4) with e | e
  · simp only [show idle0 4 (grid0.coords t) = false from live4 t h4, show idle0 5 (grid0.coords t) = false from live5 t h4]
    iintro ⟨⟨⟨%x6, %i6, H6⟩, ⟨%x7, %i7, H7⟩, Hr⟩, Ho, ⟨%d0, H0⟩, ⟨%d1, H1⟩, ⟨%d2, H2⟩, ⟨%d3, H3⟩, ⟨%d4, H4⟩, ⟨%d5, H5⟩⟩
    iapply (run_even c (grid0.coords t) _ _ _ _ _ _ _ _ _ _ _ _ (iblk m c 0 t) (iblk m c 1 t) (iblk m c 2 t) (iblk m c 3 t)
      (Memref.whole cc0_scratch0) (Memref.isWhole_whole _) (Memref.whole cc0_scratch1) (Memref.isWhole_whole _) x6 x7
      (even_iff t h4 e).1 (even_iff t h4 e).2.1 (even_iff t h4 e).2.2 Set.univ _)
    rw [slot_eq t h4 i6 _ (by show 1 = (t.val / 4 + 1) % 2; omega) rfl rfl, slot_eq t h4 i7 _ (by show 1 = (t.val / 4 + 1) % 2; omega) rfl rfl]
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    isplitl [H7]; · iexact H7
    iintro ⟨H0, H1, H2, H3, H4, H5, H6, H7⟩
    isplitl [H6 H7 Hr]
    · isplitl [H6]
      · iexists _; isplitr; swap; · iexact H6
        ipureintro; exact inv_succ t i6 (off2 t h4 e) rfl
      isplitl [H7]
      · iexists _; isplitr; swap; · iexact H7
        ipureintro; exact inv_succ t i7 (off2 t h4 e) rfl
      iexact Hr
    isplitl [Ho]; · iexact Ho
    isplitl [H0]; · iexact H0
    isplitl [H1]; · iexact H1
    isplitl [H2]; · iexact H2
    isplitl [H3]; · iexact H3
    isplitl [H4]; · iexact H4
    iexact H5
  · simp only [show idle0 4 (grid0.coords t) = false from live4 t h4, show idle0 5 (grid0.coords t) = false from live5 t h4]
    iintro ⟨⟨⟨%x6, %i6, H6⟩, ⟨%x7, %i7, H7⟩, Hr⟩, Ho, ⟨%d0, H0⟩, ⟨%d1, H1⟩, ⟨%d2, H2⟩, ⟨%d3, H3⟩, ⟨%d4, H4⟩, ⟨%d5, H5⟩⟩
    iapply (run_odd c (grid0.coords t) _ _ _ _ _ _ _ _ _ _ _ _ (iblk m c 0 t) (iblk m c 1 t) (iblk m c 2 t) (iblk m c 3 t)
      (Memref.whole cc0_scratch0) (Memref.isWhole_whole _) (Memref.whole cc0_scratch1) (Memref.isWhole_whole _) x6 x7
      (odd_iff t h4 e).1 (odd_iff t h4 e).2.1 (odd_iff t h4 e).2.2 Set.univ _)
    rw [slot_eq t h4 i6 _ (by show 0 = (t.val / 4 + 1) % 2; omega) rfl rfl, slot_eq t h4 i7 _ (by show 0 = (t.val / 4 + 1) % 2; omega) rfl rfl]
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    isplitl [H7]; · iexact H7
    iintro ⟨H0, H1, H2, H3, H4, H5, H6, H7⟩
    isplitl [H6 H7 Hr]
    · isplitl [H6]
      · iexists _; isplitr; swap; · iexact H6
        ipureintro; exact inv_succ t i6 (off3 t h4 e) rfl
      isplitl [H7]
      · iexists _; isplitr; swap; · iexact H7
        ipureintro; exact inv_succ t i7 (off3 t h4 e) rfl
      iexact Hr
    isplitl [Ho]; · iexact Ho
    isplitl [H0]; · iexact H0
    isplitl [H1]; · iexact H1
    isplitl [H2]; · iexact H2
    isplitl [H3]; · iexact H3
    isplitl [H4]; · iexact H4
    iexact H5

/-! ## The run and the frame -/

theorem mid_in (c : Dev nD) : (ΦA spec0 c : sProp 𝕄) ⊢ mid m c 0 := by
  unfold mid ΦA
  rw [scopedRest0_eq]
  iintro ⟨⟨⟨%f, HG⟩, ⟨%g, HU⟩⟩, Hr⟩
  isplitl [HG]
  · iexists f; isplitr
    · ipureintro; exact inv_zero _ _
    iapply (Entails.of_eq (owns_whole (c : Thread nD τ) cc0_scratch0 fullShare f).symm)
    iexact HG
  isplitl [HU]
  · iexists g; isplitr
    · ipureintro; exact inv_zero _ _
    iapply (Entails.of_eq (owns_whole (c : Thread nD τ) cc0_scratch1 fullShare g).symm)
    iexact HU
  iexact Hr

theorem mid_out (c : Dev nD) (n : ℕ) : mid m c n ⊢ (ΦA spec0 c : sProp 𝕄) := by
  unfold mid ΦA
  rw [scopedRest0_eq]
  iintro ⟨⟨%x, %_, HG⟩, ⟨%y, %_, HU⟩, Hr⟩
  isplitl [HG HU]
  · isplitl [HG]
    · iexists x
      iapply (Entails.of_eq (owns_whole (c : Thread nD τ) cc0_scratch0 fullShare x))
      iexact HG
    iexists y
    iapply (Entails.of_eq (owns_whole (c : Thread nD τ) cc0_scratch1 fullShare y))
    iexact HU
  iexact Hr

set_option backward.isDefEq.respectTransparency.types false in
/-- Every execution ends, with every array of the pipeline at what the proof data say. -/
theorem run_main_quiescent : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl)
    (hin := fun c => mid_in m c) (hout := fun c => mid_out m c _)

theorem run_main : θ_run defs (onTc (τ := τ) (main (F := F))) (s₀ m ρ) (fun r => Pipeline.FramePost cfgs (dats m) 0 (V m) r) :=
  (θ_run defs _ _).mono (fun _ h => h.1) (run_main_quiescent m ρ)

theorem frame_at : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (fun _ _ => rfl) (run_main m ρ)) ((θ_run defs _ _).mono (fun _ h => h.2) (run_main_quiescent m ρ))

end Cert.FfnIdeal.Hand

end
-- ==== Proof.FfnValue.lean ====
/- The activation of the feed-forward part and the cast down weights, read at an index. Past the first four grid points,
   point `t` writes rows `t % 4` and columns `t / 4 - 1` of the activation, from a row block of the input and from the two
   weight tiles whose four pieces were cast over points `4 * (t / 4 - 1)` to `4 * (t / 4 - 1) + 3`; and it writes block
   `t - 4` of the cast down weights. -/
module

public import proofs.«01_k».proof.Proof.FfnIFrame
public import proofs.«01_k».proof.Proof.Gen.FfnRefIdeal.Read
public import Idealize.ShloMosaic.Lib.Pointwise
public import Idealize.ShloMosaic.Lib.IdealHost

@[expose] public section

set_option maxRecDepth 16384

noncomputable section

namespace Cert.FfnIdeal.Product

open Cert.FfnIdeal Cert.FfnIdeal.Gen Cert.FfnIdeal.Hand
open Idealize.ShloMosaic Idealize.ShloMosaic.TcCoe Idealize.SL.Sem
open Idealize.ShloMosaic.Pipeline (Dat)

/-- One product of the input with the first of four weight matrices. -/
def prod (x : FVec Ideal S8192x4096 .bf16) (w : FVec Ideal S4x4096x11008 .f32) (R : Fin 8192) (C : Fin 11008) : EReal :=
  ∑ k : Fin 4096, (x (ValueIdx.ix2 R k) : EReal) * w (ValueIdx.ix3 0 k C)

/-- The gate's product times its logistic, times the up product. -/
def gated (g u : EReal) : EReal := g * Ideal.logistic g * u

/-- The activation as a function of the input and the two weights. -/
def act (x : FVec Ideal S8192x4096 .bf16) (wg wu : FVec Ideal S4x4096x11008 .f32) : FVec Ideal S8192x11008 .bf16 :=
  fun i => gated (prod x wg (i 0) (i 1)) (prod x wu (i 0) (i 1))

/-- The first of the four down weights. -/
def down (w : FVec Ideal S4x11008x4096 .f32) : FVec Ideal S11008x4096 .bf16 := fun i => w (ValueIdx.ix3 0 (i 0) (i 1))

/-! ## The values stored -/

theorem pay1_apply (v : Vec Ideal S1x1024x256 .f32) (z : S1x1024x256.Idx) : k0_pay1 (F := Ideal) v z = v z := by
  pointwise [k0_pay1]

theorem pay2_apply (v : Vec Ideal S1x1024x256 .f32) (z : S1x1024x256.Idx) : k0_pay2 (F := Ideal) v z = v z := by
  pointwise [k0_pay2]

theorem pay3_apply (v : Vec Ideal S1x64x4096 .f32) (j : S64x4096.Idx) : k0_pay3 (F := Ideal) v j = v (ValueIdx.ix3 0 (j 0) (j 1)) := by
  pointwise [k0_pay3]
  rfl

theorem pay7_apply (g u : Vec Ideal S1x4096x256 .bf16) (x : Vec Ideal S2048x4096 .bf16) (j : S2048x256.Idx) :
    k0_pay7 (F := Ideal) g u x j
      = gated (∑ k : Fin 4096, (x (ValueIdx.ix2 (j 0) k) : EReal) * g (ValueIdx.ix3 0 k (j 1)))
          (∑ k : Fin 4096, (x (ValueIdx.ix2 (j 0) k) : EReal) * u (ValueIdx.ix3 0 k (j 1))) := by
  pointwise [k0_pay7]
  rfl

/-! ## The reference at an index -/

theorem ref_gate (x : FVec Ideal S8192x4096 .bf16) (w : FVec Ideal S4x4096x11008 .f32) (j : S8192x11008.Idx) :
    FfnRefIdeal.Read.val_main_v3 (F := Ideal) x w j = prod x w (j 0) (j 1) := by
  rw [FfnRefIdeal.Read.val_main_v3_apply]
  refine Finset.sum_congr rfl fun k _ => ?_
  rw [FfnRefIdeal.Read.val_main_v2_apply, FfnRefIdeal.Read.val_main_v1_apply]
  have hk := k.isLt
  have hj : (j 1).val < 11008 := (j 1).isLt
  refine congrArg₂ (· * ·) (congrArg x (Shape.idx_ext₂ rfl rfl)) (congrArg w (funext fun a => Fin.ext ?_))
  match a with
  | ⟨0, _⟩ => rfl
  | ⟨1, _⟩ => show (k.val * 11008 + (j 1).val) / 11008 % 4096 = k.val; omega
  | ⟨2, _⟩ => show (k.val * 11008 + (j 1).val) % 11008 = (j 1).val; omega

theorem ref_up (x : FVec Ideal S8192x4096 .bf16) (w : FVec Ideal S4x4096x11008 .f32) (j : S8192x11008.Idx) :
    FfnRefIdeal.Read.val_main_v7 (F := Ideal) x w j = prod x w (j 0) (j 1) :=
  (show FfnRefIdeal.Read.val_main_v7 (F := Ideal) x w = FfnRefIdeal.Read.val_main_v3 (F := Ideal) x w from rfl) ▸ ref_gate x w j

theorem ref_act (x : FVec Ideal S8192x4096 .bf16) (wg wu : FVec Ideal S4x4096x11008 .f32) :
    FfnRefIdeal.Read.val_main_v9 (F := Ideal) x wg wu = act x wg wu := by
  funext j
  have one : (FloatOps.ofBits .f32 0x3F800000#32 : Ideal .f32) = (1 : EReal) := Ideal.ofBits_one_f32
  rw [FfnRefIdeal.Read.val_main_v9_apply, FfnRefIdeal.Read.val_main_v8_apply, FfnRefIdeal.Read.val_main_v4_apply,
    FfnRefIdeal.Read.val_main_call0_v5_apply, FfnRefIdeal.Read.val_main_call0_v4_apply, FfnRefIdeal.Read.val_main_call0_cst_0_apply,
    FfnRefIdeal.Read.val_main_call0_v3_apply, FfnRefIdeal.Read.val_main_call0_v2_apply, FfnRefIdeal.Read.val_main_call0_cst_apply,
    FfnRefIdeal.Read.val_main_call0_v1_apply, FfnRefIdeal.Read.val_main_call0_v0_apply, ref_gate, ref_up, one]
  rfl

theorem ref_down (w : FVec Ideal S4x11008x4096 .f32) : FfnRefIdeal.Read.val_main_v12 (F := Ideal) w = down w := by
  funext j
  rw [FfnRefIdeal.Read.val_main_v12_apply, FfnRefIdeal.Read.val_main_v11_apply, FfnRefIdeal.Read.val_main_v10_apply]
  have h0 : (j 0).val < 11008 := (j 0).isLt
  have h1 : (j 1).val < 4096 := (j 1).isLt
  refine congrArg w (funext fun a => Fin.ext ?_)
  match a with
  | ⟨0, _⟩ => rfl
  | ⟨1, _⟩ => show ((j 0).val * 4096 + (j 1).val) / 4096 % 11008 = (j 0).val; omega
  | ⟨2, _⟩ => show ((j 0).val * 4096 + (j 1).val) % 4096 = (j 1).val; omega

/-! ## Where the windows lie at each grid point -/

theorem idx0 : ∀ t : Fin grid0.N, 4 ≤ t.val → win0_0.index t 0 = t.val % 4 ∧ win0_0.index t 1 = 0 := by decide +kernel
theorem idx1 : ∀ t : Fin grid0.N, win0_1.index t 0 = 0 ∧ win0_1.index t 1 = t.val % 4 ∧ win0_1.index t 2 = min (t.val / 4) 42 := by decide +kernel
theorem idx2 : ∀ t : Fin grid0.N, win0_2.index t 0 = 0 ∧ win0_2.index t 1 = t.val % 4 ∧ win0_2.index t 2 = min (t.val / 4) 42 := by decide +kernel
theorem idx3 : ∀ t : Fin grid0.N, win0_3.index t 0 = 0 ∧ win0_3.index t 1 = t.val - 4 ∧ win0_3.index t 2 = 0 := by decide +kernel
theorem idx4 : ∀ t : Fin grid0.N, 4 ≤ t.val → win0_4.index t 0 = t.val % 4 ∧ win0_4.index t 1 = t.val / 4 - 1 := by decide +kernel
theorem idx5 : ∀ t : Fin grid0.N, win0_5.index t 0 = t.val - 4 ∧ win0_5.index t 1 = 0 := by decide +kernel
theorem flushes4 : ∀ t : Fin grid0.N, 4 ≤ t.val → win0_4.flush t = true := by decide +kernel
theorem flushes5 : ∀ t : Fin grid0.N, 4 ≤ t.val → win0_5.flush t = true := by decide +kernel

theorem late4 (t : Fin grid0.N) (h : win0_4.flush t = true) : 4 ≤ t.val := by
  by_contra hlt
  exact Bool.false_ne_true ((flush4 t (Nat.not_le.mp hlt)).symm.trans h)
theorem late5 (t : Fin grid0.N) (h : win0_5.flush t = true) : 4 ≤ t.val := by
  by_contra hlt
  exact Bool.false_ne_true ((flush5 t (Nat.not_le.mp hlt)).symm.trans h)

variable (m : (ℓ : Loc nD τ sig) → Buf (Elt Ideal) ℓ)

abbrev xOf (c : Dev nD) : FVec Ideal S8192x4096 .bf16 := m ((c : Thread nD τ).loc main_arg0)
abbrev gOf (c : Dev nD) : FVec Ideal S4x4096x11008 .f32 := m ((c : Thread nD τ).loc main_arg1)
abbrev uOf (c : Dev nD) : FVec Ideal S4x4096x11008 .f32 := m ((c : Thread nD τ).loc main_arg2)
abbrev dOf (c : Dev nD) : FVec Ideal S4x11008x4096 .f32 := m ((c : Thread nD τ).loc main_arg3)

theorem iblk0_apply (c : Dev nD) (t : Fin grid0.N) (ht : 4 ≤ t.val) (r : Fin 2048) (k : Fin 4096) (R : Fin 8192)
    (hR : R.val = t.val % 4 * 2048 + r.val) :
    iblk m c 0 t (ValueIdx.ix2 r k) = xOf m c (ValueIdx.ix2 R k) := by
  show xOf m c ((win0_0.rect t).emb (ValueIdx.ix2 r k)) = _
  refine congrArg _ (Shape.idx_ext₂ ?_ ?_)
  · rw [win0_0.rect_emb_val, (idx0 t ht).1]; exact hR.symm
  · rw [win0_0.rect_emb_val, (idx0 t ht).2]; show 0 * _ + k.val = k.val; omega

theorem iblk1_apply (c : Dev nD) (t : Fin grid0.N) (z : S1x1024x256.Idx) (K : Fin 4096) (C : Fin 11008)
    (hK : K.val = t.val % 4 * 1024 + (z 1).val) (hC : C.val = min (t.val / 4) 42 * 256 + (z 2).val) :
    iblk m c 1 t z = gOf m c (ValueIdx.ix3 0 K C) := by
  show gOf m c ((win0_1.rect t).emb z) = _
  refine congrArg _ (funext fun a => Fin.ext ?_)
  match a with
  | ⟨0, _⟩ => refine (win0_1.rect_emb_val t z 0).trans ?_; rw [(idx1 t).1]; have : (z 0).val < 1 := (z 0).isLt; show 0 * _ + (z 0).val = 0; omega
  | ⟨1, _⟩ => refine (win0_1.rect_emb_val t z 1).trans ?_; rw [(idx1 t).2.1]; exact hK.symm
  | ⟨2, _⟩ => refine (win0_1.rect_emb_val t z 2).trans ?_; rw [(idx1 t).2.2]; exact hC.symm

theorem iblk2_apply (c : Dev nD) (t : Fin grid0.N) (z : S1x1024x256.Idx) (K : Fin 4096) (C : Fin 11008)
    (hK : K.val = t.val % 4 * 1024 + (z 1).val) (hC : C.val = min (t.val / 4) 42 * 256 + (z 2).val) :
    iblk m c 2 t z = uOf m c (ValueIdx.ix3 0 K C) := by
  show uOf m c ((win0_2.rect t).emb z) = _
  refine congrArg _ (funext fun a => Fin.ext ?_)
  match a with
  | ⟨0, _⟩ => refine (win0_2.rect_emb_val t z 0).trans ?_; rw [(idx2 t).1]; have : (z 0).val < 1 := (z 0).isLt; show 0 * _ + (z 0).val = 0; omega
  | ⟨1, _⟩ => refine (win0_2.rect_emb_val t z 1).trans ?_; rw [(idx2 t).2.1]; exact hK.symm
  | ⟨2, _⟩ => refine (win0_2.rect_emb_val t z 2).trans ?_; rw [(idx2 t).2.2]; exact hC.symm

theorem iblk3_apply (c : Dev nD) (t : Fin grid0.N) (r : Fin 64) (l : Fin 4096) (R : Fin 11008)
    (hR : R.val = (t.val - 4) * 64 + r.val) :
    iblk m c 3 t (ValueIdx.ix3 0 r l) = dOf m c (ValueIdx.ix3 0 R l) := by
  show dOf m c ((win0_3.rect t).emb (ValueIdx.ix3 0 r l)) = _
  refine congrArg _ (funext fun a => Fin.ext ?_)
  match a with
  | ⟨0, _⟩ => refine (win0_3.rect_emb_val t _ 0).trans ?_; rw [(idx3 t).1]; show 0 * _ + 0 = 0; omega
  | ⟨1, _⟩ => refine (win0_3.rect_emb_val t _ 1).trans ?_; rw [(idx3 t).2.1]; exact hR.symm
  | ⟨2, _⟩ => refine (win0_3.rect_emb_val t _ 2).trans ?_; rw [(idx3 t).2.2]; show 0 * _ + l.val = l.val; omega

/-! ## The tiles multiplied -/

theorem tile_apply (pc : Fin cfg0.N → Vec Ideal S1x1024x256 .bf16) (t p : Fin cfg0.N) (k : Fin 4096) (r : Fin 1024) (l : Fin 256)
    (hp : p.val = 4 * (t.val / 4 - 1) + k.val / 1024) (hr : r.val = k.val % 1024) :
    tile pc t (ValueIdx.ix3 0 k l) = pc p (ValueIdx.ix3 0 r l) := by
  unfold tile
  refine congr (congrArg pc (Fin.ext hp.symm)) (funext fun a => Fin.ext ?_)
  match a with
  | ⟨0, _⟩ => rfl
  | ⟨1, _⟩ => exact hr.symm
  | ⟨2, _⟩ => rfl

theorem tileG_apply (c : Dev nD) (t : Fin cfg0.N) (ht : 4 ≤ t.val) (k : Fin 4096) (l : Fin 256) (C : Fin 11008)
    (hC : C.val = (t.val / 4 - 1) * 256 + l.val) : tile (pG m c) t (ValueIdx.ix3 0 k l) = gOf m c (ValueIdx.ix3 0 k C) := by
  have hk := k.isLt
  have hlt : t.val < 176 := t.isLt
  have hp : 4 * (t.val / 4 - 1) + k.val / 1024 < 176 := by omega
  rw [tile_apply (pG m c) t ⟨_, hp⟩ k ⟨k.val % 1024, Nat.mod_lt _ (by decide)⟩ l rfl rfl, pG, pay1_apply]
  refine iblk1_apply m c _ _ k C ?_ ?_
  · show k.val = (4 * (t.val / 4 - 1) + k.val / 1024) % 4 * 1024 + k.val % 1024; omega
  · show C.val = min ((4 * (t.val / 4 - 1) + k.val / 1024) / 4) 42 * 256 + l.val; omega

theorem tileU_apply (c : Dev nD) (t : Fin cfg0.N) (ht : 4 ≤ t.val) (k : Fin 4096) (l : Fin 256) (C : Fin 11008)
    (hC : C.val = (t.val / 4 - 1) * 256 + l.val) : tile (pU m c) t (ValueIdx.ix3 0 k l) = uOf m c (ValueIdx.ix3 0 k C) := by
  have hk := k.isLt
  have hlt : t.val < 176 := t.isLt
  have hp : 4 * (t.val / 4 - 1) + k.val / 1024 < 176 := by omega
  rw [tile_apply (pU m c) t ⟨_, hp⟩ k ⟨k.val % 1024, Nat.mod_lt _ (by decide)⟩ l rfl rfl, pU, pay2_apply]
  refine iblk2_apply m c _ _ k C ?_ ?_
  · show k.val = (4 * (t.val / 4 - 1) + k.val / 1024) % 4 * 1024 + k.val % 1024; omega
  · show C.val = min ((4 * (t.val / 4 - 1) + k.val / 1024) / 4) 42 * 256 + l.val; omega

/-! ## The final arrays -/

theorem flushed_act (c : Dev nD) (t : Fin cfg0.N) (hf : (cfg0.win 4).flush t = true) :
    (dats m 0 c).flushed 4 t = ((cfg0.win 4).blk t).view.read (Elt Ideal) (act (xOf m c) (gOf m c) (uOf m c)) := by
  have ht : 4 ≤ t.val := late4 t hf
  show (cfg0.win 4).cut (grid0.coords t) ((dats m 0 c).after 4 t) = _
  rw [after0_4]
  funext j
  show actAt m c t j = act (xOf m c) (gOf m c) (uOf m c) ((win0_4.rect t).emb j)
  have h0 : (((win0_4.rect t).emb j 0 : Fin _) : Nat) = t.val % 4 * 2048 + (j 0).val := by
    rw [win0_4.rect_emb_val, (idx4 t ht).1]; rfl
  have h1 : (((win0_4.rect t).emb j 1 : Fin _) : Nat) = (t.val / 4 - 1) * 256 + (j 1).val := by
    rw [win0_4.rect_emb_val, (idx4 t ht).2]; rfl
  refine (pay7_apply _ _ _ j).trans (congrArg₂ gated ?_ ?_)
  · refine Finset.sum_congr rfl fun k _ => ?_
    exact congrArg₂ (· * ·) (iblk0_apply m c t ht (j 0) k ((win0_4.rect t).emb j 0) h0) (tileG_apply m c t ht k (j 1) ((win0_4.rect t).emb j 1) h1)
  · refine Finset.sum_congr rfl fun k _ => ?_
    exact congrArg₂ (· * ·) (iblk0_apply m c t ht (j 0) k ((win0_4.rect t).emb j 0) h0) (tileU_apply m c t ht k (j 1) ((win0_4.rect t).emb j 1) h1)

theorem flushed_down (c : Dev nD) (t : Fin cfg0.N) :
    (dats m 0 c).flushed 5 t = ((cfg0.win 5).blk t).view.read (Elt Ideal) (down (dOf m c)) := by
  show (cfg0.win 5).cut (grid0.coords t) ((dats m 0 c).after 5 t) = _
  rw [after0_5]
  funext j
  show downAt m c t j = down (dOf m c) ((win0_5.rect t).emb j)
  have h0 : (((win0_5.rect t).emb j 0 : Fin _) : Nat) = (t.val - 4) * 64 + (j 0).val := by
    rw [win0_5.rect_emb_val, (idx5 t).1]; rfl
  have h1 : ((win0_5.rect t).emb j 1 : Fin 4096) = j 1 := Fin.ext (by
    rw [win0_5.rect_emb_val, (idx5 t).2]; show 0 * _ + (j 1).val = (j 1).val; omega)
  refine (pay3_apply _ j).trans ((iblk3_apply m c t (j 0) (j 1) ((win0_5.rect t).emb j 0) h0).trans ?_)
  show dOf m c (ValueIdx.ix3 0 ((win0_5.rect t).emb j 0) (j 1)) = dOf m c (ValueIdx.ix3 0 ((win0_5.rect t).emb j 0) ((win0_5.rect t).emb j 1))
  rw [h1]

theorem mem_act (t : Fin grid0.N) (i : S8192x11008.Idx) :
    i ∈ ((cfg0.win 4).blk t).view.set ↔ ∀ a : Fin 2, win0_4.index t a * S2048x256.size a ≤ (i a).val
      ∧ (i a).val < win0_4.index t a * S2048x256.size a + S2048x256.size a := by
  show i ∈ ((View.whole main_v0_0).slice (win0_4.rect t)).set ↔ _
  rw [View.set_slice_whole, Rect.mem_set_unit]
  rfl

theorem mem_down (t : Fin grid0.N) (i : S11008x4096.Idx) :
    i ∈ ((cfg0.win 5).blk t).view.set ↔ ∀ a : Fin 2, win0_5.index t a * S64x4096.size a ≤ (i a).val
      ∧ (i a).val < win0_5.index t a * S64x4096.size a + S64x4096.size a := by
  show i ∈ ((View.whole main_v0_1).slice (win0_5.rect t)).set ↔ _
  rw [View.set_slice_whole, Rect.mem_set_unit]
  rfl

theorem covered_act (i : S8192x11008.Idx) : ∃ t : Fin cfg0.N, (cfg0.win 4).flush t = true ∧ i ∈ ((cfg0.win 4).blk t).view.set := by
  have h0 : (i 0).val < 8192 := (i 0).isLt
  have h1 : (i 1).val < 11008 := (i 1).isLt
  have hN : grid0.N = 176 := by decide
  have ht : 4 ≤ ((i 1).val / 256 + 1) * 4 + (i 0).val / 2048 := by omega
  refine ⟨⟨((i 1).val / 256 + 1) * 4 + (i 0).val / 2048, by show _ < grid0.N; omega⟩, flushes4 _ ht, ?_⟩
  rw [mem_act]
  intro a
  match a with
  | ⟨0, _⟩ =>
    show win0_4.index _ 0 * 2048 ≤ (i 0).val ∧ (i 0).val < win0_4.index _ 0 * 2048 + 2048
    rw [(idx4 _ ht).1]; dsimp only; omega
  | ⟨1, _⟩ =>
    show win0_4.index _ 1 * 256 ≤ (i 1).val ∧ (i 1).val < win0_4.index _ 1 * 256 + 256
    rw [(idx4 _ ht).2]; dsimp only; omega

theorem covered_down (i : S11008x4096.Idx) : ∃ t : Fin cfg0.N, (cfg0.win 5).flush t = true ∧ i ∈ ((cfg0.win 5).blk t).view.set := by
  have h0 : (i 0).val < 11008 := (i 0).isLt
  have h1 : (i 1).val < 4096 := (i 1).isLt
  have hN : grid0.N = 176 := by decide
  refine ⟨⟨(i 0).val / 64 + 4, by show _ < grid0.N; omega⟩, flushes5 _ (Nat.le_add_left _ _), ?_⟩
  rw [mem_down]
  intro a
  match a with
  | ⟨0, _⟩ =>
    show win0_5.index _ 0 * 64 ≤ (i 0).val ∧ (i 0).val < win0_5.index _ 0 * 64 + 64
    rw [(idx5 _).1]; dsimp only; omega
  | ⟨1, _⟩ =>
    show win0_5.index _ 1 * 4096 ≤ (i 1).val ∧ (i 1).val < win0_5.index _ 1 * 4096 + 4096
    rw [(idx5 _).2]; omega

theorem final_act (c : Dev nD) : (dats m 0 c).arrAt 4 cfg0.N = act (xOf m c) (gOf m c) (uOf m c) :=
  (dats m 0 c).arrAt_eq_of_cover 4 (act (xOf m c) (gOf m c) (uOf m c)) (fun t hf => flushed_act m c t hf) covered_act

theorem final_down (c : Dev nD) : (dats m 0 c).arrAt 5 cfg0.N = down (dOf m c) :=
  (dats m 0 c).arrAt_eq_of_cover 5 (down (dOf m c)) (fun t _ => flushed_down m c t) covered_down

/-- The kernel's run: both results, and the arguments as they were. -/
theorem run (ρ : Dev nD → PrngReg) : θ_run defs (onTc (τ := τ) (main (F := Ideal))) ⟨m, fun _ => 0, ρ⟩ (fun r => ∀ c : Dev nD,
      r.2.mem ((c.tc : Thread nD τ).loc main_v0_0) = act (xOf m c) (gOf m c) (uOf m c)
      ∧ r.2.mem ((c.tc : Thread nD τ).loc main_v0_1) = down (dOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.2 c).1 4).trans (final_act m c), ((h.2 c).1 5).trans (final_down m c), h.1.1 c⟩)
    (θ_run_and (frame_at m ρ) (run_main m ρ))

end Cert.FfnIdeal.Product

end
-- ==== Proof.MobaAtt.lean ====
module
public import proofs.«01_k».proof.Proof.Gen.MobaIdeal.Frame
public import Idealize.ShloMosaic.Lib.Pointwise
public import Idealize.ShloMosaic.Lib.Pipeline.ValueKit
public import Idealize.ShloMosaic.Lib.Pipeline.ReadBack

/-!
# The attention call of the mixture of block attention: one query block at a time

The kernel forms the scores of all allowed keys of a block of 256 queries, adds the bias of the relative position,
and takes a softmax in powers of two. Here each of the eight query blocks is read as one function of the row.
-/

@[expose] public section
set_option maxHeartbeats 4000000
set_option maxRecDepth 16384
noncomputable section
namespace Cert.MobaIdeal.Att
open Cert.MobaIdeal Cert.MobaIdeal.Gen
open Idealize.ShloMosaic Idealize.ShloMosaic.TcCoe Idealize.SL.Sem

/-- A softmax in powers of two of the logits `l`, applied to the values `v`. -/
def att (n : Nat) (l v : Fin n → EReal) : EReal :=
  Ideal.div (∑ k, Ideal.exp2 (l k - Finset.univ.fold max ⊥ l) * v k)
    (∑ k, Ideal.exp2 (l k - Finset.univ.fold max ⊥ l))

theorem fold_max_eq_sup {n : Nat} (l : Fin n → EReal) : Finset.univ.fold max ⊥ l = Finset.univ.sup l := rfl

/-- A sum whose terms past the first `n` vanish is the sum of the first `n`. -/
theorem sum_castLE {n m : Nat} (h : n ≤ m) (f : Fin m → EReal) (hf : ∀ k : Fin m, n ≤ k.val → f k = 0) :
    ∑ k : Fin n, f (Fin.castLE h k) = ∑ k, f k := by
  obtain ⟨p, rfl⟩ : ∃ p, m = n + p := ⟨m - n, by omega⟩
  rw [Fin.sum_univ_add]
  rw [show (∑ i : Fin p, f (Fin.natAdd n i)) = 0 from Finset.sum_eq_zero fun i _ => hf _ (by simp)]
  rw [add_zero]; rfl

/-- Keys of logit −∞ past the first `n` change nothing. -/
theorem att_block {n : Nat} (h : n ≤ 2048) (l0 v0 : Fin n → EReal) (l v : Fin 2048 → EReal) {B : EReal} (hB : B = ⊥)
    (hl : ∀ k, l0 k = l (Fin.castLE h k)) (hv : ∀ k, v0 k = v (Fin.castLE h k))
    (hb : ∀ k : Fin 2048, n ≤ k.val → l k = ⊥) :
    Ideal.div (∑ k, Ideal.exp2 (l0 k - Finset.univ.fold max B l0) * v0 k)
      (∑ k, Ideal.exp2 (l0 k - Finset.univ.fold max B l0)) = att 2048 l v := by
  subst hB
  have hM : Finset.univ.fold max ⊥ l0 = Finset.univ.fold max ⊥ l := by
    rw [fold_max_eq_sup, fold_max_eq_sup]
    apply le_antisymm
    · refine Finset.sup_le fun k _ => ?_
      rw [hl]; exact Finset.le_sup (Finset.mem_univ _)
    · refine Finset.sup_le fun k _ => ?_
      by_cases hk : k.val < n
      · have := hl ⟨k.val, hk⟩
        rw [show l k = l0 ⟨k.val, hk⟩ from this.symm]
        exact Finset.le_sup (Finset.mem_univ _)
      · rw [hb k (not_lt.mp hk)]; exact bot_le
  have key : ∀ f : Fin 2048 → EReal, (∀ k : Fin 2048, n ≤ k.val → f k = 0) →
      ∑ k : Fin n, f (Fin.castLE h k) = ∑ k, f k := fun f hf => sum_castLE h f hf
  unfold att
  rw [hM]
  have hz : ∀ k : Fin 2048, n ≤ k.val → Ideal.exp2 (l k - Finset.univ.fold max ⊥ l) = 0 := by
    intro k hk
    rw [hb k hk, sub_eq_add_neg, EReal.bot_add]; rfl
  congr 1
  · rw [← key _ (fun k hk => by rw [hz k hk, zero_mul])]
    exact Finset.sum_congr rfl fun k _ => by rw [hl, hv]
  · rw [← key _ hz]
    exact Finset.sum_congr rfl fun k _ => by rw [hl]

theorem bot_bits : Ideal.ofBits .f32 0xFF800000#32 = ⊥ := by
  simp [Ideal.ofBits, Ideal.ieee]

/-- The factor the scores are scaled by. -/
def scaleC : EReal := Named.named (F := Ideal) (φ := .f32) κ "scale" 0x3E0293EE#32

/-- The logit of query `t` at key `k`, in the kernel's base-two scale: the scaled score and the bias of the distance
    (one number two blocks away or more, a tile one block away, a tile in the own block), −∞ in the blocks ahead. -/
def klog (S : Fin 2048 → Fin 2048 → EReal) (far : EReal) (near diag : Vec Ideal S1x256x256 .f32) (t k : Fin 2048) : EReal :=
  if t.val / 256 < k.val / 256 then ⊥
  else S t k * scaleC +
    (if k.val / 256 + 2 ≤ t.val / 256 then far
     else if k.val / 256 + 1 ≤ t.val / 256 then near (ix3 0 ⟨t.val % 256, Nat.mod_lt _ (by decide)⟩ ⟨k.val % 256, Nat.mod_lt _ (by decide)⟩)
     else diag (ix3 0 ⟨t.val % 256, Nat.mod_lt _ (by decide)⟩ ⟨k.val % 256, Nat.mod_lt _ (by decide)⟩))

theorem klog_far {S far near diag} {t k : Fin 2048} (h : k.val / 256 + 2 ≤ t.val / 256) :
    klog S far near diag t k = S t k * scaleC + far := by
  unfold klog; rw [if_neg (by omega), if_pos h]

theorem klog_near {S far near diag} {t k : Fin 2048} (h : k.val / 256 + 1 = t.val / 256) (a b : Fin 256)
    (ha : a.val = t.val % 256) (hb : b.val = k.val % 256) :
    klog S far near diag t k = S t k * scaleC + near (ix3 0 a b) := by
  obtain rfl : a = ⟨t.val % 256, Nat.mod_lt _ (by decide)⟩ := Fin.ext ha
  obtain rfl : b = ⟨k.val % 256, Nat.mod_lt _ (by decide)⟩ := Fin.ext hb
  unfold klog; rw [if_neg (by omega), if_neg (by omega), if_pos (by omega)]

theorem klog_diag {S far near diag} {t k : Fin 2048} (h : k.val / 256 = t.val / 256) (a b : Fin 256)
    (ha : a.val = t.val % 256) (hb : b.val = k.val % 256) :
    klog S far near diag t k = S t k * scaleC + diag (ix3 0 a b) := by
  obtain rfl : a = ⟨t.val % 256, Nat.mod_lt _ (by decide)⟩ := Fin.ext ha
  obtain rfl : b = ⟨k.val % 256, Nat.mod_lt _ (by decide)⟩ := Fin.ext hb
  unfold klog; rw [if_neg (by omega), if_neg (by omega), if_neg (by omega)]

theorem klog_ahead {S far near diag} {t k : Fin 2048} (h : t.val / 256 < k.val / 256) :
    klog S far near diag t k = ⊥ := by
  unfold klog; rw [if_pos h]

/-- Query block 0: its rows attend to the first 256 keys. -/
theorem block0 (S : Fin 2048 → Fin 2048 → EReal) (far : EReal) (s : Vec Ideal S256x256 .f32) (n d : Vec Ideal S1x256x256 .f32)
    (v : Vec Ideal S1x256x128 .bf16) (V : Fin 2048 → Fin 128 → EReal)
    (hs : ∀ (r : Fin 256) (k : Fin 256), s (ix2 r k) = S ⟨r.val, by omega⟩ (Fin.castLE (by decide) k))
    (hv : ∀ (k : Fin 256) (e : Fin 128), v (ix3 0 k e) = V (Fin.castLE (by decide) k) e) (r : Fin 256) (e : Fin 128) :
    k1_pay22 (F := Ideal) (k1_pay20 s d) (k1_pay21 s d v) (ix3 0 r e)
      = att 2048 (klog S far n d ⟨r.val, by omega⟩) (fun k => V k e) := by
  pointwise [k1_pay19, k1_pay20, k1_pay21, k1_pay22]
  refine att_block (n := 256) (by decide) _ _ (klog S far n d ⟨r.val, by omega⟩) (fun k => V k e) bot_bits ?_ (fun k => hv k e)
    (fun k hk => klog_ahead (by show (r.val) / 256 < k.val / 256; omega))
  intro k
  show (s (ix2 r k) * scaleC + d (ix3 0 r k)) = klog S far n d ⟨r.val, by omega⟩ (Fin.castLE (by decide) k)
  rw [klog_diag (a := r) (b := k) (by simp; omega) (by simp; omega) (by simp; omega), ← hs r k]

/-- Query block 1: its rows attend to the first 512 keys. -/
theorem block1 (S : Fin 2048 → Fin 2048 → EReal) (far : EReal) (s : Vec Ideal S256x512 .f32) (n d : Vec Ideal S1x256x256 .f32)
    (v : Vec Ideal S1x512x128 .bf16) (V : Fin 2048 → Fin 128 → EReal)
    (hs : ∀ (r : Fin 256) (k : Fin 512), s (ix2 r k) = S ⟨256 + r.val, by omega⟩ (Fin.castLE (by decide) k))
    (hv : ∀ (k : Fin 512) (e : Fin 128), v (ix3 0 k e) = V (Fin.castLE (by decide) k) e) (r : Fin 256) (e : Fin 128) :
    k1_pay28 (F := Ideal) (k1_pay25 s n d) (k1_pay26 s n d) (k1_pay27 v) (ix3 0 r e)
      = att 2048 (klog S far n d ⟨256 + r.val, by omega⟩) (fun k => V k e) := by
  have e24 : ∀ k : Fin 512, k1_pay24 (F := Ideal) s n d (ix2 r k)
      = Ideal.exp2 ((if h : k.val < 256 then s (ix2 r k) * scaleC + n (ix3 0 r ⟨k.val, h⟩) else s (ix2 r ⟨256 + (k.val - 256), by omega⟩) * scaleC + d (ix3 0 r ⟨k.val - 256, by omega⟩))
        - Finset.univ.fold max (Ideal.ofBits .f32 0xFF800000#32) (fun k : Fin 512 => if h : k.val < 256 then s (ix2 r k) * scaleC + n (ix3 0 r ⟨k.val, h⟩) else s (ix2 r ⟨256 + (k.val - 256), by omega⟩) * scaleC + d (ix3 0 r ⟨k.val - 256, by omega⟩))) := by
    intro k
    pointwise [k1_pay24]
    rfl
  pointwise [k1_pay25, k1_pay26, k1_pay27, k1_pay28]
  simp only [e24]
  refine att_block (n := 512) (by decide) _ _ (klog S far n d ⟨256 + r.val, by omega⟩) (fun k => V k e) bot_bits ?_ (fun k => hv k e)
    (fun k hk => klog_ahead (by show (256 + r.val) / 256 < k.val / 256; omega))
  intro k
  show (if h : k.val < 256 then s (ix2 r k) * scaleC + n (ix3 0 r ⟨k.val, h⟩) else s (ix2 r ⟨256 + (k.val - 256), by omega⟩) * scaleC + d (ix3 0 r ⟨k.val - 256, by omega⟩)) = klog S far n d ⟨256 + r.val, by omega⟩ (Fin.castLE (by decide) k)
  split_ifs with h1
  · rw [klog_near (a := r) (b := ⟨k.val, h1⟩) (by simp; omega) (by simp; omega) (by simp; omega), ← hs r k]
  · rw [klog_diag (a := r) (b := ⟨k.val - 256, by omega⟩) (by simp; omega) (by simp; omega) (by simp; omega), ← hs r k,
      show (⟨256 + (k.val - 256), by omega⟩ : Fin 512) = k from Fin.ext (by simp; omega)]

/-- Query block 2: its rows attend to the first 768 keys. -/
theorem block2 (S : Fin 2048 → Fin 2048 → EReal) (far : EReal) (s : Vec Ideal S256x768 .f32) (n d : Vec Ideal S1x256x256 .f32)
    (v : Vec Ideal S1x768x128 .bf16) (V : Fin 2048 → Fin 128 → EReal)
    (hs : ∀ (r : Fin 256) (k : Fin 768), s (ix2 r k) = S ⟨512 + r.val, by omega⟩ (Fin.castLE (by decide) k))
    (hv : ∀ (k : Fin 768) (e : Fin 128), v (ix3 0 k e) = V (Fin.castLE (by decide) k) e) (r : Fin 256) (e : Fin 128) :
    k1_pay33 (F := Ideal) (k1_pay31 far s n d) (k1_pay32 far s n d) v (ix3 0 r e)
      = att 2048 (klog S far n d ⟨512 + r.val, by omega⟩) (fun k => V k e) := by
  pointwise [k1_pay30, k1_pay31, k1_pay32, k1_pay33]
  refine att_block (n := 768) (by decide) _ _ (klog S far n d ⟨512 + r.val, by omega⟩) (fun k => V k e) bot_bits ?_ (fun k => hv k e)
    (fun k hk => klog_ahead (by show (512 + r.val) / 256 < k.val / 256; omega))
  intro k
  show (if h : k.val < 256 then s (ix2 r k) * scaleC + far else if h' : k.val - 256 < 256 then s (ix2 r ⟨256 + (k.val - 256), by omega⟩) * scaleC + n (ix3 0 r ⟨k.val - 256, h'⟩)
    else s (ix2 r ⟨512 + (k.val - 256 - 256), by omega⟩) * scaleC + d (ix3 0 r ⟨k.val - 256 - 256, by omega⟩)) = klog S far n d ⟨512 + r.val, by omega⟩ (Fin.castLE (by decide) k)
  split_ifs with h1 h2
  · rw [klog_far (by simp; omega), ← hs r k]
  · rw [klog_near (a := r) (b := ⟨k.val - 256, by omega⟩) (by simp; omega) (by simp; omega) (by simp; omega), ← hs r k,
      show (⟨256 + (k.val - 256), by omega⟩ : Fin 768) = k from Fin.ext (by simp; omega)]
  · rw [klog_diag (a := r) (b := ⟨k.val - 256 - 256, by omega⟩) (by simp; omega) (by simp; omega) (by simp; omega), ← hs r k,
      show (⟨512 + (k.val - 256 - 256), by omega⟩ : Fin 768) = k from Fin.ext (by simp; omega)]

/-- Query block 3: its rows attend to the first 1024 keys. -/
theorem block3 (S : Fin 2048 → Fin 2048 → EReal) (far : EReal) (s : Vec Ideal S256x1024 .f32) (n d : Vec Ideal S1x256x256 .f32)
    (v : Vec Ideal S1x1024x128 .bf16) (V : Fin 2048 → Fin 128 → EReal)
    (hs : ∀ (r : Fin 256) (k : Fin 1024), s (ix2 r k) = S ⟨768 + r.val, by omega⟩ (Fin.castLE (by decide) k))
    (hv : ∀ (k : Fin 1024) (e : Fin 128), v (ix3 0 k e) = V (Fin.castLE (by decide) k) e) (r : Fin 256) (e : Fin 128) :
    k1_pay36 (F := Ideal) (k1_pay35 far s n d) v (ix3 0 r e)
      = att 2048 (klog S far n d ⟨768 + r.val, by omega⟩) (fun k => V k e) := by
  pointwise [k1_pay35, k1_pay36]
  refine att_block (n := 1024) (by decide) _ _ (klog S far n d ⟨768 + r.val, by omega⟩) (fun k => V k e) bot_bits ?_ (fun k => hv k e)
    (fun k hk => klog_ahead (by show (768 + r.val) / 256 < k.val / 256; omega))
  intro k
  show (if h : k.val < 512 then s (ix2 r k) * scaleC + far else if h' : k.val - 512 < 256 then s (ix2 r ⟨512 + (k.val - 512), by omega⟩) * scaleC + n (ix3 0 r ⟨k.val - 512, h'⟩)
    else s (ix2 r ⟨768 + (k.val - 512 - 256), by omega⟩) * scaleC + d (ix3 0 r ⟨k.val - 512 - 256, by omega⟩)) = klog S far n d ⟨768 + r.val, by omega⟩ (Fin.castLE (by decide) k)
  split_ifs with h1 h2
  · rw [klog_far (by simp; omega), ← hs r k]
  · rw [klog_near (a := r) (b := ⟨k.val - 512, by omega⟩) (by simp; omega) (by simp; omega) (by simp; omega), ← hs r k,
      show (⟨512 + (k.val - 512), by omega⟩ : Fin 1024) = k from Fin.ext (by simp; omega)]
  · rw [klog_diag (a := r) (b := ⟨k.val - 512 - 256, by omega⟩) (by simp; omega) (by simp; omega) (by simp; omega), ← hs r k,
      show (⟨768 + (k.val - 512 - 256), by omega⟩ : Fin 1024) = k from Fin.ext (by simp; omega)]

/-- Query block 4: its rows attend to the first 1280 keys. -/
theorem block4 (S : Fin 2048 → Fin 2048 → EReal) (far : EReal) (s : Vec Ideal S256x1280 .f32) (n d : Vec Ideal S1x256x256 .f32)
    (v : Vec Ideal S1x1280x128 .bf16) (V : Fin 2048 → Fin 128 → EReal)
    (hs : ∀ (r : Fin 256) (k : Fin 1280), s (ix2 r k) = S ⟨1024 + r.val, by omega⟩ (Fin.castLE (by decide) k))
    (hv : ∀ (k : Fin 1280) (e : Fin 128), v (ix3 0 k e) = V (Fin.castLE (by decide) k) e) (r : Fin 256) (e : Fin 128) :
    k1_pay39 (F := Ideal) (k1_pay38 far s n d) v (ix3 0 r e)
      = att 2048 (klog S far n d ⟨1024 + r.val, by omega⟩) (fun k => V k e) := by
  pointwise [k1_pay38, k1_pay39]
  refine att_block (n := 1280) (by decide) _ _ (klog S far n d ⟨1024 + r.val, by omega⟩) (fun k => V k e) bot_bits ?_ (fun k => hv k e)
    (fun k hk => klog_ahead (by show (1024 + r.val) / 256 < k.val / 256; omega))
  intro k
  show (if h : k.val < 768 then s (ix2 r k) * scaleC + far else if h' : k.val - 768 < 256 then s (ix2 r ⟨768 + (k.val - 768), by omega⟩) * scaleC + n (ix3 0 r ⟨k.val - 768, h'⟩)
    else s (ix2 r ⟨1024 + (k.val - 768 - 256), by omega⟩) * scaleC + d (ix3 0 r ⟨k.val - 768 - 256, by omega⟩)) = klog S far n d ⟨1024 + r.val, by omega⟩ (Fin.castLE (by decide) k)
  split_ifs with h1 h2
  · rw [klog_far (by simp; omega), ← hs r k]
  · rw [klog_near (a := r) (b := ⟨k.val - 768, by omega⟩) (by simp; omega) (by simp; omega) (by simp; omega), ← hs r k,
      show (⟨768 + (k.val - 768), by omega⟩ : Fin 1280) = k from Fin.ext (by simp; omega)]
  · rw [klog_diag (a := r) (b := ⟨k.val - 768 - 256, by omega⟩) (by simp; omega) (by simp; omega) (by simp; omega), ← hs r k,
      show (⟨1024 + (k.val - 768 - 256), by omega⟩ : Fin 1280) = k from Fin.ext (by simp; omega)]

/-- Query block 5: its rows attend to the first 1536 keys. -/
theorem block5 (S : Fin 2048 → Fin 2048 → EReal) (far : EReal) (s : Vec Ideal S256x1536 .f32) (n d : Vec Ideal S1x256x256 .f32)
    (v : Vec Ideal S1x1536x128 .bf16) (V : Fin 2048 → Fin 128 → EReal)
    (hs : ∀ (r : Fin 256) (k : Fin 1536), s (ix2 r k) = S ⟨1280 + r.val, by omega⟩ (Fin.castLE (by decide) k))
    (hv : ∀ (k : Fin 1536) (e : Fin 128), v (ix3 0 k e) = V (Fin.castLE (by decide) k) e) (r : Fin 256) (e : Fin 128) :
    k1_pay45 (F := Ideal) (k1_pay42 far s) (k1_pay43 s n) (k1_pay44 s) d v (ix3 0 r e)
      = att 2048 (klog S far n d ⟨1280 + r.val, by omega⟩) (fun k => V k e) := by
  pointwise [k1_pay41, k1_pay42, k1_pay43, k1_pay44, k1_pay45]
  refine att_block (n := 1536) (by decide) _ _ (klog S far n d ⟨1280 + r.val, by omega⟩) (fun k => V k e) bot_bits ?_ (fun k => hv k e)
    (fun k hk => klog_ahead (by show (1280 + r.val) / 256 < k.val / 256; omega))
  intro k
  show (if h : k.val < 1024 then s (ix2 r k) * scaleC + far else if h' : k.val - 1024 < 256 then s (ix2 r ⟨1024 + (k.val - 1024), by omega⟩) * scaleC + n (ix3 0 r ⟨k.val - 1024, h'⟩)
    else s (ix2 r ⟨1280 + (k.val - 1024 - 256), by omega⟩) * scaleC + d (ix3 0 r ⟨k.val - 1024 - 256, by omega⟩)) = klog S far n d ⟨1280 + r.val, by omega⟩ (Fin.castLE (by decide) k)
  split_ifs with h1 h2
  · rw [klog_far (by simp; omega), ← hs r k]
  · rw [klog_near (a := r) (b := ⟨k.val - 1024, by omega⟩) (by simp; omega) (by simp; omega) (by simp; omega), ← hs r k,
      show (⟨1024 + (k.val - 1024), by omega⟩ : Fin 1536) = k from Fin.ext (by simp; omega)]
  · rw [klog_diag (a := r) (b := ⟨k.val - 1024 - 256, by omega⟩) (by simp; omega) (by simp; omega) (by simp; omega), ← hs r k,
      show (⟨1280 + (k.val - 1024 - 256), by omega⟩ : Fin 1536) = k from Fin.ext (by simp; omega)]

/-- Query block 6: its rows attend to the first 1792 keys. -/
theorem block6 (S : Fin 2048 → Fin 2048 → EReal) (far : EReal) (s : Vec Ideal S256x1792 .f32) (n d : Vec Ideal S1x256x256 .f32)
    (v : Vec Ideal S1x1792x128 .bf16) (V : Fin 2048 → Fin 128 → EReal)
    (hs : ∀ (r : Fin 256) (k : Fin 1792), s (ix2 r k) = S ⟨1536 + r.val, by omega⟩ (Fin.castLE (by decide) k))
    (hv : ∀ (k : Fin 1792) (e : Fin 128), v (ix3 0 k e) = V (Fin.castLE (by decide) k) e) (r : Fin 256) (e : Fin 128) :
    k1_pay50 (F := Ideal) (k1_pay47 s) (k1_pay48 far s) (k1_pay49 s) n d v (ix3 0 r e)
      = att 2048 (klog S far n d ⟨1536 + r.val, by omega⟩) (fun k => V k e) := by
  pointwise [k1_pay47, k1_pay48, k1_pay49, k1_pay50]
  refine att_block (n := 1792) (by decide) _ _ (klog S far n d ⟨1536 + r.val, by omega⟩) (fun k => V k e) bot_bits ?_ (fun k => hv k e)
    (fun k hk => klog_ahead (by show (1536 + r.val) / 256 < k.val / 256; omega))
  intro k
  show (if h : k.val < 1280 then s (ix2 r k) * scaleC + far else if h' : k.val - 1280 < 256 then s (ix2 r ⟨1280 + (k.val - 1280), by omega⟩) * scaleC + n (ix3 0 r ⟨k.val - 1280, h'⟩)
    else s (ix2 r ⟨1536 + (k.val - 1280 - 256), by omega⟩) * scaleC + d (ix3 0 r ⟨k.val - 1280 - 256, by omega⟩)) = klog S far n d ⟨1536 + r.val, by omega⟩ (Fin.castLE (by decide) k)
  split_ifs with h1 h2
  · rw [klog_far (by simp; omega), ← hs r k]
  · rw [klog_near (a := r) (b := ⟨k.val - 1280, by omega⟩) (by simp; omega) (by simp; omega) (by simp; omega), ← hs r k,
      show (⟨1280 + (k.val - 1280), by omega⟩ : Fin 1792) = k from Fin.ext (by simp; omega)]
  · rw [klog_diag (a := r) (b := ⟨k.val - 1280 - 256, by omega⟩) (by simp; omega) (by simp; omega) (by simp; omega), ← hs r k,
      show (⟨1536 + (k.val - 1280 - 256), by omega⟩ : Fin 1792) = k from Fin.ext (by simp; omega)]

/-- Query block 7: its rows attend to the first 2048 keys. -/
theorem block7 (S : Fin 2048 → Fin 2048 → EReal) (far : EReal) (s : Vec Ideal S256x2048 .f32) (n d : Vec Ideal S1x256x256 .f32)
    (v : Vec Ideal S1x2048x128 .bf16) (V : Fin 2048 → Fin 128 → EReal)
    (hs : ∀ (r : Fin 256) (k : Fin 2048), s (ix2 r k) = S ⟨1792 + r.val, by omega⟩ (Fin.castLE (by decide) k))
    (hv : ∀ (k : Fin 2048) (e : Fin 128), v (ix3 0 k e) = V (Fin.castLE (by decide) k) e) (r : Fin 256) (e : Fin 128) :
    k1_pay1 (F := Ideal) (k1_pay52 far s) (k1_pay53 s n) (k1_pay54 s d) v (ix3 0 r e)
      = att 2048 (klog S far n d ⟨1792 + r.val, by omega⟩) (fun k => V k e) := by
  pointwise [k1_pay1, k1_pay51, k1_pay52, k1_pay53, k1_pay54]
  refine att_block (n := 2048) (by decide) _ _ (klog S far n d ⟨1792 + r.val, by omega⟩) (fun k => V k e) bot_bits ?_ (fun k => hv k e)
    (fun k hk => klog_ahead (by show (1792 + r.val) / 256 < k.val / 256; omega))
  intro k
  show (if h : k.val < 1536 then s (ix2 r k) * scaleC + far else if h' : k.val - 1536 < 256 then s (ix2 r ⟨1536 + (k.val - 1536), by omega⟩) * scaleC + n (ix3 0 r ⟨k.val - 1536, h'⟩)
    else s (ix2 r ⟨1792 + (k.val - 1536 - 256), by omega⟩) * scaleC + d (ix3 0 r ⟨k.val - 1536 - 256, by omega⟩)) = klog S far n d ⟨1792 + r.val, by omega⟩ (Fin.castLE (by decide) k)
  split_ifs with h1 h2
  · rw [klog_far (by simp; omega), ← hs r k]
  · rw [klog_near (a := r) (b := ⟨k.val - 1536, by omega⟩) (by simp; omega) (by simp; omega) (by simp; omega), ← hs r k,
      show (⟨1536 + (k.val - 1536), by omega⟩ : Fin 2048) = k from Fin.ext (by simp; omega)]
  · rw [klog_diag (a := r) (b := ⟨k.val - 1536 - 256, by omega⟩) (by simp; omega) (by simp; omega) (by simp; omega), ← hs r k,
      show (⟨1792 + (k.val - 1536 - 256), by omega⟩ : Fin 2048) = k from Fin.ext (by simp; omega)]

end Cert.MobaIdeal.Att
-- ==== Proof.MobaScore.lean ====
module
public import proofs.«01_k».proof.Proof.MobaAtt

/-!
# The attention call: the scores kept in scratch

The kernel keeps the scores of every key block in a scratch buffer, from the diagonal down, and each query block
loads its rows of it. Whatever it loads is one function of the query and of the key.
-/

@[expose] public section
set_option maxHeartbeats 4000000
set_option maxRecDepth 16384
noncomputable section
namespace Cert.MobaIdeal.Att
open Cert.MobaIdeal Cert.MobaIdeal.Gen
open Idealize.ShloMosaic Idealize.ShloMosaic.TcCoe Idealize.SL.Sem

/-- The product of a row of the widened queries with a row of the widened keys. -/
def score (Q K : S2048x256.Idx → EReal) (t s : Fin 2048) : EReal := ∑ c : Fin 256, Q (ix2 t c) * K (ix2 s c)

/-- The scores as an array. -/
def scoreArr (Q K : S2048x256.Idx → EReal) (y : S2048x2048.Idx) : EReal := score Q K (y 0) (y 1)

/-- The stored scores of key block 0. -/
def piece0 (Q K : S2048x256.Idx → EReal) : View.Piece (Elt Ideal) S2048x2048 .f32 :=
  (⟨Rect.unit (s := S2048x2048) ![0, 0] S2048x256.size inb_S2048x2048_S2048x256_0_0,
      k1_pay17 (F := Ideal) (fun j => Q ((Rect.unit (s := S2048x256) ![0, 0] S2048x256.size inb_S2048x256_S2048x256_0_0).idx j))
        (fun j => K ((Rect.unit (s := S2048x256) ![0, 0] S256x256.size inb_S2048x256_S256x256_0_0).idx j))⟩ : View.Piece (Elt Ideal) S2048x2048 .f32)

theorem piece0_apply (Q K : S2048x256.Idx → EReal) (x : (piece0 Q K).1.shape.Idx) :
    (piece0 Q K).2 x = scoreArr Q K ((piece0 Q K).1.emb x) := by
  show k1_pay17 (F := Ideal) _ _ x = _
  pointwise [k1_pay17]
  unfold scoreArr score
  refine Finset.sum_congr rfl fun c _ => congrArg₂ (· * ·) (congrArg Q (congrArg (ix2 · c) (Fin.ext ?_)))
    (congrArg K (congrArg (ix2 · c) (Fin.ext ?_)))
  · show (x 0).val = 0 + 1 * (x 0).val; omega
  · show (x 1).val = 0 + 1 * (x 1).val; omega

/-- The stored scores of key block 1. -/
def piece1 (Q K : S2048x256.Idx → EReal) : View.Piece (Elt Ideal) S2048x2048 .f32 :=
  (⟨Rect.unit (s := S2048x2048) ![256, 256] S1792x256.size inb_S2048x2048_S1792x256_256_256,
      k1_pay18 (F := Ideal) (fun j => Q ((Rect.unit (s := S2048x256) ![256, 0] S1792x256.size inb_S2048x256_S1792x256_256_0).idx j))
        (fun j => K ((Rect.unit (s := S2048x256) ![256, 0] S256x256.size inb_S2048x256_S256x256_256_0).idx j))⟩ : View.Piece (Elt Ideal) S2048x2048 .f32)

theorem piece1_apply (Q K : S2048x256.Idx → EReal) (x : (piece1 Q K).1.shape.Idx) :
    (piece1 Q K).2 x = scoreArr Q K ((piece1 Q K).1.emb x) := by
  show k1_pay18 (F := Ideal) _ _ x = _
  pointwise [k1_pay18]
  unfold scoreArr score
  refine Finset.sum_congr rfl fun c _ => congrArg₂ (· * ·) (congrArg Q (congrArg (ix2 · c) (Fin.ext ?_)))
    (congrArg K (congrArg (ix2 · c) (Fin.ext ?_)))
  · show 256 + (x 0).val = 256 + 1 * (x 0).val; omega
  · show 256 + (x 1).val = 256 + 1 * (x 1).val; omega

/-- The stored scores of key block 2. -/
def piece2 (Q K : S2048x256.Idx → EReal) : View.Piece (Elt Ideal) S2048x2048 .f32 :=
  (⟨Rect.unit (s := S2048x2048) ![512, 512] S1536x256.size inb_S2048x2048_S1536x256_512_512,
      k1_pay23 (F := Ideal) (fun j => Q ((Rect.unit (s := S2048x256) ![512, 0] S1536x256.size inb_S2048x256_S1536x256_512_0).idx j))
        (fun j => K ((Rect.unit (s := S2048x256) ![512, 0] S256x256.size inb_S2048x256_S256x256_512_0).idx j))⟩ : View.Piece (Elt Ideal) S2048x2048 .f32)

theorem piece2_apply (Q K : S2048x256.Idx → EReal) (x : (piece2 Q K).1.shape.Idx) :
    (piece2 Q K).2 x = scoreArr Q K ((piece2 Q K).1.emb x) := by
  show k1_pay23 (F := Ideal) _ _ x = _
  pointwise [k1_pay23]
  unfold scoreArr score
  refine Finset.sum_congr rfl fun c _ => congrArg₂ (· * ·) (congrArg Q (congrArg (ix2 · c) (Fin.ext ?_)))
    (congrArg K (congrArg (ix2 · c) (Fin.ext ?_)))
  · show 512 + (x 0).val = 512 + 1 * (x 0).val; omega
  · show 512 + (x 1).val = 512 + 1 * (x 1).val; omega

/-- The stored scores of key block 3. -/
def piece3 (Q K : S2048x256.Idx → EReal) : View.Piece (Elt Ideal) S2048x2048 .f32 :=
  (⟨Rect.unit (s := S2048x2048) ![768, 768] S1280x256.size inb_S2048x2048_S1280x256_768_768,
      k1_pay29 (F := Ideal) (fun j => Q ((Rect.unit (s := S2048x256) ![768, 0] S1280x256.size inb_S2048x256_S1280x256_768_0).idx j))
        (fun j => K ((Rect.unit (s := S2048x256) ![768, 0] S256x256.size inb_S2048x256_S256x256_768_0).idx j))⟩ : View.Piece (Elt Ideal) S2048x2048 .f32)

theorem piece3_apply (Q K : S2048x256.Idx → EReal) (x : (piece3 Q K).1.shape.Idx) :
    (piece3 Q K).2 x = scoreArr Q K ((piece3 Q K).1.emb x) := by
  show k1_pay29 (F := Ideal) _ _ x = _
  pointwise [k1_pay29]
  unfold scoreArr score
  refine Finset.sum_congr rfl fun c _ => congrArg₂ (· * ·) (congrArg Q (congrArg (ix2 · c) (Fin.ext ?_)))
    (congrArg K (congrArg (ix2 · c) (Fin.ext ?_)))
  · show 768 + (x 0).val = 768 + 1 * (x 0).val; omega
  · show 768 + (x 1).val = 768 + 1 * (x 1).val; omega

/-- The stored scores of key block 4. -/
def piece4 (Q K : S2048x256.Idx → EReal) : View.Piece (Elt Ideal) S2048x2048 .f32 :=
  (⟨Rect.unit (s := S2048x2048) ![1024, 1024] S1024x256.size inb_S2048x2048_S1024x256_1024_1024,
      k1_pay34 (F := Ideal) (fun j => Q ((Rect.unit (s := S2048x256) ![1024, 0] S1024x256.size inb_S2048x256_S1024x256_1024_0).idx j))
        (fun j => K ((Rect.unit (s := S2048x256) ![1024, 0] S256x256.size inb_S2048x256_S256x256_1024_0).idx j))⟩ : View.Piece (Elt Ideal) S2048x2048 .f32)

theorem piece4_apply (Q K : S2048x256.Idx → EReal) (x : (piece4 Q K).1.shape.Idx) :
    (piece4 Q K).2 x = scoreArr Q K ((piece4 Q K).1.emb x) := by
  show k1_pay34 (F := Ideal) _ _ x = _
  pointwise [k1_pay34]
  unfold scoreArr score
  refine Finset.sum_congr rfl fun c _ => congrArg₂ (· * ·) (congrArg Q (congrArg (ix2 · c) (Fin.ext ?_)))
    (congrArg K (congrArg (ix2 · c) (Fin.ext ?_)))
  · show 1024 + (x 0).val = 1024 + 1 * (x 0).val; omega
  · show 1024 + (x 1).val = 1024 + 1 * (x 1).val; omega

/-- The stored scores of key block 5. -/
def piece5 (Q K : S2048x256.Idx → EReal) : View.Piece (Elt Ideal) S2048x2048 .f32 :=
  (⟨Rect.unit (s := S2048x2048) ![1280, 1280] S768x256.size inb_S2048x2048_S768x256_1280_1280,
      k1_pay37 (F := Ideal) (fun j => Q ((Rect.unit (s := S2048x256) ![1280, 0] S768x256.size inb_S2048x256_S768x256_1280_0).idx j))
        (fun j => K ((Rect.unit (s := S2048x256) ![1280, 0] S256x256.size inb_S2048x256_S256x256_1280_0).idx j))⟩ : View.Piece (Elt Ideal) S2048x2048 .f32)

theorem piece5_apply (Q K : S2048x256.Idx → EReal) (x : (piece5 Q K).1.shape.Idx) :
    (piece5 Q K).2 x = scoreArr Q K ((piece5 Q K).1.emb x) := by
  show k1_pay37 (F := Ideal) _ _ x = _
  pointwise [k1_pay37]
  unfold scoreArr score
  refine Finset.sum_congr rfl fun c _ => congrArg₂ (· * ·) (congrArg Q (congrArg (ix2 · c) (Fin.ext ?_)))
    (congrArg K (congrArg (ix2 · c) (Fin.ext ?_)))
  · show 1280 + (x 0).val = 1280 + 1 * (x 0).val; omega
  · show 1280 + (x 1).val = 1280 + 1 * (x 1).val; omega

/-- The stored scores of key block 6. -/
def piece6 (Q K : S2048x256.Idx → EReal) : View.Piece (Elt Ideal) S2048x2048 .f32 :=
  (⟨Rect.unit (s := S2048x2048) ![1536, 1536] S512x256.size inb_S2048x2048_S512x256_1536_1536,
      k1_pay40 (F := Ideal) (fun j => Q ((Rect.unit (s := S2048x256) ![1536, 0] S512x256.size inb_S2048x256_S512x256_1536_0).idx j))
        (fun j => K ((Rect.unit (s := S2048x256) ![1536, 0] S256x256.size inb_S2048x256_S256x256_1536_0).idx j))⟩ : View.Piece (Elt Ideal) S2048x2048 .f32)

theorem piece6_apply (Q K : S2048x256.Idx → EReal) (x : (piece6 Q K).1.shape.Idx) :
    (piece6 Q K).2 x = scoreArr Q K ((piece6 Q K).1.emb x) := by
  show k1_pay40 (F := Ideal) _ _ x = _
  pointwise [k1_pay40]
  unfold scoreArr score
  refine Finset.sum_congr rfl fun c _ => congrArg₂ (· * ·) (congrArg Q (congrArg (ix2 · c) (Fin.ext ?_)))
    (congrArg K (congrArg (ix2 · c) (Fin.ext ?_)))
  · show 1536 + (x 0).val = 1536 + 1 * (x 0).val; omega
  · show 1536 + (x 1).val = 1536 + 1 * (x 1).val; omega

/-- The stored scores of key block 7. -/
def piece7 (Q K : S2048x256.Idx → EReal) : View.Piece (Elt Ideal) S2048x2048 .f32 :=
  (⟨Rect.unit (s := S2048x2048) ![1792, 1792] S256x256.size inb_S2048x2048_S256x256_1792_1792,
      k1_pay46 (F := Ideal) (fun j => Q ((Rect.unit (s := S2048x256) ![1792, 0] S256x256.size inb_S2048x256_S256x256_1792_0).idx j))
        (fun j => K ((Rect.unit (s := S2048x256) ![1792, 0] S256x256.size inb_S2048x256_S256x256_1792_0).idx j))⟩ : View.Piece (Elt Ideal) S2048x2048 .f32)

theorem piece7_apply (Q K : S2048x256.Idx → EReal) (x : (piece7 Q K).1.shape.Idx) :
    (piece7 Q K).2 x = scoreArr Q K ((piece7 Q K).1.emb x) := by
  show k1_pay46 (F := Ideal) _ _ x = _
  pointwise [k1_pay46]
  unfold scoreArr score
  refine Finset.sum_congr rfl fun c _ => congrArg₂ (· * ·) (congrArg Q (congrArg (ix2 · c) (Fin.ext ?_)))
    (congrArg K (congrArg (ix2 · c) (Fin.ext ?_)))
  · show 1792 + (x 0).val = 1792 + 1 * (x 0).val; omega
  · show 1792 + (x 1).val = 1792 + 1 * (x 1).val; omega

theorem mem_piece0 (Q K : S2048x256.Idx → EReal) (y : S2048x2048.Idx) (h0 : 0 ≤ (y 0).val) (h1 : 0 ≤ (y 1).val)
    (h2 : (y 1).val < 0 + 256) : y ∈ (piece0 Q K).1.set := by
  have hy : (y 0).val < 2048 := (y 0).isLt
  refine (Rect.mem_set_unit (s := S2048x2048) (off := ![0, 0]) (size := S2048x256.size) (inb := inb_S2048x2048_S2048x256_0_0)).mpr fun a => ?_
  fin_cases a
  · exact ⟨h0, by show (y 0).val < 0 + 2048; omega⟩
  · exact ⟨h1, h2⟩

theorem mem_piece1 (Q K : S2048x256.Idx → EReal) (y : S2048x2048.Idx) (h0 : 256 ≤ (y 0).val) (h1 : 256 ≤ (y 1).val)
    (h2 : (y 1).val < 256 + 256) : y ∈ (piece1 Q K).1.set := by
  have hy : (y 0).val < 2048 := (y 0).isLt
  refine (Rect.mem_set_unit (s := S2048x2048) (off := ![256, 256]) (size := S1792x256.size) (inb := inb_S2048x2048_S1792x256_256_256)).mpr fun a => ?_
  fin_cases a
  · exact ⟨h0, by show (y 0).val < 256 + 1792; omega⟩
  · exact ⟨h1, h2⟩

theorem mem_piece2 (Q K : S2048x256.Idx → EReal) (y : S2048x2048.Idx) (h0 : 512 ≤ (y 0).val) (h1 : 512 ≤ (y 1).val)
    (h2 : (y 1).val < 512 + 256) : y ∈ (piece2 Q K).1.set := by
  have hy : (y 0).val < 2048 := (y 0).isLt
  refine (Rect.mem_set_unit (s := S2048x2048) (off := ![512, 512]) (size := S1536x256.size) (inb := inb_S2048x2048_S1536x256_512_512)).mpr fun a => ?_
  fin_cases a
  · exact ⟨h0, by show (y 0).val < 512 + 1536; omega⟩
  · exact ⟨h1, h2⟩

theorem mem_piece3 (Q K : S2048x256.Idx → EReal) (y : S2048x2048.Idx) (h0 : 768 ≤ (y 0).val) (h1 : 768 ≤ (y 1).val)
    (h2 : (y 1).val < 768 + 256) : y ∈ (piece3 Q K).1.set := by
  have hy : (y 0).val < 2048 := (y 0).isLt
  refine (Rect.mem_set_unit (s := S2048x2048) (off := ![768, 768]) (size := S1280x256.size) (inb := inb_S2048x2048_S1280x256_768_768)).mpr fun a => ?_
  fin_cases a
  · exact ⟨h0, by show (y 0).val < 768 + 1280; omega⟩
  · exact ⟨h1, h2⟩

theorem mem_piece4 (Q K : S2048x256.Idx → EReal) (y : S2048x2048.Idx) (h0 : 1024 ≤ (y 0).val) (h1 : 1024 ≤ (y 1).val)
    (h2 : (y 1).val < 1024 + 256) : y ∈ (piece4 Q K).1.set := by
  have hy : (y 0).val < 2048 := (y 0).isLt
  refine (Rect.mem_set_unit (s := S2048x2048) (off := ![1024, 1024]) (size := S1024x256.size) (inb := inb_S2048x2048_S1024x256_1024_1024)).mpr fun a => ?_
  fin_cases a
  · exact ⟨h0, by show (y 0).val < 1024 + 1024; omega⟩
  · exact ⟨h1, h2⟩

theorem mem_piece5 (Q K : S2048x256.Idx → EReal) (y : S2048x2048.Idx) (h0 : 1280 ≤ (y 0).val) (h1 : 1280 ≤ (y 1).val)
    (h2 : (y 1).val < 1280 + 256) : y ∈ (piece5 Q K).1.set := by
  have hy : (y 0).val < 2048 := (y 0).isLt
  refine (Rect.mem_set_unit (s := S2048x2048) (off := ![1280, 1280]) (size := S768x256.size) (inb := inb_S2048x2048_S768x256_1280_1280)).mpr fun a => ?_
  fin_cases a
  · exact ⟨h0, by show (y 0).val < 1280 + 768; omega⟩
  · exact ⟨h1, h2⟩

theorem mem_piece6 (Q K : S2048x256.Idx → EReal) (y : S2048x2048.Idx) (h0 : 1536 ≤ (y 0).val) (h1 : 1536 ≤ (y 1).val)
    (h2 : (y 1).val < 1536 + 256) : y ∈ (piece6 Q K).1.set := by
  have hy : (y 0).val < 2048 := (y 0).isLt
  refine (Rect.mem_set_unit (s := S2048x2048) (off := ![1536, 1536]) (size := S512x256.size) (inb := inb_S2048x2048_S512x256_1536_1536)).mpr fun a => ?_
  fin_cases a
  · exact ⟨h0, by show (y 0).val < 1536 + 512; omega⟩
  · exact ⟨h1, h2⟩

theorem mem_piece7 (Q K : S2048x256.Idx → EReal) (y : S2048x2048.Idx) (h0 : 1792 ≤ (y 0).val) (h1 : 1792 ≤ (y 1).val)
    (h2 : (y 1).val < 1792 + 256) : y ∈ (piece7 Q K).1.set := by
  have hy : (y 0).val < 2048 := (y 0).isLt
  refine (Rect.mem_set_unit (s := S2048x2048) (off := ![1792, 1792]) (size := S256x256.size) (inb := inb_S2048x2048_S256x256_1792_1792)).mpr fun a => ?_
  fin_cases a
  · exact ⟨h0, by show (y 0).val < 1792 + 256; omega⟩
  · exact ⟨h1, h2⟩

theorem covered0 (Q K : S2048x256.Idx → EReal) (y : S2048x2048.Idx) {r : Fin 256} (h0 : (y 0).val = 0 + r.val) (h1 : (y 1).val < 256) :
    ∃ p ∈ [piece1 Q K, piece0 Q K], y ∈ p.1.set := by
  have hr := r.isLt
  by_cases g0 : 0 ≤ (y 1).val
  · exact ⟨piece0 Q K, by simp, mem_piece0 Q K y (by omega) (by omega) (by omega)⟩
  · exact absurd (Nat.zero_le _) g0

/-- What query block 0 loads of the scores. -/
theorem load0 (Q K : S2048x256.Idx → EReal) (r : Fin 256) (k : Fin 256) :
    View.canon [piece1 Q K, piece0 Q K]
      ((Rect.unit (s := S2048x2048) ![0, 0] S256x256.size inb_S2048x2048_S256x256_0_0).idx (ix2 r k))
      = score Q K ⟨r.val, by omega⟩ (Fin.castLE (by decide) k) := by
  rw [View.canon_apply_of_pieces (scoreArr Q K) _ (View.PiecesOf.mem (G := scoreArr Q K) (L := [piece1 Q K, piece0 Q K])
    ⟨piece1_apply Q K, piece0_apply Q K, trivial⟩)]
  · unfold scoreArr
    congr 1 <;> apply Fin.ext <;> rw [Rect.idx_unit_val] <;> simp [ix2]
  · have h0 := Rect.idx_unit_val (s := S2048x2048) ![0, 0] S256x256.size inb_S2048x2048_S256x256_0_0 (ix2 r k) 0
    have h1 := Rect.idx_unit_val (s := S2048x2048) ![0, 0] S256x256.size inb_S2048x2048_S256x256_0_0 (ix2 r k) 1
    generalize (Rect.unit (s := S2048x2048) ![0, 0] S256x256.size inb_S2048x2048_S256x256_0_0).idx (ix2 r k) = y at h0 h1 ⊢
    replace h0 : (y 0).val = 0 + r.val := h0
    replace h1 : (y 1).val = 0 + k.val := h1
    exact covered0 Q K y h0 (by have := k.isLt; omega)

theorem covered1 (Q K : S2048x256.Idx → EReal) (y : S2048x2048.Idx) {r : Fin 256} (h0 : (y 0).val = 256 + r.val) (h1 : (y 1).val < 512) :
    ∃ p ∈ [piece2 Q K, piece1 Q K, piece0 Q K], y ∈ p.1.set := by
  have hr := r.isLt
  by_cases g1 : 256 ≤ (y 1).val
  · exact ⟨piece1 Q K, by simp, mem_piece1 Q K y (by omega) (by omega) (by omega)⟩
  by_cases g0 : 0 ≤ (y 1).val
  · exact ⟨piece0 Q K, by simp, mem_piece0 Q K y (by omega) (by omega) (by omega)⟩
  · exact absurd (Nat.zero_le _) g0

/-- What query block 1 loads of the scores. -/
theorem load1 (Q K : S2048x256.Idx → EReal) (r : Fin 256) (k : Fin 512) :
    View.canon [piece2 Q K, piece1 Q K, piece0 Q K]
      ((Rect.unit (s := S2048x2048) ![256, 0] S256x512.size inb_S2048x2048_S256x512_256_0).idx (ix2 r k))
      = score Q K ⟨256 + r.val, by omega⟩ (Fin.castLE (by decide) k) := by
  rw [View.canon_apply_of_pieces (scoreArr Q K) _ (View.PiecesOf.mem (G := scoreArr Q K) (L := [piece2 Q K, piece1 Q K, piece0 Q K])
    ⟨piece2_apply Q K, piece1_apply Q K, piece0_apply Q K, trivial⟩)]
  · unfold scoreArr
    congr 1 <;> apply Fin.ext <;> rw [Rect.idx_unit_val] <;> simp [ix2]
  · have h0 := Rect.idx_unit_val (s := S2048x2048) ![256, 0] S256x512.size inb_S2048x2048_S256x512_256_0 (ix2 r k) 0
    have h1 := Rect.idx_unit_val (s := S2048x2048) ![256, 0] S256x512.size inb_S2048x2048_S256x512_256_0 (ix2 r k) 1
    generalize (Rect.unit (s := S2048x2048) ![256, 0] S256x512.size inb_S2048x2048_S256x512_256_0).idx (ix2 r k) = y at h0 h1 ⊢
    replace h0 : (y 0).val = 256 + r.val := h0
    replace h1 : (y 1).val = 0 + k.val := h1
    exact covered1 Q K y h0 (by have := k.isLt; omega)

theorem covered2 (Q K : S2048x256.Idx → EReal) (y : S2048x2048.Idx) {r : Fin 256} (h0 : (y 0).val = 512 + r.val) (h1 : (y 1).val < 768) :
    ∃ p ∈ [piece3 Q K, piece2 Q K, piece1 Q K, piece0 Q K], y ∈ p.1.set := by
  have hr := r.isLt
  by_cases g2 : 512 ≤ (y 1).val
  · exact ⟨piece2 Q K, by simp, mem_piece2 Q K y (by omega) (by omega) (by omega)⟩
  by_cases g1 : 256 ≤ (y 1).val
  · exact ⟨piece1 Q K, by simp, mem_piece1 Q K y (by omega) (by omega) (by omega)⟩
  by_cases g0 : 0 ≤ (y 1).val
  · exact ⟨piece0 Q K, by simp, mem_piece0 Q K y (by omega) (by omega) (by omega)⟩
  · exact absurd (Nat.zero_le _) g0

/-- What query block 2 loads of the scores. -/
theorem load2 (Q K : S2048x256.Idx → EReal) (r : Fin 256) (k : Fin 768) :
    View.canon [piece3 Q K, piece2 Q K, piece1 Q K, piece0 Q K]
      ((Rect.unit (s := S2048x2048) ![512, 0] S256x768.size inb_S2048x2048_S256x768_512_0).idx (ix2 r k))
      = score Q K ⟨512 + r.val, by omega⟩ (Fin.castLE (by decide) k) := by
  rw [View.canon_apply_of_pieces (scoreArr Q K) _ (View.PiecesOf.mem (G := scoreArr Q K) (L := [piece3 Q K, piece2 Q K, piece1 Q K, piece0 Q K])
    ⟨piece3_apply Q K, piece2_apply Q K, piece1_apply Q K, piece0_apply Q K, trivial⟩)]
  · unfold scoreArr
    congr 1 <;> apply Fin.ext <;> rw [Rect.idx_unit_val] <;> simp [ix2]
  · have h0 := Rect.idx_unit_val (s := S2048x2048) ![512, 0] S256x768.size inb_S2048x2048_S256x768_512_0 (ix2 r k) 0
    have h1 := Rect.idx_unit_val (s := S2048x2048) ![512, 0] S256x768.size inb_S2048x2048_S256x768_512_0 (ix2 r k) 1
    generalize (Rect.unit (s := S2048x2048) ![512, 0] S256x768.size inb_S2048x2048_S256x768_512_0).idx (ix2 r k) = y at h0 h1 ⊢
    replace h0 : (y 0).val = 512 + r.val := h0
    replace h1 : (y 1).val = 0 + k.val := h1
    exact covered2 Q K y h0 (by have := k.isLt; omega)

theorem covered3 (Q K : S2048x256.Idx → EReal) (y : S2048x2048.Idx) {r : Fin 256} (h0 : (y 0).val = 768 + r.val) (h1 : (y 1).val < 1024) :
    ∃ p ∈ [piece4 Q K, piece3 Q K, piece2 Q K, piece1 Q K, piece0 Q K], y ∈ p.1.set := by
  have hr := r.isLt
  by_cases g3 : 768 ≤ (y 1).val
  · exact ⟨piece3 Q K, by simp, mem_piece3 Q K y (by omega) (by omega) (by omega)⟩
  by_cases g2 : 512 ≤ (y 1).val
  · exact ⟨piece2 Q K, by simp, mem_piece2 Q K y (by omega) (by omega) (by omega)⟩
  by_cases g1 : 256 ≤ (y 1).val
  · exact ⟨piece1 Q K, by simp, mem_piece1 Q K y (by omega) (by omega) (by omega)⟩
  by_cases g0 : 0 ≤ (y 1).val
  · exact ⟨piece0 Q K, by simp, mem_piece0 Q K y (by omega) (by omega) (by omega)⟩
  · exact absurd (Nat.zero_le _) g0

/-- What query block 3 loads of the scores. -/
theorem load3 (Q K : S2048x256.Idx → EReal) (r : Fin 256) (k : Fin 1024) :
    View.canon [piece4 Q K, piece3 Q K, piece2 Q K, piece1 Q K, piece0 Q K]
      ((Rect.unit (s := S2048x2048) ![768, 0] S256x1024.size inb_S2048x2048_S256x1024_768_0).idx (ix2 r k))
      = score Q K ⟨768 + r.val, by omega⟩ (Fin.castLE (by decide) k) := by
  rw [View.canon_apply_of_pieces (scoreArr Q K) _ (View.PiecesOf.mem (G := scoreArr Q K) (L := [piece4 Q K, piece3 Q K, piece2 Q K, piece1 Q K, piece0 Q K])
    ⟨piece4_apply Q K, piece3_apply Q K, piece2_apply Q K, piece1_apply Q K, piece0_apply Q K, trivial⟩)]
  · unfold scoreArr
    congr 1 <;> apply Fin.ext <;> rw [Rect.idx_unit_val] <;> simp [ix2]
  · have h0 := Rect.idx_unit_val (s := S2048x2048) ![768, 0] S256x1024.size inb_S2048x2048_S256x1024_768_0 (ix2 r k) 0
    have h1 := Rect.idx_unit_val (s := S2048x2048) ![768, 0] S256x1024.size inb_S2048x2048_S256x1024_768_0 (ix2 r k) 1
    generalize (Rect.unit (s := S2048x2048) ![768, 0] S256x1024.size inb_S2048x2048_S256x1024_768_0).idx (ix2 r k) = y at h0 h1 ⊢
    replace h0 : (y 0).val = 768 + r.val := h0
    replace h1 : (y 1).val = 0 + k.val := h1
    exact covered3 Q K y h0 (by have := k.isLt; omega)

theorem covered4 (Q K : S2048x256.Idx → EReal) (y : S2048x2048.Idx) {r : Fin 256} (h0 : (y 0).val = 1024 + r.val) (h1 : (y 1).val < 1280) :
    ∃ p ∈ [piece5 Q K, piece4 Q K, piece3 Q K, piece2 Q K, piece1 Q K, piece0 Q K], y ∈ p.1.set := by
  have hr := r.isLt
  by_cases g4 : 1024 ≤ (y 1).val
  · exact ⟨piece4 Q K, by simp, mem_piece4 Q K y (by omega) (by omega) (by omega)⟩
  by_cases g3 : 768 ≤ (y 1).val
  · exact ⟨piece3 Q K, by simp, mem_piece3 Q K y (by omega) (by omega) (by omega)⟩
  by_cases g2 : 512 ≤ (y 1).val
  · exact ⟨piece2 Q K, by simp, mem_piece2 Q K y (by omega) (by omega) (by omega)⟩
  by_cases g1 : 256 ≤ (y 1).val
  · exact ⟨piece1 Q K, by simp, mem_piece1 Q K y (by omega) (by omega) (by omega)⟩
  by_cases g0 : 0 ≤ (y 1).val
  · exact ⟨piece0 Q K, by simp, mem_piece0 Q K y (by omega) (by omega) (by omega)⟩
  · exact absurd (Nat.zero_le _) g0

/-- What query block 4 loads of the scores. -/
theorem load4 (Q K : S2048x256.Idx → EReal) (r : Fin 256) (k : Fin 1280) :
    View.canon [piece5 Q K, piece4 Q K, piece3 Q K, piece2 Q K, piece1 Q K, piece0 Q K]
      ((Rect.unit (s := S2048x2048) ![1024, 0] S256x1280.size inb_S2048x2048_S256x1280_1024_0).idx (ix2 r k))
      = score Q K ⟨1024 + r.val, by omega⟩ (Fin.castLE (by decide) k) := by
  rw [View.canon_apply_of_pieces (scoreArr Q K) _ (View.PiecesOf.mem (G := scoreArr Q K) (L := [piece5 Q K, piece4 Q K, piece3 Q K, piece2 Q K, piece1 Q K, piece0 Q K])
    ⟨piece5_apply Q K, piece4_apply Q K, piece3_apply Q K, piece2_apply Q K, piece1_apply Q K, piece0_apply Q K, trivial⟩)]
  · unfold scoreArr
    congr 1 <;> apply Fin.ext <;> rw [Rect.idx_unit_val] <;> simp [ix2]
  · have h0 := Rect.idx_unit_val (s := S2048x2048) ![1024, 0] S256x1280.size inb_S2048x2048_S256x1280_1024_0 (ix2 r k) 0
    have h1 := Rect.idx_unit_val (s := S2048x2048) ![1024, 0] S256x1280.size inb_S2048x2048_S256x1280_1024_0 (ix2 r k) 1
    generalize (Rect.unit (s := S2048x2048) ![1024, 0] S256x1280.size inb_S2048x2048_S256x1280_1024_0).idx (ix2 r k) = y at h0 h1 ⊢
    replace h0 : (y 0).val = 1024 + r.val := h0
    replace h1 : (y 1).val = 0 + k.val := h1
    exact covered4 Q K y h0 (by have := k.isLt; omega)

theorem covered5 (Q K : S2048x256.Idx → EReal) (y : S2048x2048.Idx) {r : Fin 256} (h0 : (y 0).val = 1280 + r.val) (h1 : (y 1).val < 1536) :
    ∃ p ∈ [piece6 Q K, piece5 Q K, piece4 Q K, piece3 Q K, piece2 Q K, piece1 Q K, piece0 Q K], y ∈ p.1.set := by
  have hr := r.isLt
  by_cases g5 : 1280 ≤ (y 1).val
  · exact ⟨piece5 Q K, by simp, mem_piece5 Q K y (by omega) (by omega) (by omega)⟩
  by_cases g4 : 1024 ≤ (y 1).val
  · exact ⟨piece4 Q K, by simp, mem_piece4 Q K y (by omega) (by omega) (by omega)⟩
  by_cases g3 : 768 ≤ (y 1).val
  · exact ⟨piece3 Q K, by simp, mem_piece3 Q K y (by omega) (by omega) (by omega)⟩
  by_cases g2 : 512 ≤ (y 1).val
  · exact ⟨piece2 Q K, by simp, mem_piece2 Q K y (by omega) (by omega) (by omega)⟩
  by_cases g1 : 256 ≤ (y 1).val
  · exact ⟨piece1 Q K, by simp, mem_piece1 Q K y (by omega) (by omega) (by omega)⟩
  by_cases g0 : 0 ≤ (y 1).val
  · exact ⟨piece0 Q K, by simp, mem_piece0 Q K y (by omega) (by omega) (by omega)⟩
  · exact absurd (Nat.zero_le _) g0

/-- What query block 5 loads of the scores. -/
theorem load5 (Q K : S2048x256.Idx → EReal) (r : Fin 256) (k : Fin 1536) :
    View.canon [piece6 Q K, piece5 Q K, piece4 Q K, piece3 Q K, piece2 Q K, piece1 Q K, piece0 Q K]
      ((Rect.unit (s := S2048x2048) ![1280, 0] S256x1536.size inb_S2048x2048_S256x1536_1280_0).idx (ix2 r k))
      = score Q K ⟨1280 + r.val, by omega⟩ (Fin.castLE (by decide) k) := by
  rw [View.canon_apply_of_pieces (scoreArr Q K) _ (View.PiecesOf.mem (G := scoreArr Q K) (L := [piece6 Q K, piece5 Q K, piece4 Q K, piece3 Q K, piece2 Q K, piece1 Q K, piece0 Q K])
    ⟨piece6_apply Q K, piece5_apply Q K, piece4_apply Q K, piece3_apply Q K, piece2_apply Q K, piece1_apply Q K, piece0_apply Q K, trivial⟩)]
  · unfold scoreArr
    congr 1 <;> apply Fin.ext <;> rw [Rect.idx_unit_val] <;> simp [ix2]
  · have h0 := Rect.idx_unit_val (s := S2048x2048) ![1280, 0] S256x1536.size inb_S2048x2048_S256x1536_1280_0 (ix2 r k) 0
    have h1 := Rect.idx_unit_val (s := S2048x2048) ![1280, 0] S256x1536.size inb_S2048x2048_S256x1536_1280_0 (ix2 r k) 1
    generalize (Rect.unit (s := S2048x2048) ![1280, 0] S256x1536.size inb_S2048x2048_S256x1536_1280_0).idx (ix2 r k) = y at h0 h1 ⊢
    replace h0 : (y 0).val = 1280 + r.val := h0
    replace h1 : (y 1).val = 0 + k.val := h1
    exact covered5 Q K y h0 (by have := k.isLt; omega)

theorem covered6 (Q K : S2048x256.Idx → EReal) (y : S2048x2048.Idx) {r : Fin 256} (h0 : (y 0).val = 1536 + r.val) (h1 : (y 1).val < 1792) :
    ∃ p ∈ [piece7 Q K, piece6 Q K, piece5 Q K, piece4 Q K, piece3 Q K, piece2 Q K, piece1 Q K, piece0 Q K], y ∈ p.1.set := by
  have hr := r.isLt
  by_cases g6 : 1536 ≤ (y 1).val
  · exact ⟨piece6 Q K, by simp, mem_piece6 Q K y (by omega) (by omega) (by omega)⟩
  by_cases g5 : 1280 ≤ (y 1).val
  · exact ⟨piece5 Q K, by simp, mem_piece5 Q K y (by omega) (by omega) (by omega)⟩
  by_cases g4 : 1024 ≤ (y 1).val
  · exact ⟨piece4 Q K, by simp, mem_piece4 Q K y (by omega) (by omega) (by omega)⟩
  by_cases g3 : 768 ≤ (y 1).val
  · exact ⟨piece3 Q K, by simp, mem_piece3 Q K y (by omega) (by omega) (by omega)⟩
  by_cases g2 : 512 ≤ (y 1).val
  · exact ⟨piece2 Q K, by simp, mem_piece2 Q K y (by omega) (by omega) (by omega)⟩
  by_cases g1 : 256 ≤ (y 1).val
  · exact ⟨piece1 Q K, by simp, mem_piece1 Q K y (by omega) (by omega) (by omega)⟩
  by_cases g0 : 0 ≤ (y 1).val
  · exact ⟨piece0 Q K, by simp, mem_piece0 Q K y (by omega) (by omega) (by omega)⟩
  · exact absurd (Nat.zero_le _) g0

/-- What query block 6 loads of the scores. -/
theorem load6 (Q K : S2048x256.Idx → EReal) (r : Fin 256) (k : Fin 1792) :
    View.canon [piece7 Q K, piece6 Q K, piece5 Q K, piece4 Q K, piece3 Q K, piece2 Q K, piece1 Q K, piece0 Q K]
      ((Rect.unit (s := S2048x2048) ![1536, 0] S256x1792.size inb_S2048x2048_S256x1792_1536_0).idx (ix2 r k))
      = score Q K ⟨1536 + r.val, by omega⟩ (Fin.castLE (by decide) k) := by
  rw [View.canon_apply_of_pieces (scoreArr Q K) _ (View.PiecesOf.mem (G := scoreArr Q K) (L := [piece7 Q K, piece6 Q K, piece5 Q K, piece4 Q K, piece3 Q K, piece2 Q K, piece1 Q K, piece0 Q K])
    ⟨piece7_apply Q K, piece6_apply Q K, piece5_apply Q K, piece4_apply Q K, piece3_apply Q K, piece2_apply Q K, piece1_apply Q K, piece0_apply Q K, trivial⟩)]
  · unfold scoreArr
    congr 1 <;> apply Fin.ext <;> rw [Rect.idx_unit_val] <;> simp [ix2]
  · have h0 := Rect.idx_unit_val (s := S2048x2048) ![1536, 0] S256x1792.size inb_S2048x2048_S256x1792_1536_0 (ix2 r k) 0
    have h1 := Rect.idx_unit_val (s := S2048x2048) ![1536, 0] S256x1792.size inb_S2048x2048_S256x1792_1536_0 (ix2 r k) 1
    generalize (Rect.unit (s := S2048x2048) ![1536, 0] S256x1792.size inb_S2048x2048_S256x1792_1536_0).idx (ix2 r k) = y at h0 h1 ⊢
    replace h0 : (y 0).val = 1536 + r.val := h0
    replace h1 : (y 1).val = 0 + k.val := h1
    exact covered6 Q K y h0 (by have := k.isLt; omega)

theorem covered7 (Q K : S2048x256.Idx → EReal) (y : S2048x2048.Idx) {r : Fin 256} (h0 : (y 0).val = 1792 + r.val) (h1 : (y 1).val < 2048) :
    ∃ p ∈ [piece7 Q K, piece6 Q K, piece5 Q K, piece4 Q K, piece3 Q K, piece2 Q K, piece1 Q K, piece0 Q K], y ∈ p.1.set := by
  have hr := r.isLt
  by_cases g7 : 1792 ≤ (y 1).val
  · exact ⟨piece7 Q K, by simp, mem_piece7 Q K y (by omega) (by omega) (by omega)⟩
  by_cases g6 : 1536 ≤ (y 1).val
  · exact ⟨piece6 Q K, by simp, mem_piece6 Q K y (by omega) (by omega) (by omega)⟩
  by_cases g5 : 1280 ≤ (y 1).val
  · exact ⟨piece5 Q K, by simp, mem_piece5 Q K y (by omega) (by omega) (by omega)⟩
  by_cases g4 : 1024 ≤ (y 1).val
  · exact ⟨piece4 Q K, by simp, mem_piece4 Q K y (by omega) (by omega) (by omega)⟩
  by_cases g3 : 768 ≤ (y 1).val
  · exact ⟨piece3 Q K, by simp, mem_piece3 Q K y (by omega) (by omega) (by omega)⟩
  by_cases g2 : 512 ≤ (y 1).val
  · exact ⟨piece2 Q K, by simp, mem_piece2 Q K y (by omega) (by omega) (by omega)⟩
  by_cases g1 : 256 ≤ (y 1).val
  · exact ⟨piece1 Q K, by simp, mem_piece1 Q K y (by omega) (by omega) (by omega)⟩
  by_cases g0 : 0 ≤ (y 1).val
  · exact ⟨piece0 Q K, by simp, mem_piece0 Q K y (by omega) (by omega) (by omega)⟩
  · exact absurd (Nat.zero_le _) g0

/-- What query block 7 loads of the scores. -/
theorem load7 (Q K : S2048x256.Idx → EReal) (r : Fin 256) (k : Fin 2048) :
    View.canon [piece7 Q K, piece6 Q K, piece5 Q K, piece4 Q K, piece3 Q K, piece2 Q K, piece1 Q K, piece0 Q K]
      ((Rect.unit (s := S2048x2048) ![1792, 0] S256x2048.size inb_S2048x2048_S256x2048_1792_0).idx (ix2 r k))
      = score Q K ⟨1792 + r.val, by omega⟩ (Fin.castLE (by decide) k) := by
  rw [View.canon_apply_of_pieces (scoreArr Q K) _ (View.PiecesOf.mem (G := scoreArr Q K) (L := [piece7 Q K, piece6 Q K, piece5 Q K, piece4 Q K, piece3 Q K, piece2 Q K, piece1 Q K, piece0 Q K])
    ⟨piece7_apply Q K, piece6_apply Q K, piece5_apply Q K, piece4_apply Q K, piece3_apply Q K, piece2_apply Q K, piece1_apply Q K, piece0_apply Q K, trivial⟩)]
  · unfold scoreArr
    congr 1 <;> apply Fin.ext <;> rw [Rect.idx_unit_val] <;> simp [ix2]
  · have h0 := Rect.idx_unit_val (s := S2048x2048) ![1792, 0] S256x2048.size inb_S2048x2048_S256x2048_1792_0 (ix2 r k) 0
    have h1 := Rect.idx_unit_val (s := S2048x2048) ![1792, 0] S256x2048.size inb_S2048x2048_S256x2048_1792_0 (ix2 r k) 1
    generalize (Rect.unit (s := S2048x2048) ![1792, 0] S256x2048.size inb_S2048x2048_S256x2048_1792_0).idx (ix2 r k) = y at h0 h1 ⊢
    replace h0 : (y 0).val = 1792 + r.val := h0
    replace h1 : (y 1).val = 0 + k.val := h1
    exact covered7 Q K y h0 (by have := k.isLt; omega)

end Cert.MobaIdeal.Att
-- ==== Proof.MobaStore.lean ====
module
public import proofs.«01_k».proof.Proof.MobaScore

/-!
# The attention call: what one grid step stores

A step takes one head of one sequence. Its eight stores, one for each query block, are blocks of one array.
-/

@[expose] public section
set_option maxHeartbeats 4000000
set_option maxRecDepth 16384
noncomputable section
namespace Cert.MobaIdeal.Att
open Cert.MobaIdeal Cert.MobaIdeal.Gen
open Idealize.ShloMosaic Idealize.ShloMosaic.TcCoe Idealize.SL.Sem

/-- The keys widened by the one-hot block columns. -/
def kAug (k : Vec Ideal S1x2048x128 .bf16) : S2048x256.Idx → EReal :=
  View.canon [(⟨Rect.unit (s := S2048x256) ![0, 128] S2048x128.size inb_S2048x256_S2048x128_0_128, k1_pay5 (F := Ideal)⟩ : View.Piece (Elt Ideal) S2048x256 .bf16),
    ⟨Rect.unit (s := S2048x256) ![0, 0] S2048x128.size inb_S2048x256_S2048x128_0_0, k1_pay4 (F := Ideal) k⟩]

/-- The penalty columns: −∞ for the past blocks not chosen. -/
def pen (q k : Vec Ideal S1x2048x128 .bf16) : FVec Ideal S2048x128 .bf16 :=
  k1_pay16 (F := Ideal) (k1_pay15 (iota .tc S8x2048 32 [0] iota_S8x2048_d0_w32) k1_pay8 (k1_pay9 (k1_pay6 k) q)
    (k1_pay12 (iota .tc S8x2048 32 [0] iota_S8x2048_d0_w32) (k1_pay9 (k1_pay6 k) q) (k1_pay10 (k1_pay6 k) q) (k1_pay11 (k1_pay6 k) q))
    (k1_pay13 (iota .tc S8x2048 32 [0] iota_S8x2048_d0_w32) (k1_pay9 (k1_pay6 k) q)) 1#32)

/-- The queries widened by the penalty columns. -/
def qAug (q k : Vec Ideal S1x2048x128 .bf16) : S2048x256.Idx → EReal :=
  View.canon [(⟨Rect.unit (s := S2048x256) ![0, 128] S2048x128.size inb_S2048x256_S2048x128_0_128, pen q k⟩ : View.Piece (Elt Ideal) S2048x256 .bf16),
    ⟨Rect.unit (s := S2048x256) ![0, 0] S2048x128.size inb_S2048x256_S2048x128_0_0, k1_pay14 (F := Ideal) (k1_pay7 q)⟩]

/-- The base-two logarithm of Euler's number. -/
def log2C : EReal := Named.named (F := Ideal) (φ := .f32) κ "log2e" 0x3FB8AA3B#32

/-- The bias of the far keys: the last bucket of the head's column, to base two. -/
def farOf (rel : Vec Ideal S32x16 .f32) (i : grid1.Coords) : EReal :=
  rel (ix2 (31 : Fin 32) (i 1 : Fin 16)) * log2C

/-- One head of one sequence, at a query and a feature. -/
def headOut (far : EReal) (q k v : Vec Ideal S1x2048x128 .bf16) (diag near : Vec Ideal S1x256x256 .f32) (y : S1x2048x128.Idx) : EReal :=
  att 2048 (klog (score (qAug q k) (kAug k)) far near diag (y 1)) (fun s => v (ix3 0 s (y 2)))

variable (V : (c : Dev nD) → (b : Ref sig .tc) → Buf (Elt Ideal) ((c : Thread nD τ).loc b))

theorem ld_tile (x : Vec Ideal S1x256x256 .f32) : View.ld x (Rect.unit (s := S1x256x256) ![0, 0, 0] S1x256x256.size inb_S1x256x256_S1x256x256_0_0_0) = x :=
  View.ld_unit_lit' _ _ (by decide)

theorem mem_rows (o : Nat) (inb : ∀ a, (![0, o, 0] : Fin 3 → Nat) a + S1x256x128.size a ≤ S1x2048x128.size a) (y : S1x2048x128.Idx)
    (h0 : o ≤ (y 1).val) (h1 : (y 1).val < o + 256) : y ∈ (Rect.unit (s := S1x2048x128) ![0, o, 0] S1x256x128.size inb).set := by
  refine Rect.mem_set_unit.mpr fun a => ?_
  have b0 : (y 0).val < 1 := (y 0).isLt
  have b2 : (y 2).val < 128 := (y 2).isLt
  fin_cases a
  · exact ⟨Nat.zero_le _, by show (y 0).val < 0 + 1; omega⟩
  · exact ⟨h0, h1⟩
  · exact ⟨Nat.zero_le _, by show (y 2).val < 0 + 128; omega⟩

/-- The store of query block 0 is its block of the head. -/
theorem store0 (far : EReal) (q k v : Vec Ideal S1x2048x128 .bf16) (diag near : Vec Ideal S1x256x256 .f32) (s : Vec Ideal S256x256 .f32)
    (hs : ∀ (r : Fin 256) (c : Fin 256), s (ix2 r c) = score (qAug q k) (kAug k) ⟨r.val, by omega⟩ (Fin.castLE (by decide) c))
    (x : S1x256x128.Idx) :
    k1_pay22 (F := Ideal) (k1_pay20 s (View.ld diag (Rect.unit (s := S1x256x256) ![0, 0, 0] S1x256x256.size inb_S1x256x256_S1x256x256_0_0_0))) (k1_pay21 s (View.ld diag (Rect.unit (s := S1x256x256) ![0, 0, 0] S1x256x256.size inb_S1x256x256_S1x256x256_0_0_0)) (View.ld v (Rect.unit (s := S1x2048x128) ![0, 0, 0] S1x256x128.size inb_S1x2048x128_S1x256x128_0_0_0))) x
      = headOut far q k v diag near ((Rect.unit (s := S1x2048x128) ![0, 0, 0] S1x256x128.size inb_S1x2048x128_S1x256x128_0_0_0).emb x) := by
  rw [ld_tile diag]
  have hx : x = ix3 (0 : Fin 1) (x 1 : Fin 256) (x 2 : Fin 128) := by
    funext a; fin_cases a
    · exact Subsingleton.elim (α := Fin 1) _ _
    · rfl
    · rfl
  have h := block0 (score (qAug q k) (kAug k)) far s near diag (View.ld v (Rect.unit (s := S1x2048x128) ![0, 0, 0] S1x256x128.size inb_S1x2048x128_S1x256x128_0_0_0)) (fun s e => v (ix3 0 s e)) hs
    (fun c e => View.ld_unit_apply_of _ _ _ _ _ _ (fun a => by fin_cases a <;> simp [ix3])) (x 1) (x 2)
  have b1 : (x 1).val < 256 := (x 1).isLt
  have e1 : (⟨(x 1).val, by omega⟩ : Fin 2048) = (Rect.unit (s := S1x2048x128) ![0, 0, 0] S1x256x128.size inb_S1x2048x128_S1x256x128_0_0_0).emb x 1 :=
    Fin.ext (by show (x 1).val = 0 + 1 * (x 1).val; omega)
  have e2 : (x 2 : Fin 128) = (Rect.unit (s := S1x2048x128) ![0, 0, 0] S1x256x128.size inb_S1x2048x128_S1x256x128_0_0_0).emb x 2 :=
    Fin.ext (by show (x 2).val = 0 + 1 * (x 2).val; omega)
  refine (congrArg _ hx).trans (h.trans ?_)
  exact congrArg₂ (fun (t : Fin 2048) (e : Fin 128) => att 2048 (klog (score (qAug q k) (kAug k)) far near diag t) (fun s => v (ix3 0 s e))) e1 e2

/-- The store of query block 1 is its block of the head. -/
theorem store1 (far : EReal) (q k v : Vec Ideal S1x2048x128 .bf16) (diag near : Vec Ideal S1x256x256 .f32) (s : Vec Ideal S256x512 .f32)
    (hs : ∀ (r : Fin 256) (c : Fin 512), s (ix2 r c) = score (qAug q k) (kAug k) ⟨256 + r.val, by omega⟩ (Fin.castLE (by decide) c))
    (x : S1x256x128.Idx) :
    k1_pay28 (F := Ideal) (k1_pay25 s (View.ld near (Rect.unit (s := S1x256x256) ![0, 0, 0] S1x256x256.size inb_S1x256x256_S1x256x256_0_0_0)) (View.ld diag (Rect.unit (s := S1x256x256) ![0, 0, 0] S1x256x256.size inb_S1x256x256_S1x256x256_0_0_0))) (k1_pay26 s (View.ld near (Rect.unit (s := S1x256x256) ![0, 0, 0] S1x256x256.size inb_S1x256x256_S1x256x256_0_0_0)) (View.ld diag (Rect.unit (s := S1x256x256) ![0, 0, 0] S1x256x256.size inb_S1x256x256_S1x256x256_0_0_0))) (k1_pay27 (View.ld v (Rect.unit (s := S1x2048x128) ![0, 0, 0] S1x512x128.size inb_S1x2048x128_S1x512x128_0_0_0))) x
      = headOut far q k v diag near ((Rect.unit (s := S1x2048x128) ![0, 256, 0] S1x256x128.size inb_S1x2048x128_S1x256x128_0_256_0).emb x) := by
  rw [ld_tile diag, ld_tile near]
  have hx : x = ix3 (0 : Fin 1) (x 1 : Fin 256) (x 2 : Fin 128) := by
    funext a; fin_cases a
    · exact Subsingleton.elim (α := Fin 1) _ _
    · rfl
    · rfl
  have h := block1 (score (qAug q k) (kAug k)) far s near diag (View.ld v (Rect.unit (s := S1x2048x128) ![0, 0, 0] S1x512x128.size inb_S1x2048x128_S1x512x128_0_0_0)) (fun s e => v (ix3 0 s e)) hs
    (fun c e => View.ld_unit_apply_of _ _ _ _ _ _ (fun a => by fin_cases a <;> simp [ix3])) (x 1) (x 2)
  have b1 : (x 1).val < 256 := (x 1).isLt
  have e1 : (⟨256 + (x 1).val, by omega⟩ : Fin 2048) = (Rect.unit (s := S1x2048x128) ![0, 256, 0] S1x256x128.size inb_S1x2048x128_S1x256x128_0_256_0).emb x 1 :=
    Fin.ext (by show 256 + (x 1).val = 256 + 1 * (x 1).val; omega)
  have e2 : (x 2 : Fin 128) = (Rect.unit (s := S1x2048x128) ![0, 256, 0] S1x256x128.size inb_S1x2048x128_S1x256x128_0_256_0).emb x 2 :=
    Fin.ext (by show (x 2).val = 0 + 1 * (x 2).val; omega)
  refine (congrArg _ hx).trans (h.trans ?_)
  exact congrArg₂ (fun (t : Fin 2048) (e : Fin 128) => att 2048 (klog (score (qAug q k) (kAug k)) far near diag t) (fun s => v (ix3 0 s e))) e1 e2

/-- The store of query block 2 is its block of the head. -/
theorem store2 (far : EReal) (q k v : Vec Ideal S1x2048x128 .bf16) (diag near : Vec Ideal S1x256x256 .f32) (s : Vec Ideal S256x768 .f32)
    (hs : ∀ (r : Fin 256) (c : Fin 768), s (ix2 r c) = score (qAug q k) (kAug k) ⟨512 + r.val, by omega⟩ (Fin.castLE (by decide) c))
    (x : S1x256x128.Idx) :
    k1_pay33 (F := Ideal) (k1_pay31 far s (View.ld near (Rect.unit (s := S1x256x256) ![0, 0, 0] S1x256x256.size inb_S1x256x256_S1x256x256_0_0_0)) (View.ld diag (Rect.unit (s := S1x256x256) ![0, 0, 0] S1x256x256.size inb_S1x256x256_S1x256x256_0_0_0))) (k1_pay32 far s (View.ld near (Rect.unit (s := S1x256x256) ![0, 0, 0] S1x256x256.size inb_S1x256x256_S1x256x256_0_0_0)) (View.ld diag (Rect.unit (s := S1x256x256) ![0, 0, 0] S1x256x256.size inb_S1x256x256_S1x256x256_0_0_0))) (View.ld v (Rect.unit (s := S1x2048x128) ![0, 0, 0] S1x768x128.size inb_S1x2048x128_S1x768x128_0_0_0)) x
      = headOut far q k v diag near ((Rect.unit (s := S1x2048x128) ![0, 512, 0] S1x256x128.size inb_S1x2048x128_S1x256x128_0_512_0).emb x) := by
  rw [ld_tile diag, ld_tile near]
  have hx : x = ix3 (0 : Fin 1) (x 1 : Fin 256) (x 2 : Fin 128) := by
    funext a; fin_cases a
    · exact Subsingleton.elim (α := Fin 1) _ _
    · rfl
    · rfl
  have h := block2 (score (qAug q k) (kAug k)) far s near diag (View.ld v (Rect.unit (s := S1x2048x128) ![0, 0, 0] S1x768x128.size inb_S1x2048x128_S1x768x128_0_0_0)) (fun s e => v (ix3 0 s e)) hs
    (fun c e => View.ld_unit_apply_of _ _ _ _ _ _ (fun a => by fin_cases a <;> simp [ix3])) (x 1) (x 2)
  have b1 : (x 1).val < 256 := (x 1).isLt
  have e1 : (⟨512 + (x 1).val, by omega⟩ : Fin 2048) = (Rect.unit (s := S1x2048x128) ![0, 512, 0] S1x256x128.size inb_S1x2048x128_S1x256x128_0_512_0).emb x 1 :=
    Fin.ext (by show 512 + (x 1).val = 512 + 1 * (x 1).val; omega)
  have e2 : (x 2 : Fin 128) = (Rect.unit (s := S1x2048x128) ![0, 512, 0] S1x256x128.size inb_S1x2048x128_S1x256x128_0_512_0).emb x 2 :=
    Fin.ext (by show (x 2).val = 0 + 1 * (x 2).val; omega)
  refine (congrArg _ hx).trans (h.trans ?_)
  exact congrArg₂ (fun (t : Fin 2048) (e : Fin 128) => att 2048 (klog (score (qAug q k) (kAug k)) far near diag t) (fun s => v (ix3 0 s e))) e1 e2

/-- The store of query block 3 is its block of the head. -/
theorem store3 (far : EReal) (q k v : Vec Ideal S1x2048x128 .bf16) (diag near : Vec Ideal S1x256x256 .f32) (s : Vec Ideal S256x1024 .f32)
    (hs : ∀ (r : Fin 256) (c : Fin 1024), s (ix2 r c) = score (qAug q k) (kAug k) ⟨768 + r.val, by omega⟩ (Fin.castLE (by decide) c))
    (x : S1x256x128.Idx) :
    k1_pay36 (F := Ideal) (k1_pay35 far s (View.ld near (Rect.unit (s := S1x256x256) ![0, 0, 0] S1x256x256.size inb_S1x256x256_S1x256x256_0_0_0)) (View.ld diag (Rect.unit (s := S1x256x256) ![0, 0, 0] S1x256x256.size inb_S1x256x256_S1x256x256_0_0_0))) (View.ld v (Rect.unit (s := S1x2048x128) ![0, 0, 0] S1x1024x128.size inb_S1x2048x128_S1x1024x128_0_0_0)) x
      = headOut far q k v diag near ((Rect.unit (s := S1x2048x128) ![0, 768, 0] S1x256x128.size inb_S1x2048x128_S1x256x128_0_768_0).emb x) := by
  rw [ld_tile diag, ld_tile near]
  have hx : x = ix3 (0 : Fin 1) (x 1 : Fin 256) (x 2 : Fin 128) := by
    funext a; fin_cases a
    · exact Subsingleton.elim (α := Fin 1) _ _
    · rfl
    · rfl
  have h := block3 (score (qAug q k) (kAug k)) far s near diag (View.ld v (Rect.unit (s := S1x2048x128) ![0, 0, 0] S1x1024x128.size inb_S1x2048x128_S1x1024x128_0_0_0)) (fun s e => v (ix3 0 s e)) hs
    (fun c e => View.ld_unit_apply_of _ _ _ _ _ _ (fun a => by fin_cases a <;> simp [ix3])) (x 1) (x 2)
  have b1 : (x 1).val < 256 := (x 1).isLt
  have e1 : (⟨768 + (x 1).val, by omega⟩ : Fin 2048) = (Rect.unit (s := S1x2048x128) ![0, 768, 0] S1x256x128.size inb_S1x2048x128_S1x256x128_0_768_0).emb x 1 :=
    Fin.ext (by show 768 + (x 1).val = 768 + 1 * (x 1).val; omega)
  have e2 : (x 2 : Fin 128) = (Rect.unit (s := S1x2048x128) ![0, 768, 0] S1x256x128.size inb_S1x2048x128_S1x256x128_0_768_0).emb x 2 :=
    Fin.ext (by show (x 2).val = 0 + 1 * (x 2).val; omega)
  refine (congrArg _ hx).trans (h.trans ?_)
  exact congrArg₂ (fun (t : Fin 2048) (e : Fin 128) => att 2048 (klog (score (qAug q k) (kAug k)) far near diag t) (fun s => v (ix3 0 s e))) e1 e2

/-- The store of query block 4 is its block of the head. -/
theorem store4 (far : EReal) (q k v : Vec Ideal S1x2048x128 .bf16) (diag near : Vec Ideal S1x256x256 .f32) (s : Vec Ideal S256x1280 .f32)
    (hs : ∀ (r : Fin 256) (c : Fin 1280), s (ix2 r c) = score (qAug q k) (kAug k) ⟨1024 + r.val, by omega⟩ (Fin.castLE (by decide) c))
    (x : S1x256x128.Idx) :
    k1_pay39 (F := Ideal) (k1_pay38 far s (View.ld near (Rect.unit (s := S1x256x256) ![0, 0, 0] S1x256x256.size inb_S1x256x256_S1x256x256_0_0_0)) (View.ld diag (Rect.unit (s := S1x256x256) ![0, 0, 0] S1x256x256.size inb_S1x256x256_S1x256x256_0_0_0))) (View.ld v (Rect.unit (s := S1x2048x128) ![0, 0, 0] S1x1280x128.size inb_S1x2048x128_S1x1280x128_0_0_0)) x
      = headOut far q k v diag near ((Rect.unit (s := S1x2048x128) ![0, 1024, 0] S1x256x128.size inb_S1x2048x128_S1x256x128_0_1024_0).emb x) := by
  rw [ld_tile diag, ld_tile near]
  have hx : x = ix3 (0 : Fin 1) (x 1 : Fin 256) (x 2 : Fin 128) := by
    funext a; fin_cases a
    · exact Subsingleton.elim (α := Fin 1) _ _
    · rfl
    · rfl
  have h := block4 (score (qAug q k) (kAug k)) far s near diag (View.ld v (Rect.unit (s := S1x2048x128) ![0, 0, 0] S1x1280x128.size inb_S1x2048x128_S1x1280x128_0_0_0)) (fun s e => v (ix3 0 s e)) hs
    (fun c e => View.ld_unit_apply_of _ _ _ _ _ _ (fun a => by fin_cases a <;> simp [ix3])) (x 1) (x 2)
  have b1 : (x 1).val < 256 := (x 1).isLt
  have e1 : (⟨1024 + (x 1).val, by omega⟩ : Fin 2048) = (Rect.unit (s := S1x2048x128) ![0, 1024, 0] S1x256x128.size inb_S1x2048x128_S1x256x128_0_1024_0).emb x 1 :=
    Fin.ext (by show 1024 + (x 1).val = 1024 + 1 * (x 1).val; omega)
  have e2 : (x 2 : Fin 128) = (Rect.unit (s := S1x2048x128) ![0, 1024, 0] S1x256x128.size inb_S1x2048x128_S1x256x128_0_1024_0).emb x 2 :=
    Fin.ext (by show (x 2).val = 0 + 1 * (x 2).val; omega)
  refine (congrArg _ hx).trans (h.trans ?_)
  exact congrArg₂ (fun (t : Fin 2048) (e : Fin 128) => att 2048 (klog (score (qAug q k) (kAug k)) far near diag t) (fun s => v (ix3 0 s e))) e1 e2

/-- The store of query block 5 is its block of the head. -/
theorem store5 (far : EReal) (q k v : Vec Ideal S1x2048x128 .bf16) (diag near : Vec Ideal S1x256x256 .f32) (s : Vec Ideal S256x1536 .f32)
    (hs : ∀ (r : Fin 256) (c : Fin 1536), s (ix2 r c) = score (qAug q k) (kAug k) ⟨1280 + r.val, by omega⟩ (Fin.castLE (by decide) c))
    (x : S1x256x128.Idx) :
    k1_pay45 (F := Ideal) (k1_pay42 far s) (k1_pay43 s (View.ld near (Rect.unit (s := S1x256x256) ![0, 0, 0] S1x256x256.size inb_S1x256x256_S1x256x256_0_0_0))) (k1_pay44 s) (View.ld diag (Rect.unit (s := S1x256x256) ![0, 0, 0] S1x256x256.size inb_S1x256x256_S1x256x256_0_0_0)) (View.ld v (Rect.unit (s := S1x2048x128) ![0, 0, 0] S1x1536x128.size inb_S1x2048x128_S1x1536x128_0_0_0)) x
      = headOut far q k v diag near ((Rect.unit (s := S1x2048x128) ![0, 1280, 0] S1x256x128.size inb_S1x2048x128_S1x256x128_0_1280_0).emb x) := by
  rw [ld_tile diag, ld_tile near]
  have hx : x = ix3 (0 : Fin 1) (x 1 : Fin 256) (x 2 : Fin 128) := by
    funext a; fin_cases a
    · exact Subsingleton.elim (α := Fin 1) _ _
    · rfl
    · rfl
  have h := block5 (score (qAug q k) (kAug k)) far s near diag (View.ld v (Rect.unit (s := S1x2048x128) ![0, 0, 0] S1x1536x128.size inb_S1x2048x128_S1x1536x128_0_0_0)) (fun s e => v (ix3 0 s e)) hs
    (fun c e => View.ld_unit_apply_of _ _ _ _ _ _ (fun a => by fin_cases a <;> simp [ix3])) (x 1) (x 2)
  have b1 : (x 1).val < 256 := (x 1).isLt
  have e1 : (⟨1280 + (x 1).val, by omega⟩ : Fin 2048) = (Rect.unit (s := S1x2048x128) ![0, 1280, 0] S1x256x128.size inb_S1x2048x128_S1x256x128_0_1280_0).emb x 1 :=
    Fin.ext (by show 1280 + (x 1).val = 1280 + 1 * (x 1).val; omega)
  have e2 : (x 2 : Fin 128) = (Rect.unit (s := S1x2048x128) ![0, 1280, 0] S1x256x128.size inb_S1x2048x128_S1x256x128_0_1280_0).emb x 2 :=
    Fin.ext (by show (x 2).val = 0 + 1 * (x 2).val; omega)
  refine (congrArg _ hx).trans (h.trans ?_)
  exact congrArg₂ (fun (t : Fin 2048) (e : Fin 128) => att 2048 (klog (score (qAug q k) (kAug k)) far near diag t) (fun s => v (ix3 0 s e))) e1 e2

/-- The store of query block 6 is its block of the head. -/
theorem store6 (far : EReal) (q k v : Vec Ideal S1x2048x128 .bf16) (diag near : Vec Ideal S1x256x256 .f32) (s : Vec Ideal S256x1792 .f32)
    (hs : ∀ (r : Fin 256) (c : Fin 1792), s (ix2 r c) = score (qAug q k) (kAug k) ⟨1536 + r.val, by omega⟩ (Fin.castLE (by decide) c))
    (x : S1x256x128.Idx) :
    k1_pay50 (F := Ideal) (k1_pay47 s) (k1_pay48 far s) (k1_pay49 s) (View.ld near (Rect.unit (s := S1x256x256) ![0, 0, 0] S1x256x256.size inb_S1x256x256_S1x256x256_0_0_0)) (View.ld diag (Rect.unit (s := S1x256x256) ![0, 0, 0] S1x256x256.size inb_S1x256x256_S1x256x256_0_0_0)) (View.ld v (Rect.unit (s := S1x2048x128) ![0, 0, 0] S1x1792x128.size inb_S1x2048x128_S1x1792x128_0_0_0)) x
      = headOut far q k v diag near ((Rect.unit (s := S1x2048x128) ![0, 1536, 0] S1x256x128.size inb_S1x2048x128_S1x256x128_0_1536_0).emb x) := by
  rw [ld_tile diag, ld_tile near]
  have hx : x = ix3 (0 : Fin 1) (x 1 : Fin 256) (x 2 : Fin 128) := by
    funext a; fin_cases a
    · exact Subsingleton.elim (α := Fin 1) _ _
    · rfl
    · rfl
  have h := block6 (score (qAug q k) (kAug k)) far s near diag (View.ld v (Rect.unit (s := S1x2048x128) ![0, 0, 0] S1x1792x128.size inb_S1x2048x128_S1x1792x128_0_0_0)) (fun s e => v (ix3 0 s e)) hs
    (fun c e => View.ld_unit_apply_of _ _ _ _ _ _ (fun a => by fin_cases a <;> simp [ix3])) (x 1) (x 2)
  have b1 : (x 1).val < 256 := (x 1).isLt
  have e1 : (⟨1536 + (x 1).val, by omega⟩ : Fin 2048) = (Rect.unit (s := S1x2048x128) ![0, 1536, 0] S1x256x128.size inb_S1x2048x128_S1x256x128_0_1536_0).emb x 1 :=
    Fin.ext (by show 1536 + (x 1).val = 1536 + 1 * (x 1).val; omega)
  have e2 : (x 2 : Fin 128) = (Rect.unit (s := S1x2048x128) ![0, 1536, 0] S1x256x128.size inb_S1x2048x128_S1x256x128_0_1536_0).emb x 2 :=
    Fin.ext (by show (x 2).val = 0 + 1 * (x 2).val; omega)
  refine (congrArg _ hx).trans (h.trans ?_)
  exact congrArg₂ (fun (t : Fin 2048) (e : Fin 128) => att 2048 (klog (score (qAug q k) (kAug k)) far near diag t) (fun s => v (ix3 0 s e))) e1 e2

/-- The store of query block 7 is its block of the head. -/
theorem store7 (far : EReal) (q k v : Vec Ideal S1x2048x128 .bf16) (diag near : Vec Ideal S1x256x256 .f32) (s : Vec Ideal S256x2048 .f32)
    (hs : ∀ (r : Fin 256) (c : Fin 2048), s (ix2 r c) = score (qAug q k) (kAug k) ⟨1792 + r.val, by omega⟩ (Fin.castLE (by decide) c))
    (x : S1x256x128.Idx) :
    k1_pay1 (F := Ideal) (k1_pay52 far s) (k1_pay53 s (View.ld near (Rect.unit (s := S1x256x256) ![0, 0, 0] S1x256x256.size inb_S1x256x256_S1x256x256_0_0_0))) (k1_pay54 s (View.ld diag (Rect.unit (s := S1x256x256) ![0, 0, 0] S1x256x256.size inb_S1x256x256_S1x256x256_0_0_0))) (View.ld v (Rect.unit (s := S1x2048x128) ![0, 0, 0] S1x2048x128.size inb_S1x2048x128_S1x2048x128_0_0_0)) x
      = headOut far q k v diag near ((Rect.unit (s := S1x2048x128) ![0, 1792, 0] S1x256x128.size inb_S1x2048x128_S1x256x128_0_1792_0).emb x) := by
  rw [ld_tile diag, ld_tile near]
  have hx : x = ix3 (0 : Fin 1) (x 1 : Fin 256) (x 2 : Fin 128) := by
    funext a; fin_cases a
    · exact Subsingleton.elim (α := Fin 1) _ _
    · rfl
    · rfl
  have h := block7 (score (qAug q k) (kAug k)) far s near diag (View.ld v (Rect.unit (s := S1x2048x128) ![0, 0, 0] S1x2048x128.size inb_S1x2048x128_S1x2048x128_0_0_0)) (fun s e => v (ix3 0 s e)) hs
    (fun c e => View.ld_unit_apply_of _ _ _ _ _ _ (fun a => by fin_cases a <;> simp [ix3])) (x 1) (x 2)
  have b1 : (x 1).val < 256 := (x 1).isLt
  have e1 : (⟨1792 + (x 1).val, by omega⟩ : Fin 2048) = (Rect.unit (s := S1x2048x128) ![0, 1792, 0] S1x256x128.size inb_S1x2048x128_S1x256x128_0_1792_0).emb x 1 :=
    Fin.ext (by show 1792 + (x 1).val = 1792 + 1 * (x 1).val; omega)
  have e2 : (x 2 : Fin 128) = (Rect.unit (s := S1x2048x128) ![0, 1792, 0] S1x256x128.size inb_S1x2048x128_S1x256x128_0_1792_0).emb x 2 :=
    Fin.ext (by show (x 2).val = 0 + 1 * (x 2).val; omega)
  refine (congrArg _ hx).trans (h.trans ?_)
  exact congrArg₂ (fun (t : Fin 2048) (e : Fin 128) => att 2048 (klog (score (qAug q k) (kAug k)) far near diag t) (fun s => v (ix3 0 s e))) e1 e2

end Cert.MobaIdeal.Att
-- ==== Proof.MobaSel.lean ====
module
public import proofs.«01_k».proof.Proof.MobaStore

/-!
# The attention call: the choice of blocks and the widened scores

The rank of a block counts the blocks before it, by score and then by position. A past block of rank three or
more gets the penalty −∞. The product of the widened rows is the score plus the penalty of the key's block.
-/

@[expose] public section
set_option maxHeartbeats 4000000
set_option maxRecDepth 16384
noncomputable section
namespace Cert.MobaIdeal.Att
open Cert.MobaIdeal Cert.MobaIdeal.Gen
open Idealize.ShloMosaic Idealize.ShloMosaic.TcCoe Idealize.SL.Sem

/-- How many blocks come before block `n`: of greater score, or of equal score and earlier. -/
def rank8 (g : Fin 8 → EReal) (n : Fin 8) : Nat := ∑ j : Fin 8, if g n < g j ∨ (g j = g n ∧ j < n) then 1 else 0

theorem rank8_le (g : Fin 8 → EReal) (n : Fin 8) : rank8 g n ≤ 8 := by
  unfold rank8
  refine (Finset.sum_le_sum (g := fun _ => 1) fun j _ => ?_).trans (by simp)
  split <;> simp

theorem addi_nat (a b : Nat) : IntOp.addi (BitVec.ofNat 32 a) (BitVec.ofNat 32 b) = BitVec.ofNat 32 (a + b) := (BitVec.ofNat_add a b).symm
theorem muli_nat (a b : Nat) : IntOp.muli (BitVec.ofNat 32 a) (BitVec.ofNat 32 b) = BitVec.ofNat 32 (a * b) := (BitVec.ofNat_mul a b).symm

/-- One comparison of the rank, as a number. -/
theorem beats_bit (x y : EReal) (n j : Nat) (hn : n < 8) (hj : j < 8) :
    Scalar.select (IntOp.ori (BitVec.ofBool (decide (x < y))) (IntOp.andi (BitVec.ofBool (decide (y = x)))
      (IntOp.cmpi CmpIPredicate.sgt (BitVec.ofNat 32 n) (BitVec.ofNat 32 j)))) 1#32 0#32
      = BitVec.ofNat 32 (if x < y ∨ (y = x ∧ j < n) then 1 else 0) := by
  rw [WordCmp.cmpi_sgt_ofNat (by omega) (by omega), WordCmp.andi_ofBool, WordCmp.ori_ofBool, WordCmp.select_ofBool]
  by_cases h1 : x < y <;> by_cases h2 : y = x <;> by_cases h3 : j < n <;> simp [h1, h2, h3]

theorem past_bit (n t : Nat) (hn : n < 8) (ht : t < 2048) :
    IntOp.cmpi CmpIPredicate.sle (IntOp.muli (IntOp.addi (BitVec.ofNat 32 n) 1#32) 256#32) (BitVec.ofNat 32 t)
      = BitVec.ofBool (decide (n < t / 256)) := by
  rw [addi_nat, muli_nat, WordCmp.cmpi_sle_ofNat (by omega) (by omega)]
  congr 1
  exact decide_eq_decide.mpr (by omega)

theorem masked_bot : Named.named (F := Ideal) (φ := .f32) κ "masked" 4048155338#32 = (⊥ : EReal) :=
  IdealRules.named_const.ideal_named_scalar _ _ _ _ rfl

/-- The penalty of a query at a block: −∞ at a past block not among the best three, else zero. -/
def penOf (q k : Vec Ideal S1x2048x128 .bf16) (t : Fin 2048) (n : Nat) : EReal :=
  if h : n < 8 then (if n < t.val / 256 ∧ 3 ≤ rank8 (fun j => k1_pay9 (F := Ideal) (k1_pay6 k) q (ix2 j t)) ⟨n, h⟩ then ⊥ else 0) else 0

theorem pen_apply (q k : Vec Ideal S1x2048x128 .bf16) (t : Fin 2048) (n : Fin 128) :
    pen q k (ix2 t n) = penOf q k t n.val := by
  unfold pen
  pointwise [k1_pay16, k1_pay15, k1_pay8, k1_pay10, k1_pay11, k1_pay12, k1_pay13]
  unfold penOf
  refine dite_congr rfl (fun h => ?_) (fun _ => rfl)
  rw [past_bit _ _ h t.isLt]
  have hb := fun (x y : EReal) (j : Nat) (hj : j < 8) => beats_bit x y n.val j h hj
  generalize hg : (fun j => k1_pay9 (F := Ideal) (k1_pay6 k) q (ix2 j t)) = g
  have hg' : ∀ j, k1_pay9 (F := Ideal) (k1_pay6 k) q (ix2 j t) = g j := fun j => by rw [← hg]
  simp only [hg']
  rw [hb _ _ 0 (by omega), hb _ _ 1 (by omega), hb _ _ 2 (by omega), hb _ _ 3 (by omega), hb _ _ 4 (by omega), hb _ _ 5 (by omega),
    hb _ _ 6 (by omega), hb _ _ 7 (by omega), masked_bot]
  simp only [addi_nat]
  have hr : rank8 g ⟨n.val, h⟩ = _ := Fin.sum_univ_eight _
  have hl := rank8_le g ⟨n.val, h⟩
  have e : ∀ R : Nat, R = rank8 g ⟨n.val, h⟩ → Scalar.select (IntOp.andi (BitVec.ofBool (decide (n.val < t.val / 256)))
      (IntOp.cmpi CmpIPredicate.sge (BitVec.ofNat 32 R) 3#32)) (⊥ : EReal) 0
      = if n.val < t.val / 256 ∧ 3 ≤ rank8 g ⟨n.val, h⟩ then ⊥ else 0 := by
    intro R hR
    rw [hR, WordCmp.cmpi_sge_ofNat (by omega) (by omega), WordCmp.andi_ofBool, WordCmp.select_ofBool]
    by_cases h1 : n.val < t.val / 256 <;> by_cases h2 : 3 ≤ rank8 g ⟨n.val, h⟩ <;> simp [h1, h2]
  refine e _ ?_
  rw [hr, zero_add]
  rfl

theorem select_real (P : Prop) [Decidable P] (x : ℝ) :
    Scalar.select (BitVec.ofBool (decide P)) (x : EReal) 0 = ((if P then x else 0 : ℝ) : EReal) := by
  rw [WordCmp.select_ofBool]
  by_cases h : P <;> simp [h]

theorem sum_block (n : Fin 8) (f : Fin 2048 → ℝ) :
    (∑ s : Fin 2048, if 256 * n.val ≤ s.val ∧ s.val < 256 * n.val + 256 then f s else 0)
      = ∑ x : Fin 256, f ⟨256 * n.val + x.val, by omega⟩ := by
  symm
  refine Finset.sum_of_injOn (fun x : Fin 256 => (⟨256 * n.val + x.val, by omega⟩ : Fin 2048)) ?_ (fun _ _ => Finset.mem_coe.mpr (Finset.mem_univ _)) ?_ ?_
  · intro a _ b _ hab
    have := congrArg Fin.val hab
    exact Fin.ext (by simpa using this)
  · intro s _ hs
    refine if_neg fun hc => hs ⟨⟨s.val - 256 * n.val, by omega⟩, Finset.mem_coe.mpr (Finset.mem_univ _), Fin.ext ?_⟩
    show 256 * n.val + (s.val - 256 * n.val) = s.val
    omega
  · intro x _
    have := x.isLt
    exact (if_pos (by constructor <;> show _ <;> simp)).symm

theorem c256 : Ideal.ofBits FTy.f32 998244352#32 = ((1 / 256 : ℝ) : EReal) := by
  simp [Ideal.ofBits, Ideal.ieee, -EReal.coe_mul]; norm_num

/-- The score of block `n` for the query: the query times the block's mean key, on past blocks; −∞ on the others. -/
def gate (qr kr : S1x2048x128.Idx → ℝ) (t : Fin 2048) (n : Fin 8) : EReal :=
  if n.val < t.val / 256 then
    ((∑ c : Fin 128, (∑ x : Fin 256, kr (ix3 0 (⟨256 * n.val + x.val, by omega⟩ : Fin 2048) c)) / 256 * qr (ix3 0 t c) : ℝ) : EReal)
  else ⊥

theorem coe_sum' {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem mean_bit (s n : Nat) (hs : s < 2048) (hn : n < 8) :
    IntOp.andi (IntOp.cmpi CmpIPredicate.sge (BitVec.ofNat 32 s) (IntOp.muli (BitVec.ofNat 32 n) 256#32))
      (IntOp.cmpi CmpIPredicate.slt (BitVec.ofNat 32 s) (IntOp.addi (IntOp.muli (BitVec.ofNat 32 n) 256#32) 256#32))
      = BitVec.ofBool (decide (256 * n ≤ s ∧ s < 256 * n + 256)) := by
  rw [muli_nat, addi_nat, WordCmp.cmpi_sge_ofNat (by omega) (by omega), WordCmp.cmpi_slt_ofNat (by omega) (by omega), WordCmp.andi_ofBool,
    Bool.decide_and]
  congr 2 <;> exact decide_eq_decide.mpr (by omega)

theorem gate_apply (q k : Vec Ideal S1x2048x128 .bf16) (qr kr : S1x2048x128.Idx → ℝ) (hq : ∀ y, q y = (qr y : EReal)) (hk : ∀ y, k y = (kr y : EReal))
    (t : Fin 2048) (n : Fin 8) : k1_pay9 (F := Ideal) (k1_pay6 k) q (ix2 n t) = gate qr kr t n := by
  have e : ∀ c : Fin 128, (∑ s : Fin 2048, Scalar.select (IntOp.andi (IntOp.cmpi CmpIPredicate.sge (BitVec.ofNat 32 s.val) (IntOp.muli (BitVec.ofNat 32 n.val) 256#32))
      (IntOp.cmpi CmpIPredicate.slt (BitVec.ofNat 32 s.val) (IntOp.addi (IntOp.muli (BitVec.ofNat 32 n.val) 256#32) 256#32)))
      (Ideal.ofBits FTy.f32 998244352#32 * k (ix3 0 s c)) 0)
      = (((∑ x : Fin 256, kr (ix3 0 (⟨256 * n.val + x.val, by omega⟩ : Fin 2048) c)) / 256 : ℝ) : EReal) := by
    intro c
    have : ∀ s : Fin 2048, _ = _ := fun s => (congrArg (fun b => Scalar.select b (Ideal.ofBits FTy.f32 998244352#32 * k (ix3 0 s c)) 0) (mean_bit s.val n.val s.isLt n.isLt))
    rw [Finset.sum_congr rfl fun s _ => this s]
    have h2 : ∀ s : Fin 2048, Ideal.ofBits FTy.f32 998244352#32 * k (ix3 0 s c) = ((1 / 256 * kr (ix3 0 s c) : ℝ) : EReal) := fun s => by
      rw [c256, hk, ← EReal.coe_mul]
    simp only [h2, select_real]
    rw [coe_sum', sum_block n (fun s => 1 / 256 * kr (ix3 0 s c)), ← Finset.mul_sum]
    congr 1
    ring
  pointwise [k1_pay9, k1_pay6, k1_pay8, k1_pay3, k1_pay7]
  rw [past_bit _ _ n.isLt t.isLt, WordCmp.select_ofBool]
  unfold gate
  by_cases h : n.val < t.val / 256
  · rw [if_pos (decide_eq_true h), if_pos h]
    refine (congrArg₂ (· + ·) (Finset.sum_congr rfl fun c _ => congrArg (· * q (ix3 0 t c)) (e c))
      (Finset.sum_congr rfl fun c _ => congrArg (fun A => (A - A) * q (ix3 0 t c)) (e c))).trans ?_
    have z : ∀ a b : ℝ, ((a : EReal) - (a : EReal)) * (b : EReal) = 0 := fun a b => by
      rw [← EReal.coe_sub, sub_self, EReal.coe_zero, zero_mul]
    simp only [hq, z, Finset.sum_const_zero, add_zero, ← EReal.coe_mul, coe_sum']
  · rw [if_neg (by simpa using h), if_neg h]
    exact bot_bits

/-- Two arrays side by side. -/
def beside (A B : S2048x128.Idx → EReal) (y : S2048x256.Idx) : EReal :=
  if h : (y 1).val < 128 then A (ix2 (y 0 : Fin 2048) (⟨(y 1).val, h⟩ : Fin 128))
  else B (ix2 (y 0 : Fin 2048) (⟨(y 1).val - 128, by have : (y 1).val < 256 := (y 1).isLt; omega⟩ : Fin 128))

theorem canon_beside (A B : S2048x128.Idx → EReal) (y : S2048x256.Idx) :
    View.canon [(⟨Rect.unit (s := S2048x256) ![0, 128] S2048x128.size inb_S2048x256_S2048x128_0_128, B⟩ : View.Piece (Elt Ideal) S2048x256 .bf16),
      ⟨Rect.unit (s := S2048x256) ![0, 0] S2048x128.size inb_S2048x256_S2048x128_0_0, A⟩] y = beside A B y := by
  have b0 : (y 0).val < 2048 := (y 0).isLt
  have b1 : (y 1).val < 256 := (y 1).isLt
  refine View.canon_apply_of_pieces (Val := Elt Ideal) (e := .bf16) (S := S2048x256) (beside A B) _ (View.PiecesOf.mem ?_) y ?_
  · refine ⟨fun x => ?_, fun x => ?_, trivial⟩
    · show B x = beside A B ((Rect.unit (s := S2048x256) ![0, 128] S2048x128.size inb_S2048x256_S2048x128_0_128).emb x)
      have h0 : ((Rect.unit (s := S2048x256) ![0, 128] S2048x128.size inb_S2048x256_S2048x128_0_128).emb x 0).val = 0 + 1 * (x 0).val := rfl
      have h1 : ((Rect.unit (s := S2048x256) ![0, 128] S2048x128.size inb_S2048x256_S2048x128_0_128).emb x 1).val = 128 + 1 * (x 1).val := rfl
      unfold beside
      rw [dif_neg (by omega)]
      refine congrArg B (funext fun a => Fin.ext ?_)
      fin_cases a
      · show (x 0).val = 0 + 1 * (x 0).val; omega
      · show (x 1).val = 128 + 1 * (x 1).val - 128; omega
    · show A x = beside A B ((Rect.unit (s := S2048x256) ![0, 0] S2048x128.size inb_S2048x256_S2048x128_0_0).emb x)
      have h1 : ((Rect.unit (s := S2048x256) ![0, 0] S2048x128.size inb_S2048x256_S2048x128_0_0).emb x 1).val = 0 + 1 * (x 1).val := rfl
      have l1 : (x 1).val < 128 := (x 1).isLt
      unfold beside
      rw [dif_pos (by omega)]
      refine congrArg A (funext fun a => Fin.ext ?_)
      fin_cases a
      · show (x 0).val = 0 + 1 * (x 0).val; omega
      · show (x 1).val = 0 + 1 * (x 1).val; omega
  · by_cases h : (y 1).val < 128
    · refine ⟨_, List.mem_cons_of_mem _ (List.mem_cons_self ..), (Rect.mem_set_unit (inb := inb_S2048x256_S2048x128_0_0)).mpr fun a => ?_⟩
      fin_cases a
      · exact ⟨Nat.zero_le _, by show (y 0).val < 0 + 2048; omega⟩
      · exact ⟨Nat.zero_le _, by show (y 1).val < 0 + 128; omega⟩
    · refine ⟨_, List.mem_cons_self .., (Rect.mem_set_unit (inb := inb_S2048x256_S2048x128_0_128)).mpr fun a => ?_⟩
      fin_cases a
      · exact ⟨Nat.zero_le _, by show (y 0).val < 0 + 2048; omega⟩
      · exact ⟨by show 128 ≤ (y 1).val; omega, by show (y 1).val < 128 + 128; omega⟩

theorem hot_apply (s : Fin 2048) (n : Fin 128) : k1_pay5 (F := Ideal) (ix2 s n) = if s.val / 256 = n.val then (1 : EReal) else 0 := by
  pointwise [k1_pay5]
  have b : IntOp.andi (IntOp.cmpi CmpIPredicate.sge (BitVec.ofNat 32 s.val) (IntOp.muli (BitVec.ofNat 32 n.val) 256#32))
      (IntOp.cmpi CmpIPredicate.slt (BitVec.ofNat 32 s.val) (IntOp.addi (IntOp.muli (BitVec.ofNat 32 n.val) 256#32) 256#32))
      = BitVec.ofBool (decide (s.val / 256 = n.val)) := by
    rw [muli_nat, addi_nat, WordCmp.cmpi_sge_ofNat (by omega) (by omega), WordCmp.cmpi_slt_ofNat (by omega) (by omega), WordCmp.andi_ofBool,
      ← Bool.decide_and]
    congr 1
    exact decide_eq_decide.mpr (by omega)
  rw [b, WordCmp.select_ofBool]
  simp

/-- The product of the widened rows: the score plus the penalty of the key's block. -/
theorem score_aug (q k : Vec Ideal S1x2048x128 .bf16) (t s : Fin 2048) :
    score (qAug q k) (kAug k) t s = (∑ c : Fin 128, q (ix3 0 t c) * k (ix3 0 s c)) + penOf q k t (s.val / 256) := by
  unfold score
  have hK : ∀ y, kAug k y = beside (k1_pay4 (F := Ideal) k) (k1_pay5 (F := Ideal)) y := canon_beside _ _
  have hQ : ∀ y, qAug q k y = beside (k1_pay14 (F := Ideal) (k1_pay7 q)) (pen q k) y := canon_beside _ _
  simp only [hK, hQ]
  refine (Fin.sum_univ_add (a := 128) (b := 128) (fun c : Fin 256 => beside (k1_pay14 (F := Ideal) (k1_pay7 q)) (pen q k) (ix2 t c)
    * beside (k1_pay4 (F := Ideal) k) (k1_pay5 (F := Ideal)) (ix2 s c))).trans ?_
  refine congrArg₂ (· + ·) (Finset.sum_congr rfl fun c _ => ?_) ?_
  · refine congrArg₂ (· * ·) ((dif_pos c.isLt).trans ?_) ((dif_pos c.isLt).trans ?_)
    · show k1_pay14 (F := Ideal) (k1_pay7 q) (ix2 t c) = _
      pointwise [k1_pay14, k1_pay7]
    · show k1_pay4 (F := Ideal) k (ix2 s c) = _
      pointwise [k1_pay4, k1_pay3]
  · have hn : s.val / 256 < 128 := by omega
    have e : ∀ c : Fin 128, beside (k1_pay14 (F := Ideal) (k1_pay7 q)) (pen q k) (ix2 t (Fin.natAdd 128 c))
        * beside (k1_pay4 (F := Ideal) k) (k1_pay5 (F := Ideal)) (ix2 s (Fin.natAdd 128 c))
        = penOf q k t c.val * (if s.val / 256 = c.val then (1 : EReal) else 0) := fun c => by
      have hc : ¬ (Fin.natAdd 128 c : Fin 256).val < 128 := by simp
      have hv : (⟨(Fin.natAdd 128 c : Fin 256).val - 128, by have := (Fin.natAdd 128 c : Fin 256).isLt; omega⟩ : Fin 128) = c := Fin.ext (by simp)
      refine congrArg₂ (· * ·) ((dif_neg hc).trans ?_) ((dif_neg hc).trans ?_)
      · exact (congrArg (fun c => pen q k (ix2 t c)) hv).trans (pen_apply q k t c)
      · exact (congrArg (fun c => k1_pay5 (F := Ideal) (ix2 s c)) hv).trans (hot_apply s c)
    rw [Finset.sum_congr rfl fun c _ => e c, Finset.sum_eq_single (⟨s.val / 256, hn⟩ : Fin 128)]
    · simp
    · intro c _ hc
      rw [if_neg (fun h => hc (Fin.ext h.symm)), mul_zero]
    · exact fun h => absurd (Finset.mem_univ _) h

end Cert.MobaIdeal.Att
-- ==== Proof.MobaTop.lean ====
module
public import proofs.«01_k».proof.Proof.MobaSel
public import proofs.«01_k».proof.Proof.Gen.MobaRefIdeal.Read
public import Idealize.ShloMosaic.Lib.SortPrefix

/-!
# The first three of a stable sort

A block is among the first three of the stable descending sort exactly when fewer than three blocks come before it.
-/

@[expose] public section
set_option maxHeartbeats 4000000
set_option maxRecDepth 16384
noncomputable section
namespace Cert.MobaIdeal.Att
open Idealize.ShloMosaic Idealize.ShloMosaic.TcCoe Idealize.SL.Sem

/-- A stable sort of an increasing list breaks ties by position. -/
theorem stableSort_ties {n : Nat} (R B : Fin n → Fin n → Bool) (h : ∀ a b, a < b → R b a = B b a) (l : List (Fin n)) (hl : l.Pairwise (· < ·)) :
    stableSort R l = stableSort B l := by
  induction l with
  | nil => rfl
  | cons a l ih =>
    rw [List.pairwise_cons] at hl
    unfold stableSort
    rw [ih hl.2]
    exact insertBefore_congr R B a _ fun b hb => h a b (hl.1 b ((perm_stableSort B l).mem_iff.mp hb))

/-- Block `a` comes before block `b`. -/
def ahead (g : Fin 8 → EReal) (a b : Fin 8) : Bool := decide (g b < g a) || (decide (g a = g b) && decide (a < b))

theorem ahead_total (g : Fin 8 → EReal) : StrictTotalBefore (ahead g) :=
  StrictTotalBefore.of_key_then_position (fun x y : EReal => decide (y < x)) g (fun a => by simp)
    (fun a b c h1 h2 => by simp only [decide_eq_true_eq] at *; exact lt_trans h2 h1)
    (fun a b => by
      simp only [decide_eq_true_eq]
      rcases lt_trichotomy a b with h | h | h
      · exact Or.inr (Or.inr h)
      · exact Or.inr (Or.inl h)
      · exact Or.inl h)

/-- The position the descending sort of the scores takes its `i`-th from. -/
def sortAt (g : Fin 8 → EReal) : Fin 8 → Fin 8 := sortedFrom fun k k' => (FloatOps.cmpfTotal (F := Ideal) (φ := .f32) .gt (g k) (g k') : BitVec 1) == 1#1

theorem sortAt_eq (g : Fin 8 → EReal) : sortAt g = sortedFrom (ahead g) := by
  have e : sortPositions 8 (fun k k' => (FloatOps.cmpfTotal (F := Ideal) (φ := .f32) .gt (g k) (g k') : BitVec 1) == 1#1) = sortPositions 8 (ahead g) := by
    refine stableSort_ties _ _ (fun a b hab => ?_) _ (List.pairwise_lt_finRange 8)
    have hn : decide (b < a) = false := decide_eq_false (by omega)
    show ((BitVec.ofBool (decide (g a < g b)) : BitVec 1) == 1#1) = _
    unfold ahead
    rw [hn, Bool.and_false, Bool.or_false]
    by_cases h : g a < g b <;> simp [h]
  funext k
  unfold sortAt sortedFrom
  rw [List.get_of_eq e]
  rfl

theorem rank_sortAt (g : Fin 8 → EReal) (p : Fin 8) : rank8 g (sortAt g p) = p.val := by
  rw [sortAt_eq]
  have hB := ahead_total g
  have hr : rank8 g (sortedFrom (ahead g) p) = ∑ j : Fin 8, if ahead g j (sortedFrom (ahead g) p) = true then 1 else 0 := by
    unfold rank8 ahead
    refine Finset.sum_congr rfl fun j _ => ?_
    simp only [Bool.or_eq_true, Bool.and_eq_true, decide_eq_true_eq]
  rw [hr]
  have hbij : Function.Bijective (sortedFrom (ahead g)) := ⟨sortedFrom_injective _, sortedFrom_surjective _⟩
  rw [← hbij.sum_comp fun j => if ahead g j (sortedFrom (ahead g) p) = true then 1 else 0]
  have hinv := sortedFrom_noInversion (ahead g) (ahead g) (fun a b h => hB.asymm a b h) (fun _ _ h => h) hB.negTrans
  have e : ∀ q : Fin 8, (ahead g (sortedFrom (ahead g) q) (sortedFrom (ahead g) p) = true) ↔ q < p := by
    intro q
    rcases lt_trichotomy q p with h | h | h
    · refine ⟨fun _ => h, fun _ => ?_⟩
      rcases hB.total _ _ (fun e => absurd (hbij.1 e) (ne_of_lt h)) with h1 | h1
      · exact h1
      · rw [hinv q p h] at h1; exact absurd h1 (by decide)
    · subst h
      rw [hB.irrefl]; simp
    · rw [hinv p q h]
      exact ⟨fun h' => absurd h' (by decide), fun h' => absurd h (not_lt_of_gt h')⟩
  simp only [e]
  have key : ∀ p : Fin 8, (∑ x : Fin 8, if x < p then 1 else 0) = p.val := by decide
  exact key p

theorem top3 (g : Fin 8 → EReal) (n : Fin 8) : (∃ i : Fin 3, sortAt g (i.castLE (by decide)) = n) ↔ rank8 g n < 3 := by
  constructor
  · rintro ⟨i, rfl⟩
    rw [rank_sortAt]; exact i.isLt
  · intro h
    have hs : Function.Surjective (sortAt g) := by rw [sortAt_eq]; exact sortedFrom_surjective _
    obtain ⟨p, hp⟩ := hs n
    rw [← hp, rank_sortAt] at h
    exact ⟨⟨p.val, h⟩, hp⟩

end Cert.MobaIdeal.Att
-- ==== Proof.MobaRef1.lean ====
module
public import proofs.«01_k».proof.Proof.MobaTop
public import Idealize.ShloMosaic.Lib.Pointwise
public import Idealize.ShloMosaic.Lib.Pipeline.ValueKit

/-!
# The reference: the choice of keys

Which keys a query attends to, read off the reference: those of the query's own block that are not later, and those
of a past block among the best three.
-/

@[expose] public section
set_option maxHeartbeats 4000000
set_option maxRecDepth 16384
noncomputable section
namespace Cert.MobaRefIdeal.Read
open Cert.MobaRefIdeal Cert.MobaIdeal.Att
open Idealize.ShloMosaic Idealize.ShloMosaic.TcCoe Idealize.SL.Sem

variable (x0 : (⟨S4x2048x10240, .bf16⟩ : BufTy).Contents (Elt Ideal)) (x1 : (⟨S32x16, .f32⟩ : BufTy).Contents (Elt Ideal))

theorem queries (b : Fin 4) (h : Fin 16) (t : Fin 2048) (c : Fin 128) :
    val_main_v3 (F := Ideal) x0 (ix4 b h t c) = x0 (ix3 b t (⟨0 * 2048 + h.val * 128 + c.val, by omega⟩ : Fin 10240)) := by
  pointwise [val_main_v3, val_main_v2, val_main_v1, val_main_v0]

theorem keys (b : Fin 4) (h : Fin 16) (t : Fin 2048) (c : Fin 128) :
    val_main_v7 (F := Ideal) x0 (ix4 b h t c) = x0 (ix3 b t (⟨1 * 2048 + h.val * 128 + c.val, by omega⟩ : Fin 10240)) := by
  pointwise [val_main_v7, val_main_v6, val_main_v5, val_main_v4]
  refine congrArg x0 (congrArg (fun z : Fin 10240 => ix3 b t z) (Fin.ext ?_))
  simp; omega

theorem values (b : Fin 4) (h : Fin 16) (t : Fin 2048) (c : Fin 128) :
    val_main_v11 (F := Ideal) x0 (ix4 b h t c) = x0 (ix3 b t (⟨2 * 2048 + h.val * 128 + c.val, by omega⟩ : Fin 10240)) := by
  pointwise [val_main_v11, val_main_v10, val_main_v9, val_main_v8]
  refine congrArg x0 (congrArg (fun z : Fin 10240 => ix3 b t z) (Fin.ext ?_))
  simp; omega

theorem block_of (t : Fin 2048) : val_main_v18 (F := Ideal) (ix1 t) = BitVec.ofNat 32 (t.val / 256) := by
  pointwise [val_main_v18, val_main_v17, val_main_call0_v0, val_main_call0_v1, val_main_call0_v2, val_main_call0_v3, val_main_call0_v4,
    val_main_call0_v5, val_main_call0_v6, val_main_call0_v7, val_main_call0_v8, val_main_call0_v9, val_main_call0_v10, val_main_call0_v11,
    val_main_call0_v12, val_main_call0_v13, val_main_call0_c, val_main_call0_c_0, val_main_c]
  revert t
  decide +kernel

theorem c256_bits : Ideal.ofBits FTy.f32 1132462080#32 = ((256 : ℝ) : EReal) := by
  simp [Ideal.ofBits, Ideal.ieee, -EReal.coe_mul]; norm_num

theorem gate_of (qr kr : Cert.MobaIdeal.S1x2048x128.Idx → ℝ) (b : Fin 4) (h : Fin 16)
    (hq : ∀ t c, val_main_v3 (F := Ideal) x0 (ix4 b h t c) = (qr (ix3 0 t c) : EReal))
    (hk : ∀ t c, val_main_v7 (F := Ideal) x0 (ix4 b h t c) = (kr (ix3 0 t c) : EReal)) (t : Fin 2048) (n : Fin 8) :
    val_main_v26 (F := Ideal) x0 (ix4 b h t n) = gate qr kr t n := by
  have e0 : val_main_v26 (F := Ideal) x0 (ix4 b h t n) = Scalar.select (IntOp.cmpi CmpIPredicate.slt (BitVec.ofNat 32 n.val) (val_main_v18 (F := Ideal) (ix1 t)))
      (∑ x : Fin 128, val_main_v3 (F := Ideal) x0 (ix4 b h t x) * Ideal.div (∑ x_1 : Fin 256, val_main_v7 (F := Ideal) x0 (ix4 b h (⟨n.val * 256 + x_1.val, by omega⟩ : Fin 2048) x)) (Ideal.ofBits FTy.f32 1132462080#32))
      (Ideal.ofBits FTy.f32 4286578688#32) := by
    pointwise [val_main_v26, val_main_v16, val_main_v15, val_main_v14, val_main_v13, val_main_v12,val_main_cst,val_main_cst_0, val_main_cst_1, val_main_call1_v0, val_main_call1_v1, val_main_call1_v2, val_main_v25, val_main_v24, val_main_v23,val_main_v22,val_main_v21,val_main_v20,val_main_v19]
    rfl
  rw [e0, block_of, WordCmp.cmpi_slt_ofNat (by omega) (by omega), WordCmp.select_ofBool]
  unfold gate
  refine if_congr (by simp) ?_ (by simp [Ideal.ofBits, Ideal.ieee])
  rw [← coe_sum']
  refine Finset.sum_congr rfl fun c _ => ?_
  rw [hq, EReal.coe_mul, mul_comm]
  refine congrArg (· * (qr (ix3 0 t c) : EReal)) ?_
  rw [c256_bits]
  unfold Ideal.div
  rw [if_neg (by exact_mod_cast (show (256 : ℝ) ≠ 0 by norm_num))]
  have : (∑ x_1 : Fin 256, val_main_v7 (F := Ideal) x0 (ix4 b h (⟨n.val * 256 + x_1.val, by omega⟩ : Fin 2048) c))
      = ((∑ x : Fin 256, kr (ix3 0 (⟨256 * n.val + x.val, by omega⟩ : Fin 2048) c) : ℝ) : EReal) := by
    rw [← coe_sum']
    refine Finset.sum_congr rfl fun x _ => ?_
    rw [hk]
    exact congrArg (fun z : Fin 2048 => ((kr (ix3 0 z c) : ℝ) : EReal)) (Fin.ext (by simp; omega))
  rw [this, ← EReal.coe_inv, ← EReal.coe_mul, div_eq_mul_inv]

theorem along_last (b : Fin 4) (h : Fin 16) (t : Fin 2048) (i : Fin 8) (k : Fin 8) : Shape.Idx.along (s := S4x16x2048x8) (ix4 b h t i) 3 k = ix4 b h t k := by
  funext a
  match a with
  | ⟨0, _⟩ => rfl
  | ⟨1, _⟩ => rfl
  | ⟨2, _⟩ => rfl
  | ⟨3, _⟩ => rfl

theorem top_value (b : Fin 4) (h : Fin 16) (t : Fin 2048) (i : Fin 3) :
    val_main_values (F := Ideal) x0 (ix4 b h t i) = val_main_v26 (F := Ideal) x0 (ix4 b h t (sortAt (fun n => val_main_v26 (F := Ideal) x0 (ix4 b h t n)) (i.castLE (by decide)))) := by
  unfold val_main_values Host.topK Host.sort2
  pointwise []
  rw [along_last]
  refine congrArg (fun z : Fin 8 => val_main_v26 (F := Ideal) x0 (ix4 b h t z)) ?_
  unfold sortAt
  exact congrArg (fun c => sortedFrom c (⟨i.val, by omega⟩ : Fin 8)) (funext fun k => funext fun k' => by rw [along_last, along_last])

theorem top_index (b : Fin 4) (h : Fin 16) (t : Fin 2048) (i : Fin 3) :
    val_main_indices (F := Ideal) x0 (ix4 b h t i) = BitVec.ofNat 32 (sortAt (fun n => val_main_v26 (F := Ideal) x0 (ix4 b h t n)) (i.castLE (by decide))).val := by
  unfold val_main_indices Host.topK Host.sort2
  pointwise []
  rw [along_last]
  refine congrArg (fun z : Fin 8 => BitVec.ofNat 32 z.val) ?_
  unfold sortAt
  exact congrArg (fun c => sortedFrom c (⟨i.val, by omega⟩ : Fin 8)) (funext fun k => funext fun k' => by rw [along_last, along_last])

theorem fold_or3 (p : Fin 3 → Prop) [DecidablePred p] :
    Finset.fold IntOp.ori (0#1) (fun i : Fin 3 => BitVec.ofBool (decide (p i))) Finset.univ = BitVec.ofBool (decide (∃ i, p i)) := by
  rw [show (Finset.univ : Finset (Fin 3)) = {0, 1, 2} from rfl, Finset.fold_insert (by decide), Finset.fold_insert (by decide), Finset.fold_singleton]
  have : (∃ i, p i) ↔ (p 0 ∨ p 1 ∨ p 2) := by
    constructor
    · rintro ⟨i, hi⟩
      match i, hi with
      | 0, h => exact .inl h
      | 1, h => exact .inr (.inl h)
      | 2, h => exact .inr (.inr h)
    · rintro (h | h | h)
      · exact ⟨_, h⟩
      · exact ⟨_, h⟩
      · exact ⟨_, h⟩
  rw [show decide (∃ i, p i) = decide (p 0 ∨ p 1 ∨ p 2) from decide_eq_decide.mpr this]
  by_cases h0 : p 0 <;> by_cases h1 : p 1 <;> by_cases h2 : p 2 <;> simp [h0, h1, h2, IntOp.ori]

theorem gate_abs (qr kr : Cert.MobaIdeal.S1x2048x128.Idx → ℝ) (t : Fin 2048) (n : Fin 8) :
    (FloatOps.absf (F := Ideal) (φ := .f32) (gate qr kr t n) < Ideal.ofBits FTy.f32 2139095040#32) ↔ n.val < t.val / 256 := by
  have ht : Ideal.ofBits FTy.f32 2139095040#32 = (⊤ : EReal) := by simp [Ideal.ofBits, Ideal.ieee]
  rw [ht]
  unfold gate
  by_cases h : n.val < t.val / 256
  · rw [if_pos h]
    refine iff_of_true ?_ h
    show max _ _ < _
    exact max_lt (EReal.coe_lt_top _) (by rw [← EReal.coe_neg]; exact EReal.coe_lt_top _)
  · rw [if_neg h]
    refine iff_of_false ?_ h
    show ¬ (max _ _ < _)
    simp

theorem chosen_of (qr kr : Cert.MobaIdeal.S1x2048x128.Idx → ℝ) (b : Fin 4) (h : Fin 16)
    (hq : ∀ t c, val_main_v3 (F := Ideal) x0 (ix4 b h t c) = (qr (ix3 0 t c) : EReal))
    (hk : ∀ t c, val_main_v7 (F := Ideal) x0 (ix4 b h t c) = (kr (ix3 0 t c) : EReal)) (t : Fin 2048) (n : Fin 8) :
    val_main_v39 (F := Ideal) x0 (ix4 b h t n) = BitVec.ofBool (decide (n.val < t.val / 256 ∧ rank8 (gate qr kr t) n < 3)) := by
  pointwise [val_main_v39, val_main_v38, val_main_v37, val_main_v36, val_main_v35, val_main_v34, val_main_v33, val_main_v32, val_main_v31,
    val_main_v30, val_main_v29, val_main_v28, val_main_v27, val_main_cst_2, val_main_c_3]
  have hg : (fun n => val_main_v26 (F := Ideal) x0 (ix4 b h t n)) = gate qr kr t := funext fun n => gate_of x0 qr kr b h hq hk t n
  have e : ∀ i : Fin 3, IntOp.andi (BitVec.ofBool (decide (FloatOps.absf (F := Ideal) (φ := .f32) (val_main_values (F := Ideal) x0 (ix4 b h t i)) < Ideal.ofBits FTy.f32 2139095040#32)))
      (IntOp.cmpi CmpIPredicate.eq (val_main_indices (F := Ideal) x0 (ix4 b h t i)) (BitVec.ofNat 32 n.val))
      = BitVec.ofBool (decide (n.val < t.val / 256 ∧ sortAt (gate qr kr t) (i.castLE (by decide)) = n)) := by
    intro i
    rw [top_value, top_index, hg, gate_of x0 qr kr b h hq hk, WordCmp.cmpi_eq_ofNat (by omega) (by omega), WordCmp.andi_ofBool]
    congr 1
    rw [← Bool.decide_and]
    refine decide_eq_decide.mpr ?_
    rw [gate_abs]
    constructor
    · rintro ⟨h1, h2⟩
      have h3 : sortAt (gate qr kr t) (i.castLE (by decide)) = n := Fin.ext h2
      rw [h3] at h1
      exact ⟨h1, h3⟩
    · rintro ⟨h1, h2⟩
      rw [h2]; exact ⟨h1, rfl⟩
  refine (congrArg (fun f => Finset.fold IntOp.ori (0#1) f Finset.univ) (funext e)).trans ?_
  rw [fold_or3]
  refine congrArg BitVec.ofBool (decide_eq_decide.mpr ?_)
  rw [← top3]
  constructor
  · rintro ⟨i, h1, h2⟩; exact ⟨h1, i, h2⟩
  · rintro ⟨h1, i, h2⟩; exact ⟨i, h1, h2⟩

/-- Query `t` attends to key `s`. -/
def attends (qr kr : Cert.MobaIdeal.S1x2048x128.Idx → ℝ) (t s : Fin 2048) : Prop :=
  (s.val / 256 < t.val / 256 ∧ rank8 (gate qr kr t) (⟨s.val / 256, by omega⟩ : Fin 8) < 3) ∨ (t.val / 256 = s.val / 256 ∧ s.val ≤ t.val)

instance (qr kr : Cert.MobaIdeal.S1x2048x128.Idx → ℝ) (t s : Fin 2048) : Decidable (attends qr kr t s) := by unfold attends; infer_instance

theorem distance_sign (t s : Fin 2048) : IntOp.cmpi CmpIPredicate.sge (IntOp.subi (BitVec.ofNat 32 t.val) (BitVec.ofNat 32 s.val)) 0#32
    = BitVec.ofBool (decide (s.val ≤ t.val)) := by
  show BitVec.ofBool (BitVec.sle 0#32 (BitVec.ofNat 32 t.val - BitVec.ofNat 32 s.val)) = _
  refine congrArg BitVec.ofBool ?_
  by_cases h : s.val ≤ t.val
  · have : BitVec.ofNat 32 t.val - BitVec.ofNat 32 s.val = BitVec.ofNat 32 (t.val - s.val) := by
      apply BitVec.eq_of_toNat_eq; simp; omega
    rw [this, BitVec.sle]
    exact (decide_eq_true (by show (0 : ℤ) ≤ (BitVec.ofNat 32 (t.val - s.val)).toInt; rw [WordCmp.toInt_ofNat_of_lt (by omega)]; omega)).trans (decide_eq_true h).symm
  · have : BitVec.sle 0#32 (BitVec.ofNat 32 t.val - BitVec.ofNat 32 s.val) = false := by
      have hn : (BitVec.ofNat 32 t.val - BitVec.ofNat 32 s.val).toNat = 2 ^ 32 - (s.val - t.val) := by simp; omega
      rw [BitVec.sle, BitVec.toInt_eq_toNat_cond (x := BitVec.ofNat 32 t.val - BitVec.ofNat 32 s.val), hn, if_neg (by omega)]
      exact decide_eq_false (by simp; omega)
    rw [this]; simp [h]

theorem attends_of (qr kr : Cert.MobaIdeal.S1x2048x128.Idx → ℝ) (b : Fin 4) (h : Fin 16)
    (hq : ∀ t c, val_main_v3 (F := Ideal) x0 (ix4 b h t c) = (qr (ix3 0 t c) : EReal))
    (hk : ∀ t c, val_main_v7 (F := Ideal) x0 (ix4 b h t c) = (kr (ix3 0 t c) : EReal)) (t s : Fin 2048) :
    val_main_v57 (F := Ideal) x0 (ix4 b h t s) = BitVec.ofBool (decide (attends qr kr t s)) := by
  have e : val_main_v57 (F := Ideal) x0 (ix4 b h t s) = IntOp.ori (val_main_v39 (F := Ideal) x0 (ix4 b h t (⟨s.val / 256, by omega⟩ : Fin 8)))
      (IntOp.andi (IntOp.cmpi CmpIPredicate.eq (val_main_v18 (F := Ideal) (ix1 t)) (val_main_v18 (F := Ideal) (ix1 s)))
        (IntOp.cmpi CmpIPredicate.sge (IntOp.subi (BitVec.ofNat 32 t.val) (BitVec.ofNat 32 s.val)) 0#32)) := by
    pointwise [val_main_v57, val_main_v56, val_main_v55, val_main_v54, val_main_v53, val_main_v52, val_main_v51, val_main_v50, val_main_v49, val_main_v48,
      val_main_v47, val_main_v46, val_main_v45, val_main_v44, val_main_v43, val_main_v42, val_main_v41, val_main_v40, val_main_v17, val_main_c_4]
  rw [e, chosen_of x0 qr kr b h hq hk, block_of, block_of, distance_sign, WordCmp.cmpi_eq_ofNat (by omega) (by omega), WordCmp.andi_ofBool, WordCmp.ori_ofBool]
  refine congrArg BitVec.ofBool ?_
  rw [← Bool.decide_and, ← Bool.decide_or]
  exact decide_eq_decide.mpr Iff.rfl

end Cert.MobaRefIdeal.Read
-- ==== Proof.MobaBucket.lean ====
module
public import proofs.«01_k».proof.Proof.MobaSel

/-!
# The bucket of a distance

The buckets begin at listed distances: one each below sixteen, then sixteen in equal steps of the logarithm up to
the distance 128. The logarithm's quotient, rounded down, gives the same bucket.
-/

@[expose] public section
set_option maxHeartbeats 4000000
set_option maxRecDepth 16384
noncomputable section
namespace Cert.MobaIdeal.Att
open Idealize.ShloMosaic Idealize.ShloMosaic.TcCoe Idealize.SL.Sem

/-- The least distance in bucket `j`. -/
def startOf (j : Nat) : Nat :=
  ([0, 1, 2, 3, 4, 5, 6, 7, 8, 9, 10, 11, 12, 13, 14, 15, 16, 19, 21, 24, 27, 31, 35, 40, 46, 52, 59, 67, 77, 87, 99, 113] : List Nat).getD j 0

/-- The last of the buckets up to `j` that begins at `d` or before. -/
def bktTo : Nat → Nat → Nat
  | 0, _ => 0
  | j + 1, d => if startOf (j + 1) ≤ d then j + 1 else bktTo j d

/-- The bucket of distance `d`. -/
def bkt (d : Nat) : Nat := bktTo 31 d

theorem bktTo_le (j d : Nat) : bktTo j d ≤ j := by
  induction j with
  | zero => exact le_refl _
  | succ j ih => unfold bktTo; split <;> omega

theorem bkt_lt (d : Nat) : bkt d < 32 := by have := bktTo_le 31 d; unfold bkt; omega

theorem bkt_far (d : Nat) (h : 113 ≤ d) : bkt d = 31 := by
  unfold bkt bktTo; rw [if_pos (show startOf 31 ≤ d from h)]

theorem c9_bits : Ideal.ofBits FTy.f32 1074075026#32 = ((8721810 / 4194304 : ℝ) : EReal) := by
  simp [Ideal.ofBits, Ideal.ieee, -EReal.coe_mul]; norm_num

theorem c16_bits : Ideal.ofBits FTy.f32 1098907648#32 = ((16 : ℝ) : EReal) := by
  simp [Ideal.ofBits, Ideal.ieee, -EReal.coe_mul]; norm_num

theorem log8_eq : Real.log 8 = 3 * Real.log 2 := by
  rw [show (8 : ℝ) = 2 ^ 3 by norm_num, Real.log_pow]; norm_num

theorem log2_lo : (3465 / 5001 : ℝ) ≤ Real.log 2 := by
  have hn : 5001 ^ 3465 ≤ 2 * 5000 ^ 3465 := by decide +kernel
  have h : (5001 / 5000 : ℝ) ^ 3465 ≤ 2 := by
    rw [div_pow, div_le_iff₀ (by positivity)]; exact_mod_cast hn
  have h1 := Real.log_le_log (by positivity) h
  rw [Real.log_pow] at h1
  have h2 := Real.one_sub_inv_le_log_of_pos (show (0 : ℝ) < 5001 / 5000 by norm_num)
  have h3 : (1 / 5001 : ℝ) ≤ Real.log (5001 / 5000) := le_trans (by norm_num) h2
  push_cast at h1; linarith

theorem log2_hi : Real.log 2 ≤ (3467 / 5000 : ℝ) := by
  have hn : 2 * 5000 ^ 3467 ≤ 5001 ^ 3467 := by decide +kernel
  have h : (2 : ℝ) ≤ (5001 / 5000 : ℝ) ^ 3467 := by
    rw [div_pow, le_div_iff₀ (by positivity)]; exact_mod_cast hn
  have h1 := Real.log_le_log (by positivity) h
  rw [Real.log_pow] at h1
  have h2 := Real.log_le_sub_one_of_pos (show (0 : ℝ) < 5001 / 5000 by norm_num)
  have h3 : Real.log (5001 / 5000) ≤ (1 / 5000 : ℝ) := h2.trans (by norm_num)
  push_cast at h1; linarith

theorem log8_lo : Real.log 8 ≤ 8721810 / 4194304 + 8 / 10 ^ 4 := by
  have := log2_hi; rw [log8_eq]; linarith

theorem log8_hi : (8721810 / 4194304 : ℝ) ≤ Real.log 8 + 9 / 10 ^ 4 := by
  have := log2_lo; rw [log8_eq]; linarith

theorem log_sixteenth (d : Nat) (hd : 16 ≤ d) : 16 * Real.log ((d : ℝ) / 16) = Real.log ((d : ℝ) ^ 16) - Real.log ((16 : ℝ) ^ 16) := by
  have h0 : (d : ℝ) ≠ 0 := by positivity
  rw [Real.log_div h0 (by norm_num), Real.log_pow, Real.log_pow]; push_cast; ring

/-- A distance whose sixteenth power is past the bound reaches step `m`. -/
theorem step_lo (d m : Nat) (hd : 16 ≤ d) (hm : m ≤ 15) (h : 102 * 8 ^ m * 16 ^ 16 ≤ 100 * d ^ 16) :
    (m : ℝ) ≤ 16 * Real.log ((d : ℝ) / 16) / (8721810 / 4194304) := by
  rw [le_div_iff₀ (by norm_num), log_sixteenth d hd]
  have h' : (1 + 1 / 50 : ℝ) * 8 ^ m * 16 ^ 16 ≤ (d : ℝ) ^ 16 := by
    have : ((102 * 8 ^ m * 16 ^ 16 : Nat) : ℝ) ≤ ((100 * d ^ 16 : Nat) : ℝ) := by exact_mod_cast h
    push_cast at this; linarith
  have hl := Real.log_le_log (by positivity) h'
  rw [Real.log_mul (by positivity) (by norm_num), Real.log_mul (by norm_num) (by positivity), Real.log_pow 8] at hl
  have hx : (1 / 51 : ℝ) ≤ Real.log (1 + 1 / 50) := by
    have := Real.one_sub_inv_le_log_of_pos (show (0 : ℝ) < 1 + 1 / 50 by norm_num)
    norm_num at *; linarith
  have hmr : (m : ℝ) ≤ 15 := by exact_mod_cast hm
  have := log8_hi
  have h2 : (m : ℝ) * (8721810 / 4194304) ≤ m * Real.log 8 + 135 / 10 ^ 4 := by nlinarith [Nat.cast_nonneg (α := ℝ) m]
  norm_num at *; linarith

/-- A distance whose sixteenth power is below the bound does not reach step `m`. -/
theorem step_hi (d m : Nat) (hd : 16 ≤ d) (hm : m ≤ 15) (h : 102 * d ^ 16 ≤ 100 * 8 ^ m * 16 ^ 16) :
    16 * Real.log ((d : ℝ) / 16) / (8721810 / 4194304) < (m : ℝ) := by
  rw [div_lt_iff₀ (by norm_num), log_sixteenth d hd]
  have h' : (1 + 1 / 50 : ℝ) * (d : ℝ) ^ 16 ≤ 8 ^ m * 16 ^ 16 := by
    have : ((102 * d ^ 16 : Nat) : ℝ) ≤ ((100 * 8 ^ m * 16 ^ 16 : Nat) : ℝ) := by exact_mod_cast h
    push_cast at this; linarith
  have hl := Real.log_le_log (by positivity) h'
  rw [Real.log_mul (by norm_num) (by positivity), Real.log_mul (by positivity) (by norm_num), Real.log_pow 8 m] at hl
  have hx : (1 / 51 : ℝ) ≤ Real.log (1 + 1 / 50) :=
    le_trans (by norm_num) (Real.one_sub_inv_le_log_of_pos (show (0 : ℝ) < 1 + 1 / 50 by norm_num))
  have hmr : (m : ℝ) ≤ 15 := by exact_mod_cast hm
  have := log8_lo
  have h2 : (m : ℝ) * Real.log 8 ≤ m * (8721810 / 4194304) + 120 / 10 ^ 4 := by nlinarith [Nat.cast_nonneg (α := ℝ) m]
  generalize Real.log ((16 : ℝ) ^ 16) = C at *
  linarith

theorem quot_nonneg (d : Nat) (hd : 16 ≤ d) : 0 ≤ 16 * Real.log ((d : ℝ) / 16) / (8721810 / 4194304) := by
  have : (16 : ℝ) ≤ d := by exact_mod_cast hd
  have h := Real.log_nonneg (show (1 : ℝ) ≤ (d : ℝ) / 16 by rw [le_div_iff₀ (by norm_num)]; linarith)
  positivity

/-- The quotient rounded down, when it lies between two steps. -/
theorem floor_step (d m : Nat) (hd : 16 ≤ d) (h1 : (m : ℝ) ≤ 16 * Real.log ((d : ℝ) / 16) / (8721810 / 4194304))
    (h2 : 16 * Real.log ((d : ℝ) / 16) / (8721810 / 4194304) < ((m + 1 : Nat) : ℝ)) :
    ⌊16 * Real.log ((d : ℝ) / 16) / (8721810 / 4194304)⌋ = (m : ℤ) := by
  rw [Int.floor_eq_iff]; push_cast at *; exact ⟨h1, h2⟩

theorem step_of (d m a b : Nat) (hd : 16 ≤ d) (hm : m ≤ 14) (ha : a ≤ d) (hb : d < b)
    (h1 : m = 0 ∨ 102 * 8 ^ m * 16 ^ 16 ≤ 100 * a ^ 16) (h2 : 102 * (b - 1) ^ 16 ≤ 100 * 8 ^ (m + 1) * 16 ^ 16) :
    ⌊16 * Real.log ((d : ℝ) / 16) / (8721810 / 4194304)⌋ = (m : ℤ) := by
  refine floor_step d m hd ?_ (step_hi d (m + 1) hd (by omega) ((Nat.mul_le_mul_left _ (Nat.pow_le_pow_left (by omega) 16)).trans h2))
  rcases h1 with rfl | h1
  · simpa using quot_nonneg d hd
  · exact step_lo d m hd (by omega) (h1.trans (Nat.mul_le_mul_left _ (Nat.pow_le_pow_left ha 16)))

/-- The bucket of a distance of sixteen or more, through the logarithm. -/
theorem bkt_floor (d : Nat) (hd : 16 ≤ d) :
    min (16 + ⌊16 * Real.log ((d : ℝ) / 16) / (8721810 / 4194304)⌋) 31 = (bkt d : ℤ) := by
  by_cases hf : 113 ≤ d
  · rw [bkt_far d hf]
    have := step_lo d 15 hd (le_refl _) ((show 102 * 8 ^ 15 * 16 ^ 16 ≤ 100 * 113 ^ 16 by norm_num).trans
      (Nat.mul_le_mul_left _ (Nat.pow_le_pow_left hf 16)))
    have h15 : (15 : ℤ) ≤ ⌊16 * Real.log ((d : ℝ) / 16) / (8721810 / 4194304)⌋ := Int.le_floor.mpr (by exact_mod_cast this)
    rw [min_eq_right (by omega)]; rfl
  · have key : ∃ m a b : Nat, m ≤ 14 ∧ a ≤ d ∧ d < b ∧ (m = 0 ∨ 102 * 8 ^ m * 16 ^ 16 ≤ 100 * a ^ 16)
        ∧ 102 * (b - 1) ^ 16 ≤ 100 * 8 ^ (m + 1) * 16 ^ 16 ∧ bkt d = 16 + m := by
      have : ∀ e : Fin 113, 16 ≤ e.val → ∃ m : Fin 15, startOf (16 + m.val) ≤ e.val ∧ e.val < startOf (17 + m.val)
          ∧ (m.val = 0 ∨ 102 * 8 ^ m.val * 16 ^ 16 ≤ 100 * (startOf (16 + m.val)) ^ 16)
          ∧ 102 * (startOf (17 + m.val) - 1) ^ 16 ≤ 100 * 8 ^ (m.val + 1) * 16 ^ 16 ∧ bkt e.val = 16 + m.val := by decide +kernel
      obtain ⟨m, h1, h2, h3, h4, h5⟩ := this ⟨d, by omega⟩ hd
      exact ⟨m.val, _, _, by omega, h1, h2, h3, h4, h5⟩
    obtain ⟨m, a, b, hm, ha, hb, h1, h2, h3⟩ := key
    rw [step_of d m a b hd hm ha hb h1 h2, h3]
    push_cast; omega

theorem cmpi_sge_ofNat' (a b : Nat) (ha : a < 2 ^ 31) (hb : b < 2 ^ 31) :
    IntOp.cmpi CmpIPredicate.sge (BitVec.ofNat 32 a) (BitVec.ofNat 32 b) = BitVec.ofBool (decide (b ≤ a)) :=
  WordCmp.cmpi_sge_ofNat ha hb

theorem div_real (x : EReal) (c : ℝ) (hc : c ≠ 0) : Ideal.div x (c : EReal) = x * ((c⁻¹ : ℝ) : EReal) := by
  unfold Ideal.div
  rw [if_neg (fun h => hc (EReal.coe_injective (h.trans EReal.coe_zero.symm))), ← EReal.coe_inv]

theorem maxsi_nat (a b : Nat) (ha : a < 2 ^ 31) (hb : b < 2 ^ 31) :
    IntOp.maxsi (BitVec.ofNat 32 a) (BitVec.ofNat 32 b) = BitVec.ofNat 32 (max a b) := by
  unfold IntOp.maxsi
  rw [BitVec.slt, WordCmp.toInt_ofNat_of_lt (by omega), WordCmp.toInt_ofNat_of_lt (by omega)]
  by_cases h : b < a
  · rw [if_pos (by simpa using h), max_eq_left h.le]
  · rw [if_neg (by simpa using h), max_eq_right (by omega)]

theorem quot_le (d : Nat) (hd : 16 ≤ d) (hd2 : d < 2048) : 16 * Real.log ((d : ℝ) / 16) / (8721810 / 4194304) ≤ 2048 := by
  have h0 : (0 : ℝ) < (d : ℝ) / 16 := by positivity
  have h1 := Real.log_le_sub_one_of_pos h0
  have h2 : (d : ℝ) ≤ 2048 := by exact_mod_cast hd2.le
  rw [div_le_iff₀ (by norm_num)]; linarith

/-- The bucket of a distance through the logarithm, as the program computes it. -/
theorem bucket_word (d : Nat) (hd2 : d < 2048) :
    Scalar.select (IntOp.cmpi CmpIPredicate.slt (IntOp.maxsi (BitVec.ofNat 32 d) 0#32) 16#32) (IntOp.maxsi (BitVec.ofNat 32 d) 0#32)
      (IntOp.minsi (IntOp.addi 16#32 (Ideal.fptosi 32 (Ideal.div (Ideal.log (Ideal.div
        ((((IntOp.maxsi (IntOp.maxsi (BitVec.ofNat 32 d) 0#32) 1#32).toInt : ℝ)) : EReal) (Ideal.ofBits FTy.f32 1098907648#32)))
          (Ideal.ofBits FTy.f32 1074075026#32) * Ideal.ofBits FTy.f32 1098907648#32))) 31#32)
      = BitVec.ofNat 32 (bkt d) := by
  have hm : IntOp.maxsi (BitVec.ofNat 32 d) 0#32 = BitVec.ofNat 32 d := by
    rw [show (0#32) = BitVec.ofNat 32 0 from rfl, maxsi_nat d 0 (by omega) (by omega)]; simp
  rw [hm, show (16#32) = BitVec.ofNat 32 16 from rfl, WordCmp.cmpi_slt_ofNat (by omega) (by omega), WordCmp.select_ofBool]
  by_cases h : d < 16
  · rw [if_pos (by simpa using h)]
    have key : ∀ e : Fin 16, bkt e.val = e.val := by decide +kernel
    rw [show bkt d = d from key ⟨d, h⟩]
  · rw [if_neg (by simpa using h)]
    have h16 : 16 ≤ d := by omega
    have hm1 : IntOp.maxsi (BitVec.ofNat 32 d) 1#32 = BitVec.ofNat 32 d := by
      rw [show (1#32) = BitVec.ofNat 32 1 from rfl, maxsi_nat d 1 (by omega) (by omega), max_eq_left (by omega)]
    have hpos : (0 : ℝ) < (d : ℝ) / 16 := by positivity
    have hx : Ideal.div (Ideal.log (Ideal.div ((((BitVec.ofNat 32 d).toInt : ℝ)) : EReal) ((16 : ℝ) : EReal)))
          ((8721810 / 4194304 : ℝ) : EReal) * ((16 : ℝ) : EReal) = ((16 * Real.log ((d : ℝ) / 16) / (8721810 / 4194304) : ℝ) : EReal) := by
      rw [WordCmp.toInt_ofNat_of_lt (by omega)]
      rw [div_real _ 16 (by norm_num), div_real _ (8721810 / 4194304) (by norm_num)]
      have e1 : (((d : ℤ) : ℝ) : EReal) * (((16 : ℝ)⁻¹ : ℝ) : EReal) = (((d : ℝ) / 16 : ℝ) : EReal) := by
        rw [← EReal.coe_mul]; simp [div_eq_mul_inv]
      rw [e1, show Ideal.log (((d : ℝ) / 16 : ℝ) : EReal) = ((Real.log ((d : ℝ) / 16) : ℝ) : EReal) from if_neg (not_le.mpr hpos)]
      rw [← EReal.coe_mul, ← EReal.coe_mul]
      congr 1; ring
    rw [hm1, c16_bits, c9_bits, hx]
    have h0 := quot_nonneg d h16
    have h1 := quot_le d h16 hd2
    set x : ℝ := 16 * Real.log ((d : ℝ) / 16) / (8721810 / 4194304) with hxd
    have hb := bkt_floor d h16
    rw [← hxd] at hb
    have hfl0 : 0 ≤ ⌊x⌋ := Int.floor_nonneg.mpr h0
    have hfl1 : ⌊x⌋ ≤ 2048 := by
      have : ((⌊x⌋ : ℤ) : ℝ) ≤ 2048 := (Int.floor_le x).trans h1
      exact_mod_cast this
    obtain ⟨f, hf⟩ := Int.eq_ofNat_of_zero_le hfl0
    have hfx : Ideal.fptosi 32 ((x : ℝ) : EReal) = BitVec.ofNat 32 f := by
      have : Ideal.toIntClamped (-(2 ^ (32 - 1) : Nat)) ((2 ^ (32 - 1) : Nat) - 1) ((x : ℝ) : EReal) = (f : ℤ) := by
        show max _ (min _ (if 0 ≤ x then ⌊x⌋ else ⌈x⌉)) = _
        rw [if_pos h0, hf]; norm_num; omega
      unfold Ideal.fptosi; rw [this]; exact BitVec.ofInt_natCast 32 f
    rw [hfx, addi_nat]
    unfold IntOp.minsi
    rw [BitVec.slt, WordCmp.toInt_ofNat_of_lt (by omega)]
    by_cases hlt : 16 + f < 31
    · rw [if_pos (by simp; omega)]; congr 1; omega
    · rw [if_neg (by simp; omega), show (31#32) = BitVec.ofNat 32 31 from rfl]; congr 1; omega

end Cert.MobaIdeal.Att
-- ==== Proof.MobaOut.lean ====
module
public import proofs.«01_k».proof.Proof.MobaStore

/-!
# The attention call: what one grid step stores

A step takes one head of one sequence. Its eight stores, one for each query block, are blocks of one array.
-/

@[expose] public section
set_option maxHeartbeats 4000000
set_option maxRecDepth 16384
noncomputable section
namespace Cert.MobaIdeal.Att
open Cert.MobaIdeal Cert.MobaIdeal.Gen
open Idealize.ShloMosaic Idealize.ShloMosaic.TcCoe Idealize.SL.Sem

variable (V : (c : Dev nD) → (b : Ref sig .tc) → Buf (Elt Ideal) ((c : Thread nD τ).loc b))

/-- The eight stores cover the output. -/
theorem cover8 (y : S1x2048x128.Idx) (p0 p1 p2 p3 p4 p5 p6 p7 : S1x256x128.Idx → EReal) :
    ∃ pc ∈ [(⟨Rect.unit (s := S1x2048x128) ![0, 1792, 0] S1x256x128.size inb_S1x2048x128_S1x256x128_0_1792_0, p7⟩ : View.Piece (Elt Ideal) S1x2048x128 .bf16), (⟨Rect.unit (s := S1x2048x128) ![0, 1536, 0] S1x256x128.size inb_S1x2048x128_S1x256x128_0_1536_0, p6⟩ : View.Piece (Elt Ideal) S1x2048x128 .bf16), (⟨Rect.unit (s := S1x2048x128) ![0, 1280, 0] S1x256x128.size inb_S1x2048x128_S1x256x128_0_1280_0, p5⟩ : View.Piece (Elt Ideal) S1x2048x128 .bf16), (⟨Rect.unit (s := S1x2048x128) ![0, 1024, 0] S1x256x128.size inb_S1x2048x128_S1x256x128_0_1024_0, p4⟩ : View.Piece (Elt Ideal) S1x2048x128 .bf16), (⟨Rect.unit (s := S1x2048x128) ![0, 768, 0] S1x256x128.size inb_S1x2048x128_S1x256x128_0_768_0, p3⟩ : View.Piece (Elt Ideal) S1x2048x128 .bf16), (⟨Rect.unit (s := S1x2048x128) ![0, 512, 0] S1x256x128.size inb_S1x2048x128_S1x256x128_0_512_0, p2⟩ : View.Piece (Elt Ideal) S1x2048x128 .bf16), (⟨Rect.unit (s := S1x2048x128) ![0, 256, 0] S1x256x128.size inb_S1x2048x128_S1x256x128_0_256_0, p1⟩ : View.Piece (Elt Ideal) S1x2048x128 .bf16), (⟨Rect.unit (s := S1x2048x128) ![0, 0, 0] S1x256x128.size inb_S1x2048x128_S1x256x128_0_0_0, p0⟩ : View.Piece (Elt Ideal) S1x2048x128 .bf16)], y ∈ pc.1.set := by
  have hy : (y 1).val < 2048 := (y 1).isLt
  by_cases g7 : 1792 ≤ (y 1).val
  · exact ⟨_, List.mem_cons_self .., mem_rows 1792 inb_S1x2048x128_S1x256x128_0_1792_0 y g7 (by omega)⟩
  by_cases g6 : 1536 ≤ (y 1).val
  · exact ⟨_, List.mem_cons_of_mem _ (List.mem_cons_self ..), mem_rows 1536 inb_S1x2048x128_S1x256x128_0_1536_0 y g6 (by omega)⟩
  by_cases g5 : 1280 ≤ (y 1).val
  · exact ⟨_, List.mem_cons_of_mem _ (List.mem_cons_of_mem _ (List.mem_cons_self ..)), mem_rows 1280 inb_S1x2048x128_S1x256x128_0_1280_0 y g5 (by omega)⟩
  by_cases g4 : 1024 ≤ (y 1).val
  · exact ⟨_, List.mem_cons_of_mem _ (List.mem_cons_of_mem _ (List.mem_cons_of_mem _ (List.mem_cons_self ..))), mem_rows 1024 inb_S1x2048x128_S1x256x128_0_1024_0 y g4 (by omega)⟩
  by_cases g3 : 768 ≤ (y 1).val
  · exact ⟨_, List.mem_cons_of_mem _ (List.mem_cons_of_mem _ (List.mem_cons_of_mem _ (List.mem_cons_of_mem _ (List.mem_cons_self ..)))), mem_rows 768 inb_S1x2048x128_S1x256x128_0_768_0 y g3 (by omega)⟩
  by_cases g2 : 512 ≤ (y 1).val
  · exact ⟨_, List.mem_cons_of_mem _ (List.mem_cons_of_mem _ (List.mem_cons_of_mem _ (List.mem_cons_of_mem _ (List.mem_cons_of_mem _ (List.mem_cons_self ..))))), mem_rows 512 inb_S1x2048x128_S1x256x128_0_512_0 y g2 (by omega)⟩
  by_cases g1 : 256 ≤ (y 1).val
  · exact ⟨_, List.mem_cons_of_mem _ (List.mem_cons_of_mem _ (List.mem_cons_of_mem _ (List.mem_cons_of_mem _ (List.mem_cons_of_mem _ (List.mem_cons_of_mem _ (List.mem_cons_self ..)))))), mem_rows 256 inb_S1x2048x128_S1x256x128_0_256_0 y g1 (by omega)⟩
  exact ⟨_, List.mem_cons_of_mem _ (List.mem_cons_of_mem _ (List.mem_cons_of_mem _ (List.mem_cons_of_mem _ (List.mem_cons_of_mem _ (List.mem_cons_of_mem _ (List.mem_cons_of_mem _ (List.mem_cons_self ..))))))), mem_rows 0 inb_S1x2048x128_S1x256x128_0_0_0 y (Nat.zero_le _) (by omega)⟩

/-- What a grid step stores is the head's attention. -/
theorem outsAt1_eq (c : Dev nD) (t : Fin cfg1.N) : outsAt1 V c t = headOut (farOf (iblk1 V c 0 t) (grid1.coords t))
    (iblk1 V c 1 t) (iblk1 V c 2 t) (iblk1 V c 3 t) (iblk1 V c 4 t) (iblk1 V c 5 t) := by
  unfold outsAt1
  generalize iblk1 V c 0 t = x0
  generalize iblk1 V c 1 t = x1
  generalize iblk1 V c 2 t = x2
  generalize iblk1 V c 3 t = x3
  generalize iblk1 V c 4 t = x4
  generalize iblk1 V c 5 t = x5
  frame_open
  simp only [View.readAt_eq_ld, Memref.IsWhole.read_unread, View.readCov_eq_canon']
  generalize hK : View.canon [(⟨Rect.unit (s := S2048x256) ![0, 128] S2048x128.size _, k1_pay5 (F := Ideal)⟩ : View.Piece (Elt Ideal) S2048x256 .bf16), _] = K
  generalize hQ : View.canon [(⟨Rect.unit (s := S2048x256) ![0, 128] S2048x128.size _, k1_pay16 (F := Ideal) _⟩ : View.Piece (Elt Ideal) S2048x256 .bf16), _] = Q
  generalize hf : k1_pay2 (F := Ideal) _ = far
  have eK : K = kAug x2 := by
    rw [← hK]
    have e := View.ld_unit_lit' (Val := Elt Ideal) (e := .bf16) (S := S1x2048x128) (off := ![0, 0, 0]) inb_S1x2048x128_S1x2048x128_0_0_0 x2 (by decide)
    unfold kAug
    exact congrArg (fun w => View.canon [(⟨Rect.unit (s := S2048x256) ![0, 128] S2048x128.size inb_S2048x256_S2048x128_0_128, k1_pay5 (F := Ideal)⟩ : View.Piece (Elt Ideal) S2048x256 .bf16),
      ⟨Rect.unit (s := S2048x256) ![0, 0] S2048x128.size inb_S2048x256_S2048x128_0_0, k1_pay4 (F := Ideal) w⟩]) e
  have eQ : Q = qAug x1 x2 := by
    rw [← hQ]
    have e := View.ld_unit_lit' (Val := Elt Ideal) (e := .bf16) (S := S1x2048x128) (off := ![0, 0, 0]) inb_S1x2048x128_S1x2048x128_0_0_0 x1 (by decide)
    have e' := View.ld_unit_lit' (Val := Elt Ideal) (e := .bf16) (S := S1x2048x128) (off := ![0, 0, 0]) inb_S1x2048x128_S1x2048x128_0_0_0 x2 (by decide)
    unfold qAug pen
    refine congrArg₂ (fun w w' => View.canon [(⟨Rect.unit (s := S2048x256) ![0, 128] S2048x128.size inb_S2048x256_S2048x128_0_128, pen w w'⟩ : View.Piece (Elt Ideal) S2048x256 .bf16),
      ⟨Rect.unit (s := S2048x256) ![0, 0] S2048x128.size inb_S2048x256_S2048x128_0_0, k1_pay14 (F := Ideal) (k1_pay7 w)⟩]) e e'
  clear hK hQ
  subst eK eQ
  have ef : far = farOf x0 (grid1.coords t) := by
    rw [← hf]
    refine congrArg (· * log2C) (congrArg x0 (funext fun a => Fin.ext ?_))
    rw [Rect.idx_unit_val]
    have hi : (grid1.coords t 1).val < 16 := (grid1.coords t 1).isLt
    fin_cases a
    · rfl
    · show k1_off1 (grid1.coords t) 1 + 0 = (grid1.coords t 1).val
      simp [k1_off1, Scalar.indexCast]
      omega
  clear hf
  subst ef
  rw [View.read_writes_junk_eq_canon]
  funext y
  refine View.canon_apply_of_pieces (Val := Elt Ideal) (e := .bf16) (S := S1x2048x128) (headOut (farOf x0 (grid1.coords t)) x1 x2 x3 x4 x5) _ (View.PiecesOf.mem ?_) y ?_
  · refine ⟨?_, ?_, ?_, ?_, ?_, ?_, ?_, ?_, trivial⟩
    · intro x
      refine store7 _ _ _ _ _ _ _ ?_ x
      exact fun r c => load7 _ _ r c
    · intro x
      refine store6 _ _ _ _ _ _ _ ?_ x
      exact fun r c => load6 _ _ r c
    · intro x
      refine store5 _ _ _ _ _ _ _ ?_ x
      exact fun r c => load5 _ _ r c
    · intro x
      refine store4 _ _ _ _ _ _ _ ?_ x
      exact fun r c => load4 _ _ r c
    · intro x
      refine store3 _ _ _ _ _ _ _ ?_ x
      exact fun r c => load3 _ _ r c
    · intro x
      refine store2 _ _ _ _ _ _ _ ?_ x
      exact fun r c => load2 _ _ r c
    · intro x
      refine store1 _ _ _ _ _ _ _ ?_ x
      exact fun r c => load1 _ _ r c
    · intro x
      refine store0 _ _ _ _ _ _ _ ?_ x
      exact fun r c => load0 _ _ r c
  · exact cover8 y _ _ _ _ _ _ _ _

end Cert.MobaIdeal.Att
-- ==== Proof.MobaRow.lean ====
module
public import proofs.«01_k».proof.Proof.MobaRef1
public import proofs.«01_k».proof.Proof.MobaBucket
public import proofs.«01_k».proof.Proof.MobaOut

/-!
# The attention call: a row of logits in base two

The kernel's logits are the reference's divided by the logarithm of two, so the powers of two are the exponentials,
and the quotient of the two sums is the sum of the quotients.
-/

@[expose] public section
set_option maxHeartbeats 4000000
set_option maxRecDepth 16384
noncomputable section
namespace Cert.MobaIdeal.Att
open Cert.MobaIdeal Cert.MobaIdeal.Gen
open Idealize.ShloMosaic Idealize.ShloMosaic.TcCoe Idealize.SL.Sem

theorem sum_mul_real {ι : Type} (s : Finset ι) (f : ι → EReal) (c : ℝ) (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, EReal.right_distrib_of_nonneg_of_ne_top (by exact_mod_cast hc) (EReal.coe_ne_top c), ih]

theorem log2_pos : 0 < Real.log 2 := Real.log_pos (by norm_num)

theorem exp2_scaled (x : ℝ) : Ideal.exp2 ((x * (Real.log 2)⁻¹ : ℝ) : EReal) = ((Real.exp x : ℝ) : EReal) := by
  show ((Real.rpow 2 (x * (Real.log 2)⁻¹) : ℝ) : EReal) = _
  refine congrArg _ ?_
  show (2 : ℝ) ^ (x * (Real.log 2)⁻¹) = _
  rw [Real.rpow_def_of_pos (by norm_num)]
  congr 1
  have := log2_pos.ne'
  field_simp

theorem exp2_bot : Ideal.exp2 ⊥ = 0 := rfl

/-- A row of base-two logits gives the softmax of the natural logits times the values. -/
theorem att_softmax (A : Fin 2048 → Prop) [DecidablePred A] (l : Fin 2048 → ℝ) (v : Fin 2048 → EReal) (t : Fin 2048) (ht : A t) (L : Fin 2048 → EReal)
    (hL : ∀ s, L s = if A s then ((l s : ℝ) : EReal) else ⊥) :
    att 2048 (fun s => if A s then ((l s * (Real.log 2)⁻¹ : ℝ) : EReal) else ⊥) v
      = ∑ s, Ideal.div (Ideal.exp (L s - Finset.univ.fold max ⊥ L)) (∑ s', Ideal.exp (L s' - Finset.univ.fold max ⊥ L)) * v s := by
  have hi : 0 < (Real.log 2)⁻¹ := inv_pos.mpr log2_pos
  obtain ⟨s0, -, h0⟩ := Finset.exists_mem_eq_sup (Finset.univ : Finset (Fin 2048)) ⟨t, Finset.mem_univ t⟩ L
  have hle : ∀ s, L s ≤ L s0 := fun s => h0 ▸ Finset.le_sup (Finset.mem_univ s)
  have hA0 : A s0 := by
    by_contra h
    have := hle t
    rw [hL t, hL s0, if_pos ht, if_neg h] at this
    exact absurd (le_bot_iff.mp this) (EReal.coe_ne_bot _)
  have hl : ∀ s, A s → l s ≤ l s0 := fun s h => by
    have := hle s
    rw [hL s, hL s0, if_pos h, if_pos hA0] at this
    exact_mod_cast this
  have hM : Finset.univ.fold max ⊥ L = ((l s0 : ℝ) : EReal) := by
    rw [fold_max_eq_sup, h0, hL, if_pos hA0]
  have hK : Finset.univ.fold max ⊥ (fun s => if A s then ((l s * (Real.log 2)⁻¹ : ℝ) : EReal) else ⊥) = ((l s0 * (Real.log 2)⁻¹ : ℝ) : EReal) := by
    rw [fold_max_eq_sup]
    refine le_antisymm (Finset.sup_le fun s _ => ?_) ?_
    · by_cases h : A s
      · rw [if_pos h]; exact EReal.coe_le_coe_iff.mpr (mul_le_mul_of_nonneg_right (hl s h) hi.le)
      · rw [if_neg h]; exact bot_le
    · have := Finset.le_sup (f := fun s => if A s then ((l s * (Real.log 2)⁻¹ : ℝ) : EReal) else ⊥) (Finset.mem_univ s0)
      rwa [if_pos hA0] at this
  have e2 : ∀ s, Ideal.exp2 ((if A s then ((l s * (Real.log 2)⁻¹ : ℝ) : EReal) else ⊥) - ((l s0 * (Real.log 2)⁻¹ : ℝ) : EReal))
      = ((if A s then Real.exp (l s - l s0) else 0 : ℝ) : EReal) := by
    intro s
    by_cases h : A s
    · rw [if_pos h, if_pos h, ← EReal.coe_sub, ← sub_mul, exp2_scaled]
    · rw [if_neg h, if_neg h, EReal.bot_sub, exp2_bot]; rfl
  have e1 : ∀ s, Ideal.exp (L s - ((l s0 : ℝ) : EReal)) = ((if A s then Real.exp (l s - l s0) else 0 : ℝ) : EReal) := by
    intro s
    rw [hL]
    by_cases h : A s
    · rw [if_pos h, if_pos h, ← EReal.coe_sub]; rfl
    · rw [if_neg h, if_neg h, EReal.bot_sub]; rfl
  unfold att
  rw [hK, hM]
  have hp : ∀ s, 0 ≤ (if A s then Real.exp (l s - l s0) else 0 : ℝ) := fun s => by split <;> positivity
  have hZ : 0 < ∑ s, (if A s then Real.exp (l s - l s0) else 0 : ℝ) :=
    Finset.sum_pos' (fun s _ => hp s) ⟨s0, Finset.mem_univ s0, by rw [if_pos hA0]; exact Real.exp_pos _⟩
  simp only [e2, e1]
  rw [coe_sum', div_real _ _ hZ.ne', sum_mul_real _ _ _ (inv_nonneg.mpr hZ.le)]
  refine Finset.sum_congr rfl fun s _ => ?_
  rw [div_real _ _ hZ.ne', mul_assoc, mul_assoc, mul_comm (v s)]

theorem scale_val : scaleC = (((11863283 / 134217728) * (Real.log 2)⁻¹ : ℝ) : EReal) :=
  IdealRules.named_const.ideal_named_scalar _ _ _ _ rfl

theorem log2e_val : log2C = (((Real.log 2)⁻¹ : ℝ) : EReal) :=
  IdealRules.named_const.ideal_named_scalar _ _ _ _ rfl

/-- The penalty of a query at a key's block, on finite queries and keys. -/
theorem pen_cases (q k : Vec Ideal S1x2048x128 .bf16) (qr kr : S1x2048x128.Idx → ℝ) (hq : ∀ y, q y = (qr y : EReal)) (hk : ∀ y, k y = (kr y : EReal))
    (t s : Fin 2048) : penOf q k t (s.val / 256)
      = if s.val / 256 < t.val / 256 ∧ ¬ rank8 (gate qr kr t) (⟨s.val / 256, by omega⟩ : Fin 8) < 3 then ⊥ else 0 := by
  unfold penOf
  rw [dif_pos (show s.val / 256 < 8 by omega)]
  have : (fun j => k1_pay9 (F := Ideal) (k1_pay6 k) q (ix2 j t)) = gate qr kr t := funext fun j => gate_apply q k qr kr hq hk t j
  rw [this]
  exact if_congr (by omega) rfl rfl

/-- The kernel's logit is the reference's divided by the logarithm of two. -/
theorem klog_eq (q k : Vec Ideal S1x2048x128 .bf16) (qr kr : S1x2048x128.Idx → ℝ) (hq : ∀ y, q y = (qr y : EReal)) (hk : ∀ y, k y = (kr y : EReal))
    (br : Nat → ℝ) (far : EReal) (near diag : Vec Ideal S1x256x256 .f32) (hfar : far = ((br 31 * (Real.log 2)⁻¹ : ℝ) : EReal))
    (hnear : ∀ a b : Fin 256, near (ix3 0 a b) = ((br (bkt (a.val + 256 - b.val)) * (Real.log 2)⁻¹ : ℝ) : EReal))
    (hdiag : ∀ a b : Fin 256, diag (ix3 0 a b) = if b.val ≤ a.val then ((br (bkt (a.val - b.val)) * (Real.log 2)⁻¹ : ℝ) : EReal) else ⊥)
    (t s : Fin 2048) :
    klog (score (qAug q k) (kAug k)) far near diag t s
      = if Cert.MobaRefIdeal.Read.attends qr kr t s then
          ((((∑ c : Fin 128, qr (ix3 0 t c) * kr (ix3 0 s c)) * (11863283 / 134217728) + br (bkt (t.val - s.val))) * (Real.log 2)⁻¹ : ℝ) : EReal)
        else (⊥ : EReal) := by
  have hdot : (∑ c : Fin 128, q (ix3 0 t c) * k (ix3 0 s c)) = ((∑ c : Fin 128, qr (ix3 0 t c) * kr (ix3 0 s c) : ℝ) : EReal) := by
    rw [← coe_sum']
    exact Finset.sum_congr rfl fun c _ => by rw [hq, hk, EReal.coe_mul]
  have hS := score_aug q k t s
  rw [hdot, pen_cases q k qr kr hq hk] at hS
  have hpos : (0 : ℝ) < (11863283 / 134217728) * (Real.log 2)⁻¹ := mul_pos (by norm_num) (inv_pos.mpr log2_pos)
  have real : ∀ (D b : ℝ), ((D : EReal) + 0) * scaleC + ((b * (Real.log 2)⁻¹ : ℝ) : EReal)
      = (((D * (11863283 / 134217728) + b) * (Real.log 2)⁻¹ : ℝ) : EReal) := by
    intro D b
    rw [add_zero, scale_val, ← EReal.coe_mul, ← EReal.coe_add]
    congr 1; ring
  have masked : ∀ (D : ℝ) (z : EReal), ((D : EReal) + ⊥) * scaleC + z = ⊥ := by
    intro D z
    rw [EReal.add_bot, scale_val, EReal.bot_mul_coe_of_pos hpos, EReal.bot_add]
  rcases Nat.lt_or_ge (t.val / 256) (s.val / 256) with h | h
  · rw [klog_ahead h, if_neg]
    unfold Cert.MobaRefIdeal.Read.attends; omega
  rcases Nat.lt_or_ge (s.val / 256 + 1) (t.val / 256) with h2 | h2
  · rw [klog_far (by omega), hS, hfar]
    by_cases hr : rank8 (gate qr kr t) (⟨s.val / 256, by omega⟩ : Fin 8) < 3
    · have ha : Cert.MobaRefIdeal.Read.attends qr kr t s := Or.inl ⟨by omega, hr⟩
      rw [if_neg (fun h => h.2 hr), if_pos ha, real, bkt_far (t.val - s.val) (by omega)]
    · have hm : s.val / 256 < t.val / 256 ∧ ¬ rank8 (gate qr kr t) (⟨s.val / 256, by omega⟩ : Fin 8) < 3 := ⟨by omega, hr⟩
      rw [if_pos hm, masked, if_neg]
      rintro (⟨_, h3⟩ | ⟨h3, _⟩)
      · exact hr h3
      · omega
  rcases Nat.lt_or_ge (s.val / 256) (t.val / 256) with h3 | h3
  · rw [klog_near (by omega) ⟨t.val % 256, by omega⟩ ⟨s.val % 256, by omega⟩ rfl rfl, hS, hnear]
    by_cases hr : rank8 (gate qr kr t) (⟨s.val / 256, by omega⟩ : Fin 8) < 3
    · have ha : Cert.MobaRefIdeal.Read.attends qr kr t s := Or.inl ⟨by omega, hr⟩
      rw [if_neg (fun h => h.2 hr), if_pos ha, real]
      have : t.val % 256 + 256 - s.val % 256 = t.val - s.val := by omega
      rw [this]
    · have hm : s.val / 256 < t.val / 256 ∧ ¬ rank8 (gate qr kr t) (⟨s.val / 256, by omega⟩ : Fin 8) < 3 := ⟨by omega, hr⟩
      rw [if_pos hm, masked, if_neg]
      rintro (⟨_, h3⟩ | ⟨h3, _⟩)
      · exact hr h3
      · omega
  · rw [klog_diag (by omega) ⟨t.val % 256, by omega⟩ ⟨s.val % 256, by omega⟩ rfl rfl, hS, hdiag, if_neg (by omega)]
    by_cases hts : s.val ≤ t.val
    · have ha : Cert.MobaRefIdeal.Read.attends qr kr t s := Or.inr ⟨by omega, hts⟩
      rw [if_pos (show s.val % 256 ≤ t.val % 256 by omega), if_pos ha, real]
      have : t.val % 256 - s.val % 256 = t.val - s.val := by omega
      rw [this]
    · rw [if_neg (show ¬ s.val % 256 ≤ t.val % 256 by omega), EReal.add_bot, if_neg]
      unfold Cert.MobaRefIdeal.Read.attends; omega

end Cert.MobaIdeal.Att
-- ==== Proof.MobaTiles.lean ====
module
public import proofs.«01_k».proof.Proof.MobaRow

/-!
# The tiles of relative biases

Each tile entry is the head's bias at the bucket of the distance, in the base-two scale; ahead of the diagonal it
is −∞.
-/

@[expose] public section
set_option maxHeartbeats 4000000
set_option maxRecDepth 16384
noncomputable section
namespace Cert.MobaIdeal.Att
open Cert.MobaIdeal Cert.MobaIdeal.Gen
open Idealize.ShloMosaic Idealize.ShloMosaic.TcCoe Idealize.SL.Sem

/-- The kernel's chain of choices: the last entry whose bucket begins at the distance or before. -/
def chain (f : Nat → EReal) (D : BitVec 32) : Nat → EReal
  | 0 => f 0
  | j + 1 => Scalar.select (IntOp.cmpi CmpIPredicate.sge D (BitVec.ofNat 32 (startOf (j + 1)))) (f (j + 1)) (chain f D j)

theorem startOf_lt (j : Nat) : startOf j < 2 ^ 31 := by
  by_cases h : j < 32
  · have : ∀ i : Fin 32, startOf i.val < 2 ^ 31 := by decide +kernel
    exact this ⟨j, h⟩
  · unfold startOf
    rw [List.getD_eq_getElem?_getD, List.getElem?_eq_none (by simp; omega)]; norm_num

theorem chain_eq (f : Nat → EReal) (d : Nat) (hd : d < 2 ^ 31) (j : Nat) : chain f (BitVec.ofNat 32 d) j = f (bktTo j d) := by
  induction j with
  | zero => rfl
  | succ j ih =>
    unfold chain bktTo
    rw [ih, WordCmp.cmpi_sge_ofNat hd (startOf_lt _), WordCmp.select_ofBool]
    by_cases h : startOf (j + 1) ≤ d
    · rw [if_pos (by simpa using h), if_pos h]
    · rw [if_neg (by simpa using h), if_neg h]

/-- The entries of a head's column of the bias table. -/
def column (x0 : S32x16.Idx → EReal) (i : grid0.Coords) (h : (Scalar.indexCast (BitVec.ofNat 32 (i 0).val)).toNat < 16) (j : Nat) : EReal :=
  x0 (ix2 (⟨min j 31, by omega⟩ : Fin 32) (⟨(Scalar.indexCast (BitVec.ofNat 32 (i 0).val)).toNat, h⟩ : Fin 16))

theorem col_word (i : grid0.Coords) : (Scalar.indexCast (BitVec.ofNat 32 (i 0).val)).toNat = (i 0).val := by
  have hi : (i 0).val < 16 := (i 0).isLt
  simp [Scalar.indexCast]; omega

/-- The bias of a head at the bucket of a distance. -/
def biasAt (x0 : S32x16.Idx → EReal) (d : Nat) (h : Fin 16) : EReal := x0 (ix2 (⟨bkt d, bkt_lt d⟩ : Fin 32) h)

theorem column_eq (x0 : S32x16.Idx → EReal) (i : grid0.Coords) (h) (d : Nat) :
    column x0 i h (bkt d) = biasAt x0 d (⟨(i 0).val, (i 0).isLt⟩ : Fin 16) := by
  have := bkt_lt d
  unfold column
  unfold biasAt
  refine congrArg x0 (congrArg₂ (fun (a : Fin 32) (b : Fin 16) => ix2 a b) (Fin.ext ?_) (Fin.ext (col_word i)))
  show min (bkt d) 31 = bkt d
  omega

variable (V : (c : Dev nD) → (b : Ref sig .tc) → Buf (Elt Ideal) ((c : Thread nD τ).loc b))

theorem near_word (c : Dev nD) (t : Fin cfg0.N) (a b : Fin 256) :
    (outsAt0 V c t).2 (ix3 0 a b) = chain (column (iblk0 V c 0 t) (grid0.coords t) ((col_word _).trans_lt (grid0.coords t 0).isLt))
      (IntOp.addi (IntOp.subi (BitVec.ofNat 32 a.val) (BitVec.ofNat 32 b.val)) 256#32) 31 * log2C := by
  unfold outsAt0
  generalize iblk0 V c 0 t = x0
  frame_open
  simp only [View.readAt_eq_ld, Memref.IsWhole.read_unread, View.readCov_eq_canon']
  rw [View.read_writes_junk_eq_canon, View.canon_unit_zero (by decide)]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18]
  rfl

theorem diag_word (c : Dev nD) (t : Fin cfg0.N) (a b : Fin 256) :
    (outsAt0 V c t).1 (ix3 0 a b) = Scalar.select (IntOp.cmpi CmpIPredicate.sge (IntOp.subi (BitVec.ofNat 32 a.val) (BitVec.ofNat 32 b.val)) 0#32)
      (chain (column (iblk0 V c 0 t) (grid0.coords t) ((col_word _).trans_lt (grid0.coords t 0).isLt))
        (IntOp.subi (BitVec.ofNat 32 a.val) (BitVec.ofNat 32 b.val)) 31 * log2C) ⊥ := by
  unfold outsAt0
  generalize iblk0 V c 0 t = x0
  frame_open
  simp only [View.readAt_eq_ld, Memref.IsWhole.read_unread, View.readCov_eq_canon']
  rw [View.read_writes_junk_eq_canon, View.canon_unit_zero (by decide)]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18]
  rw [masked_bot]
  rfl

theorem near_tile (c : Dev nD) (t : Fin cfg0.N) (a b : Fin 256) :
    (outsAt0 V c t).2 (ix3 0 a b) = biasAt (iblk0 V c 0 t) (a.val + 256 - b.val) (⟨(grid0.coords t 0).val, (grid0.coords t 0).isLt⟩ : Fin 16) * log2C := by
  have e : IntOp.addi (IntOp.subi (BitVec.ofNat 32 a.val) (BitVec.ofNat 32 b.val)) 256#32 = BitVec.ofNat 32 (a.val + 256 - b.val) := by
    show BitVec.ofNat 32 a.val - BitVec.ofNat 32 b.val + 256#32 = _
    apply BitVec.eq_of_toNat_eq; simp; omega
  rw [near_word, e, chain_eq _ _ (by omega)]
  exact congrArg (· * log2C) (column_eq _ _ _ _)

theorem diag_tile (c : Dev nD) (t : Fin cfg0.N) (a b : Fin 256) :
    (outsAt0 V c t).1 (ix3 0 a b) = if b.val ≤ a.val then
      biasAt (iblk0 V c 0 t) (a.val - b.val) (⟨(grid0.coords t 0).val, (grid0.coords t 0).isLt⟩ : Fin 16) * log2C else ⊥ := by
  have hs := Cert.MobaRefIdeal.Read.distance_sign ⟨a.val, by omega⟩ ⟨b.val, by omega⟩
  rw [diag_word, hs, WordCmp.select_ofBool]
  by_cases h : b.val ≤ a.val
  · have e : IntOp.subi (BitVec.ofNat 32 a.val) (BitVec.ofNat 32 b.val) = BitVec.ofNat 32 (a.val - b.val) := by
      show BitVec.ofNat 32 a.val - BitVec.ofNat 32 b.val = _
      apply BitVec.eq_of_toNat_eq; simp; omega
    rw [if_pos (by simpa using h), if_pos h, e, chain_eq _ _ (by omega)]
    exact congrArg (· * log2C) (column_eq _ _ _ _)
  · rw [if_neg (by simpa using h), if_neg h]

end Cert.MobaIdeal.Att
-- ==== Proof.MobaArgs.lean ====
module
public import proofs.«01_k».proof.Proof.MobaRow
public import proofs.«01_k».proof.Proof.MobaTiles

/-!
# One head of the attention, from the two arguments
-/

@[expose] public section
set_option maxHeartbeats 4000000
set_option maxRecDepth 16384
noncomputable section
namespace Cert.MobaIdeal.Att
open Cert.MobaIdeal Cert.MobaIdeal.Gen
open Idealize.ShloMosaic Idealize.ShloMosaic.TcCoe Idealize.SL.Sem

/-- A head's queries in the projected array. -/
def qE (P : S4x2048x10240.Idx → EReal) (b : Fin 4) (h : Fin 16) (y : S1x2048x128.Idx) : EReal :=
  P (ix3 b (y 1 : Fin 2048) (⟨0 * 2048 + h.val * 128 + (y 2 : Fin 128).val, by
    have h2 := h.isLt; have h3 : (y 2 : Fin 128).val < 128 := (y 2 : Fin 128).isLt; omega⟩ : Fin 10240))

/-- A head's keys in the projected array. -/
def kE (P : S4x2048x10240.Idx → EReal) (b : Fin 4) (h : Fin 16) (y : S1x2048x128.Idx) : EReal :=
  P (ix3 b (y 1 : Fin 2048) (⟨1 * 2048 + h.val * 128 + (y 2 : Fin 128).val, by
    have h2 := h.isLt; have h3 : (y 2 : Fin 128).val < 128 := (y 2 : Fin 128).isLt; omega⟩ : Fin 10240))

/-- A head's values in the projected array. -/
def vE (P : S4x2048x10240.Idx → EReal) (b : Fin 4) (h : Fin 16) (y : S1x2048x128.Idx) : EReal :=
  P (ix3 b (y 1 : Fin 2048) (⟨2 * 2048 + h.val * 128 + (y 2 : Fin 128).val, by
    have h2 := h.isLt; have h3 : (y 2 : Fin 128).val < 128 := (y 2 : Fin 128).isLt; omega⟩ : Fin 10240))

/-- The tile on the diagonal. -/
def diagE (rel : S32x16.Idx → EReal) (h : Fin 16) (y : S1x256x256.Idx) : EReal :=
  if (y 2 : Fin 256).val ≤ (y 1 : Fin 256).val then biasAt rel ((y 1 : Fin 256).val - (y 2 : Fin 256).val) h * log2C else ⊥

/-- The tile just under the diagonal. -/
def nearE (rel : S32x16.Idx → EReal) (h : Fin 16) (y : S1x256x256.Idx) : EReal :=
  biasAt rel ((y 1 : Fin 256).val + 256 - (y 2 : Fin 256).val) h * log2C

/-- One head of one sequence from the two arguments. -/
def headG (P : S4x2048x10240.Idx → EReal) (rel : S32x16.Idx → EReal) (b : Fin 4) (h : Fin 16) (y : S1x2048x128.Idx) : EReal :=
  headOut (rel (ix2 (31 : Fin 32) h) * log2C) (qE P b h) (kE P b h) (vE P b h) (diagE rel h) (nearE rel h) y

theorem headG_at (P : S4x2048x10240.Idx → EReal) (rel : S32x16.Idx → EReal) (b : Fin 4) (h : Fin 16) (t : Fin 2048) (e : Fin 128) :
    headG P rel b h (ix3 (0 : Fin 1) t e)
      = att 2048 (fun s => klog (score (qAug (qE P b h) (kE P b h)) (kAug (kE P b h))) (rel (ix2 (31 : Fin 32) h) * log2C) (nearE rel h) (diagE rel h) t s)
          (fun s => vE P b h (ix3 (0 : Fin 1) s e)) := rfl

end Cert.MobaIdeal.Att
-- ==== Proof.MobaWin.lean ====
module
public import proofs.«01_k».proof.Proof.MobaArgs
public import proofs.«01_k».proof.Proof.MobaTop

/-!
# The two grids of the attention: where each block lies, and the final arrays

Grid point `h` of the first grid writes head `h`'s two bias tiles. Grid point `16 b + h` of the second reads head `h`
of sequence `b` and writes the same head of the result.
-/

@[expose] public section
set_option maxHeartbeats 4000000
set_option maxRecDepth 16384
noncomputable section
namespace Cert.MobaIdeal.Att
open Cert.MobaIdeal Cert.MobaIdeal.Gen
open Idealize.ShloMosaic Idealize.ShloMosaic.TcCoe Idealize.SL.Sem
open Idealize.ShloMosaic.Pipeline (Dat)

theorem at0_0 : ∀ t : Fin grid0.N, win0_0.index t 0 = 0 ∧ win0_0.index t 1 = 0 := by decide +kernel
theorem at0_1 : ∀ t : Fin grid0.N, win0_1.index t 0 = t.val ∧ win0_1.index t 1 = 0 ∧ win0_1.index t 2 = 0 := by decide +kernel
theorem at0_2 : ∀ t : Fin grid0.N, win0_2.index t 0 = t.val ∧ win0_2.index t 1 = 0 ∧ win0_2.index t 2 = 0 := by decide +kernel
theorem at1_0 : ∀ t : Fin grid1.N, win1_0.index t 0 = 0 ∧ win1_0.index t 1 = 0 := by decide +kernel
theorem at1_1 : ∀ t : Fin grid1.N, win1_1.index t 0 = t.val / 16 ∧ win1_1.index t 1 = 0 ∧ win1_1.index t 2 = t.val % 16 := by decide +kernel
theorem at1_2 : ∀ t : Fin grid1.N, win1_2.index t 0 = t.val / 16 ∧ win1_2.index t 1 = 0 ∧ win1_2.index t 2 = 16 + t.val % 16 := by decide +kernel
theorem at1_3 : ∀ t : Fin grid1.N, win1_3.index t 0 = t.val / 16 ∧ win1_3.index t 1 = 0 ∧ win1_3.index t 2 = 32 + t.val % 16 := by decide +kernel
theorem at1_4 : ∀ t : Fin grid1.N, win1_4.index t 0 = t.val % 16 ∧ win1_4.index t 1 = 0 ∧ win1_4.index t 2 = 0 := by decide +kernel
theorem at1_5 : ∀ t : Fin grid1.N, win1_5.index t 0 = t.val % 16 ∧ win1_5.index t 1 = 0 ∧ win1_5.index t 2 = 0 := by decide +kernel
theorem at1_6 : ∀ t : Fin grid1.N, win1_6.index t 0 = t.val / 16 ∧ win1_6.index t 1 = 0 ∧ win1_6.index t 2 = t.val % 16 := by decide +kernel
theorem pt0 : ∀ t : Fin grid0.N, (grid0.coords t 0).val = t.val := by decide +kernel
theorem pt1 : ∀ t : Fin grid1.N, (grid1.coords t 0).val = t.val / 16 ∧ (grid1.coords t 1).val = t.val % 16 := by decide +kernel

theorem ext3 {S : Shape} {i j : S.Idx} (h : ∀ a, (i a).val = (j a).val) : i = j := funext fun a => Fin.ext (h a)

/-- The array of diagonal tiles. -/
def diagA (rel : S32x16.Idx → EReal) (i : S16x256x256.Idx) : EReal :=
  diagE rel (i 0 : Fin 16) (ix3 (0 : Fin 1) (i 1 : Fin 256) (i 2 : Fin 256))
/-- The array of tiles under the diagonal. -/
def nearA (rel : S32x16.Idx → EReal) (i : S16x256x256.Idx) : EReal :=
  nearE rel (i 0 : Fin 16) (ix3 (0 : Fin 1) (i 1 : Fin 256) (i 2 : Fin 256))

section first
variable (V : (c : Dev nD) → (b : Ref sig .tc) → Buf (Elt Ideal) ((c : Thread nD τ).loc b))

theorem rel0 (c : Dev nD) (t : Fin cfg0.N) : iblk0 V c 0 t = V c main_arg1 := by
  funext y
  show (V c main_arg1) ((win0_0.rect t).emb y) = _
  refine congrArg _ (Shape.idx_ext₂ ?_ ?_)
  · rw [win0_0.rect_emb_val, (at0_0 t).1]; exact (Nat.zero_mul _).symm ▸ Nat.zero_add _
  · rw [win0_0.rect_emb_val, (at0_0 t).2]; exact (Nat.zero_mul _).symm ▸ Nat.zero_add _

theorem flushed0_1 (c : Dev nD) (t : Fin cfg0.N) :
    (dat0 V c).flushed 1 t = ((cfg0.win 1).blk t).view.read (Elt Ideal) (diagA (V c main_arg1)) := by
  show (cfg0.win 1).cut (grid0.coords t) ((dat0 V c).after 1 t) = _
  rw [after0_1]
  funext j
  show (outsAt0 V c t).1 j = diagA (V c main_arg1) ((win0_1.rect t).emb j)
  have h0 : (((win0_1.rect t).emb j 0 : Fin _) : Nat) = t.val * 1 + (j 0).val := by rw [win0_1.rect_emb_val, (at0_1 t).1]; rfl
  have h1 : (((win0_1.rect t).emb j 1 : Fin _) : Nat) = 0 * 256 + (j 1).val := by rw [win0_1.rect_emb_val, (at0_1 t).2.1]; rfl
  have h2 : (((win0_1.rect t).emb j 2 : Fin _) : Nat) = 0 * 256 + (j 2).val := by rw [win0_1.rect_emb_val, (at0_1 t).2.2]; rfl
  have hz : (j 0).val = 0 := by have : (j 0).val < 1 := (j 0).isLt; omega
  have hj : j = ix3 (0 : Fin 1) (j 1 : Fin 256) (j 2 : Fin 256) := by
    funext a
    match a with
    | ⟨0, _⟩ => exact Fin.ext hz
    | ⟨1, _⟩ => rfl
    | ⟨2, _⟩ => rfl
  have e : ((win0_1.rect t).emb j) = ix3 (⟨(grid0.coords t 0).val, (grid0.coords t 0).isLt⟩ : Fin 16) (j 1 : Fin 256) (j 2 : Fin 256) := by
    funext a
    match a with
    | ⟨0, _⟩ => exact Fin.ext (h0.trans (by rw [hz]; show t.val * 1 + 0 = (grid0.coords t 0).val; rw [pt0]; omega))
    | ⟨1, _⟩ => exact Fin.ext (h1.trans (by show 0 * 256 + (j 1).val = (j 1).val; omega))
    | ⟨2, _⟩ => exact Fin.ext (h2.trans (by show 0 * 256 + (j 2).val = (j 2).val; omega))
  refine (congrArg _ hj).trans ((diag_tile V c t (j 1) (j 2)).trans ?_)
  rw [e]
  show (if _ then biasAt (iblk0 V c 0 t) _ _ * log2C else ⊥) = (if _ then biasAt (V c main_arg1) _ _ * log2C else ⊥)
  rw [show biasAt (iblk0 V c 0 t) = biasAt (V c main_arg1) from congrArg biasAt (rel0 V c t)]
  rfl

theorem flushed0_2 (c : Dev nD) (t : Fin cfg0.N) :
    (dat0 V c).flushed 2 t = ((cfg0.win 2).blk t).view.read (Elt Ideal) (nearA (V c main_arg1)) := by
  show (cfg0.win 2).cut (grid0.coords t) ((dat0 V c).after 2 t) = _
  rw [after0_2]
  funext j
  show (outsAt0 V c t).2 j = nearA (V c main_arg1) ((win0_2.rect t).emb j)
  have h0 : (((win0_2.rect t).emb j 0 : Fin _) : Nat) = t.val * 1 + (j 0).val := by rw [win0_2.rect_emb_val, (at0_2 t).1]; rfl
  have h1 : (((win0_2.rect t).emb j 1 : Fin _) : Nat) = 0 * 256 + (j 1).val := by rw [win0_2.rect_emb_val, (at0_2 t).2.1]; rfl
  have h2 : (((win0_2.rect t).emb j 2 : Fin _) : Nat) = 0 * 256 + (j 2).val := by rw [win0_2.rect_emb_val, (at0_2 t).2.2]; rfl
  have hz : (j 0).val = 0 := by have : (j 0).val < 1 := (j 0).isLt; omega
  have hj : j = ix3 (0 : Fin 1) (j 1 : Fin 256) (j 2 : Fin 256) := by
    funext a
    match a with
    | ⟨0, _⟩ => exact Fin.ext hz
    | ⟨1, _⟩ => rfl
    | ⟨2, _⟩ => rfl
  have e : ((win0_2.rect t).emb j) = ix3 (⟨(grid0.coords t 0).val, (grid0.coords t 0).isLt⟩ : Fin 16) (j 1 : Fin 256) (j 2 : Fin 256) := by
    funext a
    match a with
    | ⟨0, _⟩ => exact Fin.ext (h0.trans (by rw [hz]; show t.val * 1 + 0 = (grid0.coords t 0).val; rw [pt0]; omega))
    | ⟨1, _⟩ => exact Fin.ext (h1.trans (by show 0 * 256 + (j 1).val = (j 1).val; omega))
    | ⟨2, _⟩ => exact Fin.ext (h2.trans (by show 0 * 256 + (j 2).val = (j 2).val; omega))
  refine (congrArg _ hj).trans ((near_tile V c t (j 1) (j 2)).trans ?_)
  rw [e]
  show biasAt (iblk0 V c 0 t) _ _ * log2C = biasAt (V c main_arg1) _ _ * log2C
  rw [show biasAt (iblk0 V c 0 t) = biasAt (V c main_arg1) from congrArg biasAt (rel0 V c t)]
  rfl

theorem mem0_1 (t : Fin grid0.N) (i : S16x256x256.Idx) :
    i ∈ ((cfg0.win 1).blk t).view.set ↔ ∀ a : Fin 3, win0_1.index t a * S1x256x256.size a ≤ (i a).val
      ∧ (i a).val < win0_1.index t a * S1x256x256.size a + S1x256x256.size a := by
  show i ∈ ((View.whole main_v0_0).slice (win0_1.rect t)).set ↔ _
  rw [View.set_slice_whole, Rect.mem_set_unit]
  rfl
theorem mem0_2 (t : Fin grid0.N) (i : S16x256x256.Idx) :
    i ∈ ((cfg0.win 2).blk t).view.set ↔ ∀ a : Fin 3, win0_2.index t a * S1x256x256.size a ≤ (i a).val
      ∧ (i a).val < win0_2.index t a * S1x256x256.size a + S1x256x256.size a := by
  show i ∈ ((View.whole main_v0_1).slice (win0_2.rect t)).set ↔ _
  rw [View.set_slice_whole, Rect.mem_set_unit]
  rfl

theorem covered0_1 (i : S16x256x256.Idx) : ∃ t : Fin cfg0.N, (cfg0.win 1).flush t = true ∧ i ∈ ((cfg0.win 1).blk t).view.set := by
  have h0 : (i 0).val < 16 := (i 0).isLt
  have h1 : (i 1).val < 256 := (i 1).isLt
  have h2 : (i 2).val < 256 := (i 2).isLt
  have hN : grid0.N = 16 := by decide
  refine ⟨⟨(i 0).val, by show _ < grid0.N; omega⟩, flush0_1 _, ?_⟩
  rw [mem0_1]
  intro a
  match a with
  | ⟨0, _⟩ => show win0_1.index _ 0 * 1 ≤ (i 0).val ∧ (i 0).val < win0_1.index _ 0 * 1 + 1; rw [(at0_1 _).1]; dsimp only; omega
  | ⟨1, _⟩ => show win0_1.index _ 1 * 256 ≤ (i 1).val ∧ (i 1).val < win0_1.index _ 1 * 256 + 256; rw [(at0_1 _).2.1]; omega
  | ⟨2, _⟩ => show win0_1.index _ 2 * 256 ≤ (i 2).val ∧ (i 2).val < win0_1.index _ 2 * 256 + 256; rw [(at0_1 _).2.2]; omega
theorem covered0_2 (i : S16x256x256.Idx) : ∃ t : Fin cfg0.N, (cfg0.win 2).flush t = true ∧ i ∈ ((cfg0.win 2).blk t).view.set := by
  have h0 : (i 0).val < 16 := (i 0).isLt
  have h1 : (i 1).val < 256 := (i 1).isLt
  have h2 : (i 2).val < 256 := (i 2).isLt
  have hN : grid0.N = 16 := by decide
  refine ⟨⟨(i 0).val, by show _ < grid0.N; omega⟩, flush0_2 _, ?_⟩
  rw [mem0_2]
  intro a
  match a with
  | ⟨0, _⟩ => show win0_2.index _ 0 * 1 ≤ (i 0).val ∧ (i 0).val < win0_2.index _ 0 * 1 + 1; rw [(at0_2 _).1]; dsimp only; omega
  | ⟨1, _⟩ => show win0_2.index _ 1 * 256 ≤ (i 1).val ∧ (i 1).val < win0_2.index _ 1 * 256 + 256; rw [(at0_2 _).2.1]; omega
  | ⟨2, _⟩ => show win0_2.index _ 2 * 256 ≤ (i 2).val ∧ (i 2).val < win0_2.index _ 2 * 256 + 256; rw [(at0_2 _).2.2]; omega

theorem final0_1 (c : Dev nD) : (dat0 V c).arrAt 1 cfg0.N = diagA (V c main_arg1) :=
  (dat0 V c).arrAt_eq_of_cover 1 (diagA (V c main_arg1)) (fun t _ => flushed0_1 V c t) covered0_1
theorem final0_2 (c : Dev nD) : (dat0 V c).arrAt 2 cfg0.N = nearA (V c main_arg1) :=
  (dat0 V c).arrAt_eq_of_cover 2 (nearA (V c main_arg1)) (fun t _ => flushed0_2 V c t) covered0_2
end first

end Cert.MobaIdeal.Att
-- ==== Proof.MobaWhole.lean ====
module
public import proofs.«01_k».proof.Proof.MobaWin

/-!
# The attention's result array

The second grid's blocks are the heads of the result; with the tiles left by the first grid, the whole array is a
function of the two arguments.
-/

@[expose] public section
set_option maxHeartbeats 4000000
set_option maxRecDepth 16384
noncomputable section
namespace Cert.MobaIdeal.Att
open Cert.MobaIdeal Cert.MobaIdeal.Gen
open Idealize.ShloMosaic Idealize.ShloMosaic.TcCoe Idealize.SL.Sem
open Idealize.ShloMosaic.Pipeline (Dat)

/-- The result from the two arguments. -/
def outG (P : S4x2048x10240.Idx → EReal) (rel : S32x16.Idx → EReal) (i : S4x2048x2048.Idx) : EReal :=
  headG P rel (i 0 : Fin 4) (⟨(i 2 : Fin 2048).val / 128, by have : (i 2 : Fin 2048).val < 2048 := (i 2 : Fin 2048).isLt; omega⟩ : Fin 16)
    (ix3 (0 : Fin 1) (i 1 : Fin 2048) (⟨(i 2 : Fin 2048).val % 128, Nat.mod_lt _ (by omega)⟩ : Fin 128))

theorem headG_congr (P : S4x2048x10240.Idx → EReal) (rel : S32x16.Idx → EReal) {b b' : Fin 4} {h h' : Fin 16} {t t' : Fin 2048} {e e' : Fin 128}
    (hb : b = b') (hh : h = h') (ht : t = t') (he : e = e') :
    headG P rel b h (ix3 (0 : Fin 1) t e) = headG P rel b' h' (ix3 (0 : Fin 1) t' e') := by
  subst hb hh ht he; rfl

theorem outG_at (P : S4x2048x10240.Idx → EReal) (rel : S32x16.Idx → EReal) (i : S4x2048x2048.Idx) (b : Fin 4) (h : Fin 16) (t : Fin 2048) (e : Fin 128)
    (h0 : (i 0 : Fin 4).val = b.val) (h1 : (i 1 : Fin 2048).val = t.val) (h2 : (i 2 : Fin 2048).val = h.val * 128 + e.val) :
    outG P rel i = headG P rel b h (ix3 (0 : Fin 1) t e) := by
  have he := e.isLt
  exact headG_congr P rel (Fin.ext h0) (Fin.ext (by show (i 2 : Fin 2048).val / 128 = h.val; omega)) (Fin.ext h1)
    (Fin.ext (by show (i 2 : Fin 2048).val % 128 = e.val; omega))

attribute [local irreducible] headG outG

/-- The sequence of a grid point. -/
def seqOf (t : Fin cfg1.N) : Fin 4 := ⟨(grid1.coords t 0).val, (grid1.coords t 0).isLt⟩
/-- The head of a grid point. -/
def hdOf (t : Fin cfg1.N) : Fin 16 := ⟨(grid1.coords t 1).val, (grid1.coords t 1).isLt⟩

section second
variable (V : (c : Dev nD) → (b : Ref sig .tc) → Buf (Elt Ideal) ((c : Thread nD τ).loc b))

theorem rel1 (c : Dev nD) (t : Fin cfg1.N) : iblk1 V c 0 t = V c main_arg1 := by
  funext y
  show (V c main_arg1) ((win1_0.rect t).emb y) = _
  refine congrArg _ (Shape.idx_ext₂ ?_ ?_)
  · rw [win1_0.rect_emb_val, (at1_0 t).1]; exact (Nat.zero_mul _).symm ▸ Nat.zero_add _
  · rw [win1_0.rect_emb_val, (at1_0 t).2]; exact (Nat.zero_mul _).symm ▸ Nat.zero_add _

theorem blkQ (c : Dev nD) (t : Fin cfg1.N) : iblk1 V c 1 t = qE (V c main_arg0) (seqOf t) (hdOf t) := by
  funext y
  show (V c main_arg0) ((win1_1.rect t).emb y) = _
  unfold qE
  refine congrArg _ ?_
  have h0 : (((win1_1.rect t).emb y 0 : Fin _) : Nat) = t.val / 16 * 1 + (y 0).val := by rw [win1_1.rect_emb_val, (at1_1 t).1]; rfl
  have h1 : (((win1_1.rect t).emb y 1 : Fin _) : Nat) = 0 * 2048 + (y 1).val := by rw [win1_1.rect_emb_val, (at1_1 t).2.1]; rfl
  have h2 : (((win1_1.rect t).emb y 2 : Fin _) : Nat) = t.val % 16 * 128 + (y 2).val := by rw [win1_1.rect_emb_val, (at1_1 t).2.2]; rfl
  have hz : (y 0).val = 0 := by have : (y 0).val < 1 := (y 0).isLt; omega
  funext a
  match a with
  | ⟨0, _⟩ => exact Fin.ext (h0.trans (by rw [hz]; show t.val / 16 * 1 + 0 = (grid1.coords t 0).val; rw [(pt1 t).1]; omega))
  | ⟨1, _⟩ => exact Fin.ext (h1.trans (by show 0 * 2048 + (y 1).val = (y 1).val; omega))
  | ⟨2, _⟩ => exact Fin.ext (h2.trans (by show t.val % 16 * 128 + (y 2).val = 0 * 2048 + (grid1.coords t 1).val * 128 + (y 2).val; rw [(pt1 t).2]; omega))

theorem blkK (c : Dev nD) (t : Fin cfg1.N) : iblk1 V c 2 t = kE (V c main_arg0) (seqOf t) (hdOf t) := by
  funext y
  show (V c main_arg0) ((win1_2.rect t).emb y) = _
  unfold kE
  refine congrArg _ ?_
  have h0 : (((win1_2.rect t).emb y 0 : Fin _) : Nat) = t.val / 16 * 1 + (y 0).val := by rw [win1_2.rect_emb_val, (at1_2 t).1]; rfl
  have h1 : (((win1_2.rect t).emb y 1 : Fin _) : Nat) = 0 * 2048 + (y 1).val := by rw [win1_2.rect_emb_val, (at1_2 t).2.1]; rfl
  have h2 : (((win1_2.rect t).emb y 2 : Fin _) : Nat) = (16 + t.val % 16) * 128 + (y 2).val := by rw [win1_2.rect_emb_val, (at1_2 t).2.2]; rfl
  have hz : (y 0).val = 0 := by have : (y 0).val < 1 := (y 0).isLt; omega
  funext a
  match a with
  | ⟨0, _⟩ => exact Fin.ext (h0.trans (by rw [hz]; show t.val / 16 * 1 + 0 = (grid1.coords t 0).val; rw [(pt1 t).1]; omega))
  | ⟨1, _⟩ => exact Fin.ext (h1.trans (by show 0 * 2048 + (y 1).val = (y 1).val; omega))
  | ⟨2, _⟩ => exact Fin.ext (h2.trans (by show (16 + t.val % 16) * 128 + (y 2).val = 1 * 2048 + (grid1.coords t 1).val * 128 + (y 2).val; rw [(pt1 t).2]; omega))

theorem blkV (c : Dev nD) (t : Fin cfg1.N) : iblk1 V c 3 t = vE (V c main_arg0) (seqOf t) (hdOf t) := by
  funext y
  show (V c main_arg0) ((win1_3.rect t).emb y) = _
  unfold vE
  refine congrArg _ ?_
  have h0 : (((win1_3.rect t).emb y 0 : Fin _) : Nat) = t.val / 16 * 1 + (y 0).val := by rw [win1_3.rect_emb_val, (at1_3 t).1]; rfl
  have h1 : (((win1_3.rect t).emb y 1 : Fin _) : Nat) = 0 * 2048 + (y 1).val := by rw [win1_3.rect_emb_val, (at1_3 t).2.1]; rfl
  have h2 : (((win1_3.rect t).emb y 2 : Fin _) : Nat) = (32 + t.val % 16) * 128 + (y 2).val := by rw [win1_3.rect_emb_val, (at1_3 t).2.2]; rfl
  have hz : (y 0).val = 0 := by have : (y 0).val < 1 := (y 0).isLt; omega
  funext a
  match a with
  | ⟨0, _⟩ => exact Fin.ext (h0.trans (by rw [hz]; show t.val / 16 * 1 + 0 = (grid1.coords t 0).val; rw [(pt1 t).1]; omega))
  | ⟨1, _⟩ => exact Fin.ext (h1.trans (by show 0 * 2048 + (y 1).val = (y 1).val; omega))
  | ⟨2, _⟩ => exact Fin.ext (h2.trans (by show (32 + t.val % 16) * 128 + (y 2).val = 2 * 2048 + (grid1.coords t 1).val * 128 + (y 2).val; rw [(pt1 t).2]; omega))

theorem blkDiag (rel : S32x16.Idx → EReal) (c : Dev nD) (hV : V c main_v0_0 = diagA rel) (t : Fin cfg1.N) :
    iblk1 V c 4 t = diagE rel (hdOf t) := by
  funext y
  show (V c main_v0_0) ((win1_4.rect t).emb y) = _
  rw [hV]
  have h0 : (((win1_4.rect t).emb y 0 : Fin _) : Nat) = t.val % 16 * 1 + (y 0).val := by rw [win1_4.rect_emb_val, (at1_4 t).1]; rfl
  have h1 : (((win1_4.rect t).emb y 1 : Fin _) : Nat) = 0 * 256 + (y 1).val := by rw [win1_4.rect_emb_val, (at1_4 t).2.1]; rfl
  have h2 : (((win1_4.rect t).emb y 2 : Fin _) : Nat) = 0 * 256 + (y 2).val := by rw [win1_4.rect_emb_val, (at1_4 t).2.2]; rfl
  have hz : (y 0).val = 0 := by have : (y 0).val < 1 := (y 0).isLt; omega
  have e : ((win1_4.rect t).emb y) = ix3 (hdOf t) (y 1 : Fin 256) (y 2 : Fin 256) := by
    funext a
    match a with
    | ⟨0, _⟩ => exact Fin.ext (h0.trans (by rw [hz]; show t.val % 16 * 1 + 0 = (grid1.coords t 1).val; rw [(pt1 t).2]; omega))
    | ⟨1, _⟩ => exact Fin.ext (h1.trans (by show 0 * 256 + (y 1).val = (y 1).val; omega))
    | ⟨2, _⟩ => exact Fin.ext (h2.trans (by show 0 * 256 + (y 2).val = (y 2).val; omega))
  rw [e]
  rfl

theorem blkNear (rel : S32x16.Idx → EReal) (c : Dev nD) (hV : V c main_v0_1 = nearA rel) (t : Fin cfg1.N) :
    iblk1 V c 5 t = nearE rel (hdOf t) := by
  funext y
  show (V c main_v0_1) ((win1_5.rect t).emb y) = _
  rw [hV]
  have h0 : (((win1_5.rect t).emb y 0 : Fin _) : Nat) = t.val % 16 * 1 + (y 0).val := by rw [win1_5.rect_emb_val, (at1_5 t).1]; rfl
  have h1 : (((win1_5.rect t).emb y 1 : Fin _) : Nat) = 0 * 256 + (y 1).val := by rw [win1_5.rect_emb_val, (at1_5 t).2.1]; rfl
  have h2 : (((win1_5.rect t).emb y 2 : Fin _) : Nat) = 0 * 256 + (y 2).val := by rw [win1_5.rect_emb_val, (at1_5 t).2.2]; rfl
  have hz : (y 0).val = 0 := by have : (y 0).val < 1 := (y 0).isLt; omega
  have e : ((win1_5.rect t).emb y) = ix3 (hdOf t) (y 1 : Fin 256) (y 2 : Fin 256) := by
    funext a
    match a with
    | ⟨0, _⟩ => exact Fin.ext (h0.trans (by rw [hz]; show t.val % 16 * 1 + 0 = (grid1.coords t 1).val; rw [(pt1 t).2]; omega))
    | ⟨1, _⟩ => exact Fin.ext (h1.trans (by show 0 * 256 + (y 1).val = (y 1).val; omega))
    | ⟨2, _⟩ => exact Fin.ext (h2.trans (by show 0 * 256 + (y 2).val = (y 2).val; omega))
  rw [e]
  rfl

theorem outs_head (c : Dev nD) (h0 : V c main_v0_0 = diagA (V c main_arg1)) (h1 : V c main_v0_1 = nearA (V c main_arg1)) (t : Fin cfg1.N) :
    outsAt1 V c t = headG (V c main_arg0) (V c main_arg1) (seqOf t) (hdOf t) := by
  rw [outsAt1_eq, rel1, blkQ, blkK, blkV, blkDiag V _ c h0, blkNear V _ c h1]
  unfold headG
  rfl

theorem flushed1_6 (c : Dev nD) (h0 : V c main_v0_0 = diagA (V c main_arg1)) (h1 : V c main_v0_1 = nearA (V c main_arg1)) (t : Fin cfg1.N) :
    (dat1 V c).flushed 6 t = ((cfg1.win 6).blk t).view.read (Elt Ideal) (outG (V c main_arg0) (V c main_arg1)) := by
  show (cfg1.win 6).cut (grid1.coords t) ((dat1 V c).after 6 t) = _
  rw [after1_6, outs_head V c h0 h1]
  funext j
  show headG (V c main_arg0) (V c main_arg1) (seqOf t) (hdOf t) j = outG (V c main_arg0) (V c main_arg1) ((win1_6.rect t).emb j)
  have k0 : (((win1_6.rect t).emb j 0 : Fin _) : Nat) = t.val / 16 * 1 + (j 0).val := by rw [win1_6.rect_emb_val, (at1_6 t).1]; rfl
  have k1 : (((win1_6.rect t).emb j 1 : Fin _) : Nat) = 0 * 2048 + (j 1).val := by rw [win1_6.rect_emb_val, (at1_6 t).2.1]; rfl
  have k2 : (((win1_6.rect t).emb j 2 : Fin _) : Nat) = t.val % 16 * 128 + (j 2).val := by rw [win1_6.rect_emb_val, (at1_6 t).2.2]; rfl
  have hz : (j 0).val = 0 := by have : (j 0).val < 1 := (j 0).isLt; omega
  have hj : j = ix3 (0 : Fin 1) (j 1 : Fin 2048) (j 2 : Fin 128) := by
    funext a
    match a with
    | ⟨0, _⟩ => exact Fin.ext hz
    | ⟨1, _⟩ => rfl
    | ⟨2, _⟩ => rfl
  refine (congrArg _ hj).trans (outG_at _ _ _ (seqOf t) (hdOf t) (j 1) (j 2) (k0.trans ?_) (k1.trans ?_) (k2.trans ?_)).symm
  · rw [hz]; show t.val / 16 * 1 + 0 = (grid1.coords t 0).val; rw [(pt1 t).1]; omega
  · show 0 * 2048 + (j 1).val = (j 1).val; omega
  · show t.val % 16 * 128 + (j 2).val = (grid1.coords t 1).val * 128 + (j 2).val; rw [(pt1 t).2]

theorem mem1_6 (t : Fin grid1.N) (i : S4x2048x2048.Idx) :
    i ∈ ((cfg1.win 6).blk t).view.set ↔ ∀ a : Fin 3, win1_6.index t a * S1x2048x128.size a ≤ (i a).val
      ∧ (i a).val < win1_6.index t a * S1x2048x128.size a + S1x2048x128.size a := by
  show i ∈ ((View.whole main_v1).slice (win1_6.rect t)).set ↔ _
  rw [View.set_slice_whole, Rect.mem_set_unit]
  rfl

theorem covered1_6 (i : S4x2048x2048.Idx) : ∃ t : Fin cfg1.N, (cfg1.win 6).flush t = true ∧ i ∈ ((cfg1.win 6).blk t).view.set := by
  have h0 : (i 0).val < 4 := (i 0).isLt
  have h1 : (i 1).val < 2048 := (i 1).isLt
  have h2 : (i 2).val < 2048 := (i 2).isLt
  have hN : grid1.N = 64 := by decide
  refine ⟨⟨(i 0).val * 16 + (i 2).val / 128, by show _ < grid1.N; omega⟩, flush1_6 _, ?_⟩
  rw [mem1_6]
  intro a
  match a with
  | ⟨0, _⟩ => show win1_6.index _ 0 * 1 ≤ (i 0).val ∧ (i 0).val < win1_6.index _ 0 * 1 + 1; rw [(at1_6 _).1]; dsimp only; omega
  | ⟨1, _⟩ => show win1_6.index _ 1 * 2048 ≤ (i 1).val ∧ (i 1).val < win1_6.index _ 1 * 2048 + 2048; rw [(at1_6 _).2.1]; omega
  | ⟨2, _⟩ => show win1_6.index _ 2 * 128 ≤ (i 2).val ∧ (i 2).val < win1_6.index _ 2 * 128 + 128; rw [(at1_6 _).2.2]; dsimp only; omega

theorem final1_6 (c : Dev nD) (h0 : V c main_v0_0 = diagA (V c main_arg1)) (h1 : V c main_v0_1 = nearA (V c main_arg1)) :
    (dat1 V c).arrAt 6 cfg1.N = outG (V c main_arg0) (V c main_arg1) :=
  (dat1 V c).arrAt_eq_of_cover 6 (outG (V c main_arg0) (V c main_arg1)) (fun t _ => flushed1_6 V c h0 h1 t) covered1_6
end second

variable (m : (ℓ : Loc nD τ sig) → Buf (Elt Ideal) ℓ) (ρ : Dev nD → PrngReg)

theorem entry1_arg0 (c : Dev nD) : V1 m ρ c main_arg0 = m ((c : Thread nD τ).loc main_arg0) := W1_args m ρ c main_arg0 (by decide)
theorem entry1_arg1 (c : Dev nD) : V1 m ρ c main_arg1 = m ((c : Thread nD τ).loc main_arg1) := W1_args m ρ c main_arg1 (by decide)
theorem entry1_diag (c : Dev nD) : V1 m ρ c main_v0_0 = diagA (V1 m ρ c main_arg1) :=
  (W1_arr m ρ c 1).trans ((final0_1 (V0 m ρ) c).trans (congrArg diagA (entry1_arg1 m ρ c).symm))
theorem entry1_near (c : Dev nD) : V1 m ρ c main_v0_1 = nearA (V1 m ρ c main_arg1) :=
  (W1_arr m ρ c 2).trans ((final0_2 (V0 m ρ) c).trans (congrArg nearA (entry1_arg1 m ρ c).symm))

/-- What the two grids leave in the result array. -/
theorem result_eq (c : Dev nD) : W2 m ρ c (Proc.devRef .tc main_v1)
    = outG (m ((c : Thread nD τ).loc main_arg0)) (m ((c : Thread nD τ).loc main_arg1)) := by
  refine (W2_arr m ρ c 6).trans ((final1_6 (V1 m ρ) c (entry1_diag m ρ c) (entry1_near m ρ c)).trans ?_)
  rw [entry1_arg0, entry1_arg1]

end Cert.MobaIdeal.Att
-- ==== Proof.MobaRef2.lean ====
module
public import proofs.«01_k».proof.Proof.MobaRef1
public import proofs.«01_k».proof.Proof.MobaBucket

/-!
# The reference: the logits and the result

The bias of a pair of positions is the table's row of the distance's bucket. The result is the softmax of the logits
times the values.
-/

@[expose] public section
set_option maxHeartbeats 4000000
set_option maxRecDepth 16384
noncomputable section
namespace Cert.MobaRefIdeal.Read
open Cert.MobaRefIdeal Cert.MobaIdeal.Att
open Idealize.ShloMosaic Idealize.ShloMosaic.TcCoe Idealize.SL.Sem

variable (x0 : (⟨S4x2048x10240, .bf16⟩ : BufTy).Contents (Elt Ideal)) (x1 : (⟨S32x16, .f32⟩ : BufTy).Contents (Elt Ideal))

theorem bucket_of (t s : Fin 2048) (hts : s.val ≤ t.val) :
    val_main_v80 (F := Ideal) (ix2 t s) = BitVec.ofNat 32 (bkt (t.val - s.val)) := by
  have hd : val_main_v44 (F := Ideal) (ix2 t s) = BitVec.ofNat 32 (t.val - s.val) := by
    pointwise [val_main_v44, val_main_v43, val_main_v42, val_main_v41, val_main_v40, val_main_v17]
    show BitVec.ofNat 32 t.val - BitVec.ofNat 32 s.val = _
    apply BitVec.eq_of_toNat_eq; simp; omega
  refine Eq.trans ?_ (bucket_word (t.val - s.val) (by omega))
  rw [← hd]
  pointwise [val_main_v80, val_main_v79, val_main_v78, val_main_v77, val_main_v76, val_main_v75, val_main_v74, val_main_v73, val_main_v72, val_main_v71,
    val_main_v70, val_main_v69, val_main_v68, val_main_v67, val_main_v66, val_main_v65, val_main_v64, val_main_v63, val_main_v62, val_main_v61,
    val_main_c_6, val_main_c_7, val_main_cst_8, val_main_cst_9, val_main_cst_10, val_main_c_11, val_main_c_12, val_main_c_13]
  rfl

theorem row_of (t s : Fin 2048) (hts : s.val ≤ t.val) :
    val_main_v86 (F := Ideal) (ix3 t s 0) = BitVec.ofNat 32 (bkt (t.val - s.val)) := by
  have e : val_main_v86 (F := Ideal) (ix3 t s 0) = Scalar.select (IntOp.cmpi CmpIPredicate.slt (val_main_v80 (F := Ideal) (ix2 t s)) 0#32)
      (IntOp.addi (val_main_v80 (F := Ideal) (ix2 t s)) 32#32) (val_main_v80 (F := Ideal) (ix2 t s)) := by
    pointwise [val_main_v86, val_main_v85, val_main_v84, val_main_v83, val_main_v82, val_main_v81, val_main_c_14, val_main_c_15]
  have hb := bkt_lt (t.val - s.val)
  rw [e, bucket_of t s hts, show (0#32) = BitVec.ofNat 32 0 from rfl, WordCmp.cmpi_slt_ofNat (by omega) (by omega), WordCmp.select_ofBool, if_neg (by simp)]

theorem bias_of (t s : Fin 2048) (n : Fin 16) (hts : s.val ≤ t.val) :
    val_main_v87 (F := Ideal) x1 (ix3 t s n) = x1 (ix2 (⟨bkt (t.val - s.val), bkt_lt _⟩ : Fin 32) n) := by
  unfold val_main_v87 Host.gather
  refine congrArg x1 ?_
  have hb := bkt_lt (t.val - s.val)
  funext a
  refine Fin.ext ?_
  match a with
  | ⟨0, _⟩ =>
    show gather_S32x16_S2048x2048x1_S2048x2048x16_2_0_n_n_0_2_116.start (ix3 t s n) (val_main_v86 (F := Ideal)) 0
      + gather_S32x16_S2048x2048x1_S2048x2048x16_2_0_n_n_0_2_116.batchCoord (ix3 t s n) 0
      + gather_S32x16_S2048x2048x1_S2048x2048x16_2_0_n_n_0_2_116.offCoord (ix3 t s n) 0 = bkt (t.val - s.val)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S32x16_S2048x2048x1_S2048x2048x16_2_0_n_n_0_2_116.startIndexMap from List.mem_singleton.mpr rfl)]
    have hsi : gather_S32x16_S2048x2048x1_S2048x2048x16_2_0_n_n_0_2_116.siIdx (ix3 t s n)
        ⟨List.idxOf (0 : Fin 2) gather_S32x16_S2048x2048x1_S2048x2048x16_2_0_n_n_0_2_116.startIndexMap,
          List.idxOf_lt_length_iff.2 (List.mem_singleton.mpr rfl)⟩ = ix3 t s 0 := by
      funext b; refine Fin.ext ?_
      match b with
      | ⟨0, _⟩ => rfl
      | ⟨1, _⟩ => rfl
      | ⟨2, _⟩ => rfl
    rw [hsi, row_of t s hts, WordCmp.toInt_ofNat_of_lt (by omega)]
    show min (bkt (t.val - s.val)) 31 = _
    omega
  | ⟨1, _⟩ =>
    show gather_S32x16_S2048x2048x1_S2048x2048x16_2_0_n_n_0_2_116.start (ix3 t s n) (val_main_v86 (F := Ideal)) 1
      + gather_S32x16_S2048x2048x1_S2048x2048x16_2_0_n_n_0_2_116.batchCoord (ix3 t s n) 1
      + gather_S32x16_S2048x2048x1_S2048x2048x16_2_0_n_n_0_2_116.offCoord (ix3 t s n) 1 = n.val
    rw [GatherDims.batchCoord_eq_zero _ _ _ List.not_mem_nil]
    have h0 : gather_S32x16_S2048x2048x1_S2048x2048x16_2_0_n_n_0_2_116.start (ix3 t s n) (val_main_v86 (F := Ideal)) 1 = 0 := by
      unfold GatherDims.start
      exact dif_neg (show ¬ (1 : Fin 2) ∈ ([0] : List (Fin 2)) by decide)
    rw [h0]
    simp only [Nat.add_zero, Nat.zero_add]
    rfl

theorem logit_of (qr kr : Cert.MobaIdeal.S1x2048x128.Idx → ℝ) (b : Fin 4) (h : Fin 16)
    (hq : ∀ t c, val_main_v3 (F := Ideal) x0 (ix4 b h t c) = (qr (ix3 0 t c) : EReal))
    (hk : ∀ t c, val_main_v7 (F := Ideal) x0 (ix4 b h t c) = (kr (ix3 0 t c) : EReal)) (t s : Fin 2048) :
    val_main_v92 (F := Ideal) x0 x1 (ix4 b h t s) = if attends qr kr t s then
      (∑ c, val_main_v3 (F := Ideal) x0 (ix4 b h t c) * val_main_v7 (F := Ideal) x0 (ix4 b h s c)) * ((11863283 / 134217728 : ℝ) : EReal)
        + x1 (ix2 (⟨bkt (t.val - s.val), bkt_lt _⟩ : Fin 32) h) else ⊥ := by
  have e : val_main_v92 (F := Ideal) x0 x1 (ix4 b h t s) = Scalar.select (val_main_v57 (F := Ideal) x0 (ix4 b h t s))
      ((∑ c, val_main_v3 (F := Ideal) x0 (ix4 b h t c) * val_main_v7 (F := Ideal) x0 (ix4 b h s c)) * Ideal.ofBits FTy.f32 1035273459#32
        + val_main_v87 (F := Ideal) x1 (ix3 t s h)) (Ideal.ofBits FTy.f32 4286578688#32) := by
    pointwise [val_main_v92, val_main_v91, val_main_v90, val_main_v89, val_main_v88, val_main_v60, val_main_v59, val_main_v58, val_main_cst_5, val_main_cst_16,
      val_main_call3_v0, val_main_call3_v1]
    rfl
  have c5 : Ideal.ofBits FTy.f32 1035273459#32 = ((11863283 / 134217728 : ℝ) : EReal) := by
    simp [Ideal.ofBits, Ideal.ieee, -EReal.coe_mul]; norm_num
  have cb : Ideal.ofBits FTy.f32 4286578688#32 = (⊥ : EReal) := by simp [Ideal.ofBits, Ideal.ieee]
  rw [e, attends_of x0 qr kr b h hq hk, WordCmp.select_ofBool, c5, cb]
  by_cases ha : attends qr kr t s
  · have hts : s.val ≤ t.val := by rcases ha with ⟨h1, _⟩ | ⟨_, h1⟩ <;> omega
    rw [if_pos (by simpa using ha), if_pos ha, bias_of x1 t s h hts]
  · rw [if_neg (by simpa using ha), if_neg ha]

theorem top_of (b : Fin 4) (h : Fin 16) (t : Fin 2048) :
    val_main_v93 (F := Ideal) x0 x1 (ix3 b h t) = Finset.univ.fold max ⊥ (fun s : Fin 2048 => val_main_v92 (F := Ideal) x0 x1 (ix4 b h t s)) := by
  pointwise [val_main_v93, val_main_cst_17]
  have cb : Ideal.ofBits FTy.f32 4286578688#32 = (⊥ : EReal) := by simp [Ideal.ofBits, Ideal.ieee]
  rw [cb]

theorem weight_of (b : Fin 4) (h : Fin 16) (t s : Fin 2048) :
    val_main_v99 (F := Ideal) x0 x1 (ix4 b h t s) = Ideal.exp (val_main_v92 (F := Ideal) x0 x1 (ix4 b h t s) - val_main_v93 (F := Ideal) x0 x1 (ix3 b h t)) := by
  have cb : Ideal.ofBits FTy.f32 4286578688#32 = (⊥ : EReal) := by simp [Ideal.ofBits, Ideal.ieee]
  have e : val_main_v97 (F := Ideal) x0 x1 (ix4 b h t s) = val_main_v93 (F := Ideal) x0 x1 (ix3 b h t) := by
    rw [val_main_v97_apply, val_main_v96_apply, val_main_v95_apply, val_main_v94_apply, val_main_cst_18_apply]
    generalize val_main_v93 (F := Ideal) x0 x1 = y
    refine (congrArg (fun z : EReal => max z _) cb).trans ((max_eq_right bot_le).trans (congrArg y ?_))
    funext a
    match a with
    | ⟨0, _⟩ => rfl
    | ⟨1, _⟩ => rfl
    | ⟨2, _⟩ => rfl
  rw [val_main_v99_apply, val_main_v98_apply, e]
  rfl

theorem share_of (b : Fin 4) (h : Fin 16) (t s : Fin 2048) :
    val_main_v103 (F := Ideal) x0 x1 (ix4 b h t s) = Ideal.div (val_main_v99 (F := Ideal) x0 x1 (ix4 b h t s)) (∑ s', val_main_v99 (F := Ideal) x0 x1 (ix4 b h t s')) := by
  pointwise [val_main_v103, val_main_v102, val_main_v101, val_main_v100, val_main_cst_19]
  try rfl

theorem result_of (b : Fin 4) (h : Fin 16) (t : Fin 2048) (e : Fin 128) :
    val_main_v107 (F := Ideal) x0 x1 (ix3 b t (⟨h.val * 128 + e.val, by omega⟩ : Fin 2048))
      = ∑ s, val_main_v103 (F := Ideal) x0 x1 (ix4 b h t s) * val_main_v11 (F := Ideal) x0 (ix4 b h s e) := by
  pointwise [val_main_v107, val_main_v106, val_main_v105, val_main_v104]
  trace_state

end Cert.MobaRefIdeal.Read
-- ==== Proof.MobaHead.lean ====
module
public import proofs.«01_k».proof.Proof.MobaArgs
public import proofs.«01_k».proof.Proof.MobaRef2

/-!
# One head: the kernel's sum and the reference's

For finite queries, keys and biases, a head of the kernel is the same head of the reference.
-/

@[expose] public section
set_option maxHeartbeats 4000000
set_option maxRecDepth 16384
noncomputable section
namespace Cert.MobaIdeal.Att
open Cert.MobaIdeal Cert.MobaIdeal.Gen
open Idealize.ShloMosaic Idealize.ShloMosaic.TcCoe Idealize.SL.Sem

/-- The same columns of an array of reals. -/
def qR (p : S4x2048x10240.Idx → ℝ) (b : Fin 4) (h : Fin 16) (y : S1x2048x128.Idx) : ℝ :=
  p (ix3 b (y 1 : Fin 2048) (⟨0 * 2048 + h.val * 128 + (y 2 : Fin 128).val, by
    have h2 := h.isLt; have h3 : (y 2 : Fin 128).val < 128 := (y 2 : Fin 128).isLt; omega⟩ : Fin 10240))
/-- The same for the keys. -/
def kR (p : S4x2048x10240.Idx → ℝ) (b : Fin 4) (h : Fin 16) (y : S1x2048x128.Idx) : ℝ :=
  p (ix3 b (y 1 : Fin 2048) (⟨1 * 2048 + h.val * 128 + (y 2 : Fin 128).val, by
    have h2 := h.isLt; have h3 : (y 2 : Fin 128).val < 128 := (y 2 : Fin 128).isLt; omega⟩ : Fin 10240))

theorem qE_real (P : S4x2048x10240.Idx → EReal) (p : S4x2048x10240.Idx → ℝ)
    (hp : ∀ b t (c : Fin 10240), c.val < 4096 → P (ix3 b t c) = ((p (ix3 b t c) : ℝ) : EReal)) (b : Fin 4) (h : Fin 16) (y : S1x2048x128.Idx) :
    qE P b h y = ((qR p b h y : ℝ) : EReal) := by
  have h2 := h.isLt
  have h3 : (y 2 : Fin 128).val < 128 := (y 2 : Fin 128).isLt
  unfold qE qR
  exact hp b (y 1 : Fin 2048) (⟨0 * 2048 + h.val * 128 + (y 2 : Fin 128).val, by omega⟩ : Fin 10240) (by dsimp only; omega)
theorem kE_real (P : S4x2048x10240.Idx → EReal) (p : S4x2048x10240.Idx → ℝ)
    (hp : ∀ b t (c : Fin 10240), c.val < 4096 → P (ix3 b t c) = ((p (ix3 b t c) : ℝ) : EReal)) (b : Fin 4) (h : Fin 16) (y : S1x2048x128.Idx) :
    kE P b h y = ((kR p b h y : ℝ) : EReal) := by
  have h2 := h.isLt
  have h3 : (y 2 : Fin 128).val < 128 := (y 2 : Fin 128).isLt
  unfold kE kR
  exact hp b (y 1 : Fin 2048) (⟨1 * 2048 + h.val * 128 + (y 2 : Fin 128).val, by omega⟩ : Fin 10240) (by dsimp only; omega)

theorem head_eq (P : S4x2048x10240.Idx → EReal) (rel : S32x16.Idx → EReal)
    (p : S4x2048x10240.Idx → ℝ) (hp : ∀ b t (c : Fin 10240), c.val < 4096 → P (ix3 b t c) = ((p (ix3 b t c) : ℝ) : EReal))
    (r : S32x16.Idx → ℝ) (hr : ∀ i, rel i = ((r i : ℝ) : EReal))
    (b : Fin 4) (h : Fin 16) (t : Fin 2048) (e : Fin 128) (hn : h.val * 128 + e.val < 2048) :
    headG P rel b h (ix3 (0 : Fin 1) t e)
      = MobaRefIdeal.Read.val_main_v107 (F := Ideal) P rel (ix3 b t (⟨h.val * 128 + e.val, hn⟩ : Fin 2048)) := by
  have hq : ∀ y, qE P b h y = ((qR p b h y : ℝ) : EReal) := fun y => qE_real P p hp b h y
  have hk : ∀ y, kE P b h y = ((kR p b h y : ℝ) : EReal) := fun y => kE_real P p hp b h y
  generalize qR p b h = qr at hq
  generalize kR p b h = kr at hk
  have hq' : ∀ t c, MobaRefIdeal.Read.val_main_v3 (F := Ideal) P (ix4 b h t c) = (qr (ix3 0 t c) : EReal) := fun t c =>
    (MobaRefIdeal.Read.queries P b h t c).trans (hq (ix3 0 t c))
  have hk' : ∀ t c, MobaRefIdeal.Read.val_main_v7 (F := Ideal) P (ix4 b h t c) = (kr (ix3 0 t c) : EReal) := fun t c =>
    (MobaRefIdeal.Read.keys P b h t c).trans (hk (ix3 0 t c))
  have hv' : ∀ s, MobaRefIdeal.Read.val_main_v11 (F := Ideal) P (ix4 b h s e) = vE P b h (ix3 0 s e) := fun s =>
    MobaRefIdeal.Read.values P b h s e
  let br : Nat → ℝ := fun n => if hn : n < 32 then r (ix2 (⟨n, hn⟩ : Fin 32) h) else 0
  have hbr : ∀ n (hn : n < 32), rel (ix2 (⟨n, hn⟩ : Fin 32) h) = ((br n : ℝ) : EReal) := fun n hn => by
    rw [hr]; simp only [br, dif_pos hn]
  have hmul : ∀ x y : ℝ, ((x : ℝ) : EReal) * ((y : ℝ) : EReal) = ((x * y : ℝ) : EReal) := fun x y => (EReal.coe_mul x y).symm
  have hfar : rel (ix2 (31 : Fin 32) h) * log2C = ((br 31 * (Real.log 2)⁻¹ : ℝ) : EReal) := by
    rw [log2e_val, show (31 : Fin 32) = ⟨31, by omega⟩ from rfl, hbr, hmul]
  have hb : ∀ d, biasAt rel d h * log2C = ((br (MobaIdeal.Att.bkt d) * (Real.log 2)⁻¹ : ℝ) : EReal) := fun d => by
    unfold biasAt; rw [log2e_val, hbr, hmul]
  have hnear : ∀ a c, nearE rel h (ix3 0 a c) = ((br (bkt (a.val + 256 - c.val)) * (Real.log 2)⁻¹ : ℝ) : EReal) := fun a c => hb _
  have hdiag : ∀ a c, diagE rel h (ix3 0 a c) = if c.val ≤ a.val then ((br (bkt (a.val - c.val)) * (Real.log 2)⁻¹ : ℝ) : EReal) else ⊥ := fun a c => by
    show (if c.val ≤ a.val then biasAt rel (a.val - c.val) h * log2C else ⊥) = _
    rw [hb]
  rw [MobaRefIdeal.Read.result_of P rel b h t e]
  rw [headG_at]
  let l : Fin 2048 → ℝ := fun s => (∑ c, qr (ix3 0 t c) * kr (ix3 0 s c)) * (11863283 / 134217728) + br (bkt (t.val - s.val))
  have hL : ∀ s, MobaRefIdeal.Read.val_main_v92 (F := Ideal) P rel (ix4 b h t s)
      = if MobaRefIdeal.Read.attends qr kr t s then ((l s : ℝ) : EReal) else ⊥ := fun s => by
    rw [MobaRefIdeal.Read.logit_of P rel qr kr b h hq' hk' t s]
    refine if_congr Iff.rfl ?_ rfl
    rw [hbr]
    simp only [hq', hk', hmul, coe_sum', l]
    rw [EReal.coe_add]
  have hrow : (fun s => klog (score (qAug (qE P b h) (kE P b h)) (kAug (kE P b h))) (rel (ix2 (31 : Fin 32) h) * log2C) (nearE rel h) (diagE rel h) t s)
      = fun s => if MobaRefIdeal.Read.attends qr kr t s then ((l s * (Real.log 2)⁻¹ : ℝ) : EReal) else ⊥ :=
    funext fun s => klog_eq _ _ qr kr hq hk br _ _ _ hfar hnear hdiag t s
  have hown : MobaRefIdeal.Read.attends qr kr t t := by
    unfold MobaRefIdeal.Read.attends
    exact Or.inr ⟨rfl, le_refl _⟩
  rw [hrow]
  rw [att_softmax (MobaRefIdeal.Read.attends qr kr t) l (fun s => vE P b h (ix3 0 s e)) t hown
    (fun s => MobaRefIdeal.Read.val_main_v92 (F := Ideal) P rel (ix4 b h t s)) hL]
  refine Finset.sum_congr rfl fun s _ => ?_
  rw [MobaRefIdeal.Read.share_of, MobaRefIdeal.Read.weight_of, MobaRefIdeal.Read.top_of, hv']
  simp only [MobaRefIdeal.Read.weight_of, MobaRefIdeal.Read.top_of]

end Cert.MobaIdeal.Att
-- ==== Proof.MobaPre.lean ====
module
public import proofs.«01_k».proof.Pre_queries_keys_and_bias_finite
public import Idealize.ShloMosaic.Lib.Pointwise
public import Idealize.ShloMosaic.Lib.ReduceAll
public import Idealize.ShloMosaic.Lib.Affine

/-!
# The precondition, read

Where the precondition is one, the queries, the keys and the biases are real numbers.
-/

@[expose] public section
set_option maxRecDepth 16384
noncomputable section
namespace Cert.Pre_queries_keys_and_bias_finite
open Idealize.ShloMosaic

theorem pre_facts : Facts where
  slices_S4x2048x10240_S4x2048x4096_0_0_0 := by decide
  bitsLt_bf16_f32 := by decide
  bcast_S_S4x2048x4096 := by decide
  reducesTo_S4x2048x4096_S_d0_1_2 := by decide
  h_S_ := by decide
  bcast_S_S32x16 := by decide
  reducesTo_S32x16_S_d0_1 := by decide

instance : Subsingleton S_.Idx := ⟨fun a b => funext fun k => k.elim0⟩

theorem inf_val : Ideal.ofBits .f32 0x7F800000#32 = (⊤ : EReal) := by simp [Ideal.ofBits, Ideal.ieee]

theorem finite_of_lt (x : EReal) (h : Ideal.cmp .olt (max x (-x)) (⊤ : EReal) = 1#1) : x = ((x.toReal : ℝ) : EReal) := by
  have hlt : max x (-x) < ⊤ := by
    by_contra hc
    simp [Ideal.cmp, hc] at h
  refine (EReal.coe_toReal ?_ ?_).symm
  · rintro rfl; simp at hlt
  · rintro rfl; simp at hlt

theorem finite_of [Facts] (P : FVec Ideal S4x2048x10240 .bf16) (rel : FVec Ideal S32x16 .f32)
    (h : fn (F := Ideal) P rel = fun _ => 1#1) :
    (∀ (b : Fin 4) (t : Fin 2048) (c : Fin 10240), c.val < 4096 → P (ValueIdx.ix3 b t c) = (((P (ValueIdx.ix3 b t c) : EReal).toReal : ℝ) : EReal))
      ∧ ∀ i, rel i = (((rel i : EReal).toReal : ℝ) : EReal) := by
  have h0 := congrFun h (fun k => k.elim0)
  dsimp only [fn] at h0
  obtain ⟨ha, hb⟩ := IntOp.andi_eq_one.1 h0
  constructor
  · intro b t c hc
    have e := Host.reduce_andi_all _ _ _ _ _ ha (ValueIdx.ix3 b t (⟨c.val, hc⟩ : Fin 4096))
    refine finite_of_lt _ ?_
    have hs : (extractStridedSlice S4x2048x4096 ![0, 0, 0] P Facts.slices_S4x2048x10240_S4x2048x4096_0_0_0) (ValueIdx.ix3 b t (⟨c.val, hc⟩ : Fin 4096))
        = P (ValueIdx.ix3 b t c) := by
      unfold extractStridedSlice
      refine congrArg P (funext fun a => ?_)
      match a with
      | ⟨0, _⟩ => exact Fin.ext (Nat.zero_add b.val)
      | ⟨1, _⟩ => exact Fin.ext (Nat.zero_add t.val)
      | ⟨2, _⟩ => exact Fin.ext (Nat.zero_add c.val)
    rw [← hs, ← inf_val]
    exact e
  · intro i
    have e := Host.reduce_andi_all _ _ _ _ _ hb i
    exact finite_of_lt _ (by rw [← inf_val]; exact e)

end Cert.Pre_queries_keys_and_bias_finite
-- ==== Proof.MobaValue.lean ====
module
public import proofs.«01_k».proof.Proof.MobaWhole
public import proofs.«01_k».proof.Proof.MobaHead
public import proofs.«01_k».proof.Proof.MobaPre

/-!
# The attention's run

From any memory the kernel ends with the result array at `outG` of its arguments; for finite queries, keys and biases
that is the reference's result.
-/

@[expose] public section
set_option maxHeartbeats 4000000
set_option maxRecDepth 16384
noncomputable section
namespace Cert.MobaIdeal.Att
open Cert.MobaIdeal Cert.MobaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

attribute [local irreducible] headG

theorem outG_eq (P : S4x2048x10240.Idx → EReal) (rel : S32x16.Idx → EReal)
    (p : S4x2048x10240.Idx → ℝ) (hp : ∀ b t (c : Fin 10240), c.val < 4096 → P (ix3 b t c) = ((p (ix3 b t c) : ℝ) : EReal))
    (r : S32x16.Idx → ℝ) (hr : ∀ i, rel i = ((r i : ℝ) : EReal)) :
    outG P rel = MobaRefIdeal.Read.val_main_v107 (F := Ideal) P rel := by
  funext i
  have h2 : (i 2 : Fin 2048).val < 2048 := (i 2 : Fin 2048).isLt
  have hn : (i 2 : Fin 2048).val / 128 * 128 + (i 2 : Fin 2048).val % 128 < 2048 := by omega
  have he := head_eq P rel p hp r hr (i 0 : Fin 4) (⟨(i 2 : Fin 2048).val / 128, by omega⟩ : Fin 16) (i 1 : Fin 2048)
    (⟨(i 2 : Fin 2048).val % 128, Nat.mod_lt _ (by omega)⟩ : Fin 128) hn
  refine (outG_at P rel i _ _ _ _ rfl rfl ?_).trans (he.trans (congrArg _ ?_))
  · show (i 2 : Fin 2048).val = (i 2 : Fin 2048).val / 128 * 128 + (i 2 : Fin 2048).val % 128; omega
  · funext a
    match a with
    | ⟨0, _⟩ => rfl
    | ⟨1, _⟩ => rfl
    | ⟨2, _⟩ => exact Fin.ext (by show (i 2 : Fin 2048).val / 128 * 128 + (i 2 : Fin 2048).val % 128 = (i 2 : Fin 2048).val; omega)

variable (m : (ℓ : Loc nD τ sig) → Buf (Elt Ideal) ℓ) (ρ : Dev nD → PrngReg)

set_option backward.isDefEq.respectTransparency.types false in
/-- The launch, with the result array read as well as the arguments. -/
theorem run : θ_run defs (onTc (τ := τ) (main (F := Ideal))) ⟨m, fun _ => 0, ρ⟩ (fun r => ∀ c : Dev nD,
      r.2.mem ((c.tc : Thread nD τ).loc main_v1) = W2 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ c => ⟨h c _ (mem_uc main_v1 (by decide)),
      (h c _ (mem_uc main_arg0 (by decide))).trans (W2_main_arg0 m ρ c),
      (h c _ (mem_uc main_arg1 (by decide))).trans (W2_main_arg1 m ρ c)⟩)

end Cert.MobaIdeal.Att
-- ==== Proof.lean ====
/- The proof of the claims about two calls of the layer, the block-selecting attention (Moba) and the last product of
   the feed-forward part (Down): each runs and leaves its arguments as they were, each idealization keeps what the
   program does, and each kernel ends with its reference's array. -/
module

public import proofs.«01_k».proof.Defs
public import proofs.«01_k».proof.Proof.Gen.Moba
public import proofs.«01_k».proof.Proof.Gen.Moba.Skeleton
public import proofs.«01_k».proof.Proof.Gen.Moba.Launch
public import proofs.«01_k».proof.Proof.Gen.Moba.Points
public import proofs.«01_k».proof.Proof.Gen.Moba.Frame
public import proofs.«01_k».proof.Proof.Gen.MobaIdeal
public import proofs.«01_k».proof.Proof.Gen.MobaIdeal.Skeleton
public import proofs.«01_k».proof.Proof.Gen.MobaIdeal.Launch
public import proofs.«01_k».proof.Proof.Gen.MobaIdeal.Points
public import proofs.«01_k».proof.Proof.Gen.MobaIdeal.Frame
public import proofs.«01_k».proof.Proof.Gen.MobaRefIdeal
public import proofs.«01_k».proof.Proof.Gen.MobaRefIdeal.Run
public import proofs.«01_k».proof.Proof.Gen.MobaRefIdeal.Read
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.DownIdeal.Value
public import proofs.«01_k».proof.Proof.Gen.DownRefIdeal.Run
public import proofs.«01_k».proof.Proof.Gen.DownRefIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnRefIdeal.Run
public import proofs.«01_k».proof.Proof.Gen.FfnRefIdeal.Read
public import proofs.«01_k».proof.Proof.DownValue
public import proofs.«01_k».proof.Proof.FfnFrame
public import proofs.«01_k».proof.Proof.FfnIFrame
public import proofs.«01_k».proof.Proof.FfnValue
public import proofs.«01_k».proof.Proof.MobaValue
public import Idealize.ShloMosaic.Adequacy
public import Idealize.ShloMosaic.Init

@[expose] public section

noncomputable section

namespace Cert.Proof

open Idealize.ShloMosaic Idealize.SL.Sem Cert.Down

/-- The kernel and the reference of the feed-forward part's last product end with the same array. -/
theorem algebraic_down : Cert.algebraic_DownIdeal_DownRefIdeal := fun m ρ m' ρ' _ hag =>
  ⟨fun c => Cert.DownIdeal.Product.G (Cert.DownIdeal.Product.actOf m c) (Cert.DownIdeal.Product.wOf m c),
    (θ_run _ _ _).mono (fun _ h c => ⟨(h c).1.trans (Cert.DownIdeal.Product.final m c), (h c).2⟩) (Cert.DownIdeal.Value.run_blocks m ρ),
    (θ_run _ _ _).mono (fun _ h c => ⟨(h c).1.trans (by rw [(hag c).1, (hag c).2]; exact Cert.DownIdeal.Product.ref_apply _ _ _), (h c).2⟩)
      (Cert.DownRefIdeal.Value.run m' ρ')⟩

theorem algebraic_ffn : Cert.algebraic_FfnIdeal_FfnRefIdeal := fun m ρ m' ρ' _ hag =>
  ⟨fun c => Cert.FfnIdeal.Product.act (Cert.FfnIdeal.Product.xOf m c) (Cert.FfnIdeal.Product.gOf m c) (Cert.FfnIdeal.Product.uOf m c),
    fun c => Cert.FfnIdeal.Product.down (Cert.FfnIdeal.Product.dOf m c),
    Cert.FfnIdeal.Product.run m ρ,
    (θ_run _ _ _).mono (fun _ h c => ⟨(h c).1.trans (by
        rw [Cert.FfnRefIdeal.Read.val_main_v9_eq, (hag c).1, (hag c).2.1, (hag c).2.2.1]
        exact Cert.FfnIdeal.Product.ref_act _ _ _),
      (h c).2.1.trans (by
        rw [Cert.FfnRefIdeal.Read.val_main_v12_eq, (hag c).2.2.2]
        exact Cert.FfnIdeal.Product.ref_down _), (h c).2.2⟩)
      (Cert.FfnRefIdeal.Value.run m' ρ')⟩

theorem preserves_moba : Cert.preserves_Moba_MobaIdeal :=
  ⟨IdealRules.named_const.statement Cert.MobaIdeal.κ "log2e" .f32 0x3FB8AA3B#32 (((Real.log 2)⁻¹ : ℝ) : EReal) rfl,
   IdealRules.named_const.statement Cert.MobaIdeal.κ "masked" .f32 0xF149F2CA#32 ⊥ rfl,
   IdealRules.named_const.statement Cert.MobaIdeal.κ "scale" .f32 0x3E0293EE#32 (((11863283 / 134217728) * (Real.log 2)⁻¹ : ℝ) : EReal) rfl⟩

/-- The attention's kernel and its reference end with the same array, for finite queries, keys and biases. -/
theorem algebraic_moba : Cert.algebraic_MobaIdeal_MobaRefIdeal_pre_queries_keys_and_bias_finite
    (hPre_queries_keys_and_bias_finite := Cert.Pre_queries_keys_and_bias_finite.pre_facts) := fun m ρ m' ρ' hpre hag =>
  ⟨fun c => Cert.MobaIdeal.Gen.W2 m ρ c (Proc.devRef .tc Cert.MobaIdeal.main_v1),
    Cert.MobaIdeal.Att.run m ρ,
    (θ_run _ _ _).mono (fun _ h c => ⟨(h c).1.trans (by
        letI := Cert.Pre_queries_keys_and_bias_finite.pre_facts
        obtain ⟨h0, h1⟩ := Cert.Pre_queries_keys_and_bias_finite.finite_of _ _ (hpre c)
        rw [Cert.MobaRefIdeal.Read.val_main_v107_eq, (hag c).1, (hag c).2]
        exact (Cert.MobaIdeal.Att.outG_eq _ _ (fun i => EReal.toReal (m ((c.tc : Thread Cert.MobaIdeal.nD Cert.MobaIdeal.τ).loc Cert.MobaIdeal.main_arg0) i)) h0
          (fun i => EReal.toReal (m ((c.tc : Thread Cert.MobaIdeal.nD Cert.MobaIdeal.τ).loc Cert.MobaIdeal.main_arg1) i)) h1).symm.trans (Cert.MobaIdeal.Att.result_eq m ρ c).symm), (h c).2⟩)
      (Cert.MobaRefIdeal.Value.run m' ρ')⟩

theorem claim : Cert.Claim := ⟨Cert.Moba.Gen.facts, Cert.MobaIdeal.Gen.facts, Cert.MobaRefIdeal.Gen.facts,
  Cert.Down.Gen.facts, Cert.DownIdeal.Gen.facts, Cert.DownRefIdeal.Gen.facts,
  Cert.Ffn.Gen.facts, Cert.FfnIdeal.Gen.facts, Cert.FfnRefIdeal.Gen.facts, Cert.Pre_queries_keys_and_bias_finite.pre_facts,
  fun m ρ _ => Cert.Moba.Gen.frame m ρ, fun m ρ _ => Cert.MobaIdeal.Gen.frame m ρ, fun m ρ _ => Cert.MobaIdeal.Gen.frame m ρ,
  fun m ρ _ => (θ_run _ _ _).mono (fun r h => ⟨fun c => (h c).2, sem_eq_zero_of_no_sems (by decide) r.2⟩) (Cert.MobaRefIdeal.Value.run m ρ),
  fun m ρ _ => (θ_run _ _ _).mono (fun r h => ⟨fun c => (h c).2, sem_eq_zero_of_no_sems (by decide) r.2⟩) (Cert.MobaRefIdeal.Value.run m ρ),
  fun m ρ _ => Cert.Down.Gen.frame m ρ, fun m ρ _ => Cert.DownIdeal.Gen.frame m ρ,
  fun m ρ _ => (θ_run _ _ _).mono (fun r h => ⟨fun c => (h c).2, sem_eq_zero_of_no_sems (by decide) r.2⟩) (Cert.DownRefIdeal.Value.run m ρ),
  fun m ρ _ => Cert.Ffn.Hand.frame_at m ρ, fun m ρ _ => Cert.FfnIdeal.Hand.frame_at m ρ,
  fun m ρ _ => (θ_run _ _ _).mono (fun r h => ⟨fun c => (h c).2.2, sem_eq_zero_of_no_sems (by decide) r.2⟩) (Cert.FfnRefIdeal.Value.run m ρ),
  preserves_moba, algebraic_moba, trivial, algebraic_down, trivial, algebraic_ffn⟩

end Cert.Proof

end
